-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4Ideal_finite3 [hPre_finite3 : Cert.Pre_finite3.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite3 [hReference4Ideal : Cert.Reference4Ideal.Facts] [hPre_finite3 : Cert.Pre_finite3.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite3 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v15_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)) (v5 : (c : Dev Cert.Kernel3Ideal.nD) → Buf (Elt Ideal) ((c.tc : Thread Cert.Kernel3Ideal.nD Cert.Kernel3Ideal.τ).loc Cert.Kernel3Ideal.main_v30_5)) (v6 : (c : Dev Cert.Kernel3Ideal.nD) → Buf (Elt Ideal) ((c.tc : Thread Cert.Kernel3Ideal.nD Cert.Kernel3Ideal.τ).loc Cert.Kernel3Ideal.main_v31)) (v7 : (c : Dev Cert.Kernel3Ideal.nD) → Buf (Elt Ideal) ((c.tc : Thread Cert.Kernel3Ideal.nD Cert.Kernel3Ideal.τ).loc Cert.Kernel3Ideal.main_v32)) (v8 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_v30_5) = v5 c
          ∧ r.2.mem ((c.tc : Thread Cert.Kernel3Ideal.nD Cert.Kernel3Ideal.τ).loc Cert.Kernel3Ideal.main_v31) = v6 c
          ∧ r.2.mem ((c.tc : Thread Cert.Kernel3Ideal.nD Cert.Kernel3Ideal.τ).loc Cert.Kernel3Ideal.main_v32) = v7 c
          ∧ r.2.mem ((c.tc : Thread Cert.Kernel3Ideal.nD Cert.Kernel3Ideal.τ).loc Cert.Kernel3Ideal.main_v33) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v150) = v0 c
          ∧ r.2.mem ((c.tc : Thread Cert.Reference3Ideal.nD Cert.Reference3Ideal.τ).loc Cert.Reference3Ideal.main_v194) = v1 c
          ∧ r.2.mem ((c.tc : Thread Cert.Reference3Ideal.nD Cert.Reference3Ideal.τ).loc Cert.Reference3Ideal.main_v205) = v2 c
          ∧ r.2.mem ((c.tc : Thread Cert.Reference3Ideal.nD Cert.Reference3Ideal.τ).loc Cert.Reference3Ideal.main_v206) = v3 c
          ∧ r.2.mem ((c.tc : Thread Cert.Reference3Ideal.nD Cert.Reference3Ideal.τ).loc Cert.Reference3Ideal.main_v18) = v4 c
          ∧ r.2.mem ((c.tc : Thread Cert.Reference3Ideal.nD Cert.Reference3Ideal.τ).loc Cert.Reference3Ideal.main_v38) = v5 c
          ∧ r.2.mem ((c.tc : Thread Cert.Reference3Ideal.nD Cert.Reference3Ideal.τ).loc Cert.Reference3Ideal.main_v207) = v6 c
          ∧ r.2.mem ((c.tc : Thread Cert.Reference3Ideal.nD Cert.Reference3Ideal.τ).loc Cert.Reference3Ideal.main_v151) = v7 c
          ∧ r.2.mem ((c.tc : Thread Cert.Reference3Ideal.nD Cert.Reference3Ideal.τ).loc Cert.Reference3Ideal.main_v183) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def algebraic_Kernel3Ideal_Reference4Ideal_pre_finite3 [hKernel3Ideal : Cert.Kernel3Ideal.Facts] [hReference4Ideal : Cert.Reference4Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel3Ideal_finite3 m →
    (∀ c : Dev Cert.Kernel3Ideal.nD,
      m' ((c.tc : Thread Cert.Reference4Ideal.nD Cert.Reference4Ideal.τ).loc Cert.Reference4Ideal.main_arg0) = m ((c.tc : Thread Cert.Kernel3Ideal.nD Cert.Kernel3Ideal.τ).loc Cert.Kernel3Ideal.main_arg0)
      ∧ m' ((c.tc : Thread Cert.Reference4Ideal.nD Cert.Reference4Ideal.τ).loc Cert.Reference4Ideal.main_arg1) = m ((c.tc : Thread Cert.Kernel3Ideal.nD Cert.Kernel3Ideal.τ).loc Cert.Kernel3Ideal.main_arg1)
      ∧ m' ((c.tc : Thread Cert.Reference4Ideal.nD Cert.Reference4Ideal.τ).loc Cert.Reference4Ideal.main_arg2) = m ((c.tc : Thread Cert.Kernel3Ideal.nD Cert.Kernel3Ideal.τ).loc Cert.Kernel3Ideal.main_arg2)
      ∧ m' ((c.tc : Thread Cert.Reference4Ideal.nD Cert.Reference4Ideal.τ).loc Cert.Reference4Ideal.main_arg3) = m ((c.tc : Thread Cert.Kernel3Ideal.nD Cert.Kernel3Ideal.τ).loc Cert.Kernel3Ideal.main_arg3)
      ∧ m' ((c.tc : Thread Cert.Reference4Ideal.nD Cert.Reference4Ideal.τ).loc Cert.Reference4Ideal.main_arg4) = m ((c.tc : Thread Cert.Kernel3Ideal.nD Cert.Kernel3Ideal.τ).loc Cert.Kernel3Ideal.main_arg4)
      ∧ m' ((c.tc : Thread Cert.Reference4Ideal.nD Cert.Reference4Ideal.τ).loc Cert.Reference4Ideal.main_arg5) = m ((c.tc : Thread Cert.Kernel3Ideal.nD Cert.Kernel3Ideal.τ).loc Cert.Kernel3Ideal.main_arg5)
      ∧ m' ((c.tc : Thread Cert.Reference4Ideal.nD Cert.Reference4Ideal.τ).loc Cert.Reference4Ideal.main_arg6) = m ((c.tc : Thread Cert.Kernel3Ideal.nD Cert.Kernel3Ideal.τ).loc Cert.Kernel3Ideal.main_arg6)
      ∧ m' ((c.tc : Thread Cert.Reference4Ideal.nD Cert.Reference4Ideal.τ).loc Cert.Reference4Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)) (v5 : (c : Dev Cert.Kernel3Ideal.nD) → Buf (Elt Ideal) ((c.tc : Thread Cert.Kernel3Ideal.nD Cert.Kernel3Ideal.τ).loc Cert.Kernel3Ideal.main_v30_5)) (v6 : (c : Dev Cert.Kernel3Ideal.nD) → Buf (Elt Ideal) ((c.tc : Thread Cert.Kernel3Ideal.nD Cert.Kernel3Ideal.τ).loc Cert.Kernel3Ideal.main_v31)) (v7 : (c : Dev Cert.Kernel3Ideal.nD) → Buf (Elt Ideal) ((c.tc : Thread Cert.Kernel3Ideal.nD Cert.Kernel3Ideal.τ).loc Cert.Kernel3Ideal.main_v32)) (v8 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_v30_5) = v5 c
          ∧ r.2.mem ((c.tc : Thread Cert.Kernel3Ideal.nD Cert.Kernel3Ideal.τ).loc Cert.Kernel3Ideal.main_v31) = v6 c
          ∧ r.2.mem ((c.tc : Thread Cert.Kernel3Ideal.nD Cert.Kernel3Ideal.τ).loc Cert.Kernel3Ideal.main_v32) = v7 c
          ∧ r.2.mem ((c.tc : Thread Cert.Kernel3Ideal.nD Cert.Kernel3Ideal.τ).loc Cert.Kernel3Ideal.main_v33) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v108) = v0 c
          ∧ r.2.mem ((c.tc : Thread Cert.Reference4Ideal.nD Cert.Reference4Ideal.τ).loc Cert.Reference4Ideal.main_v152) = v1 c
          ∧ r.2.mem ((c.tc : Thread Cert.Reference4Ideal.nD Cert.Reference4Ideal.τ).loc Cert.Reference4Ideal.main_v163) = v2 c
          ∧ r.2.mem ((c.tc : Thread Cert.Reference4Ideal.nD Cert.Reference4Ideal.τ).loc Cert.Reference4Ideal.main_v164) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v38) = v5 c
          ∧ r.2.mem ((c.tc : Thread Cert.Reference4Ideal.nD Cert.Reference4Ideal.τ).loc Cert.Reference4Ideal.main_v165) = v6 c
          ∧ r.2.mem ((c.tc : Thread Cert.Reference4Ideal.nD Cert.Reference4Ideal.τ).loc Cert.Reference4Ideal.main_v109) = v7 c
          ∧ r.2.mem ((c.tc : Thread Cert.Reference4Ideal.nD Cert.Reference4Ideal.τ).loc Cert.Reference4Ideal.main_v141) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hReference4Ideal : Cert.Reference4Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference4Ideal (hReference4Ideal := hReference4Ideal)
    ∧ quiescent_Reference4Ideal_pre_finite3 (hReference4Ideal := hReference4Ideal) (hPre_finite3 := hPre_finite3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ algebraic_Kernel3Ideal_Reference4Ideal_pre_finite3 (hKernel3Ideal := hKernel3Ideal) (hReference4Ideal := hReference4Ideal) (hPre_finite3 := hPre_finite3)
-- ==== Pre_finite3.lean ====
abbrev S2x8192x1024 : Shape := ⟨3, ![2, 8192, 1024]⟩
abbrev S1x1024 : Shape := ⟨2, ![1, 1024]⟩
abbrev S1x1024x4616 : Shape := ⟨3, ![1, 1024, 4616]⟩
abbrev S1x4x128x128 : Shape := ⟨4, ![1, 4, 128, 128]⟩
abbrev S1x512 : Shape := ⟨2, ![1, 512]⟩
abbrev S1x4x1536 : Shape := ⟨3, ![1, 4, 1536]⟩
abbrev S1x4 : Shape := ⟨2, ![1, 4]⟩
abbrev S_ : Shape := ⟨0, ![]⟩
abbrev S1x1024x512 : Shape := ⟨3, ![1, 1024, 512]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x4616_S1x1024x512_0_0_0 : S1x1024x4616.Slices ![0, 0, 0] S1x1024x512
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn {F : FTy → Type} [FloatOps F] (main_arg0 : FVec F S2x8192x1024 .f32) (main_arg1 : FVec F S1x1024 .f32) (main_arg2 : FVec F S1x1024x4616 .f32) (main_arg3 : FVec F S1x4x128x128 .f32) (main_arg4 : FVec F S1x512 .f32) (main_arg5 : FVec F S1x4x1536 .f32) (main_arg6 : FVec F S1x4 .f32) (main_arg7 : FVec F S1x4 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x512 .f32 := (extractStridedSlice S1x1024x512 ![0, 0, 0] · slices_S1x1024x4616_S1x1024x512_0_0_0) main_arg2
  let main_v5 : FVec F S1x1024x512 .f32 := Host.absf main_v4
  let main_cst_0 : FVec F S_ .f32 := constant S_ .f32 0x7F800000#32
  let main_v6 : FVec F S1x1024x512 .f32 := broadcastInDim S1x1024x512 ![] bcast_S_S1x1024x512 main_cst_0
  let main_v7 : IVec S1x1024x512 1 := cmpf .olt main_v5 main_v6
  let main_c_1 : IVec S_ 1 := constantI S_ 1 1#1
  let main_v8 : IVec S_ 1 := (fun x v => Host.reduce IntOp.andi x v reducesTo_S1x1024x512_S_d0_1_2 h_S_) main_v7 main_c_1
  let main_v9 : IVec S_ 1 := andi main_v3 main_v8
  main_v9
-- ==== Kernel.lean ====
abbrev S2x8192x512 : Shape := ⟨3, ![2, 8192, 512]⟩
abbrev S2x8192x256 : Shape := ⟨3, ![2, 8192, 256]⟩
abbrev S2x1024x128 : Shape := ⟨3, ![2, 1024, 128]⟩
abbrev S2x4x128x128 : Shape := ⟨4, ![2, 4, 128, 128]⟩
abbrev S1x128 : Shape := ⟨2, ![1, 128]⟩
abbrev S128 : Shape := ⟨1, ![128]⟩
abbrev S2x64x512 : Shape := ⟨3, ![2, 64, 512]⟩
abbrev S2x64x256 : Shape := ⟨3, ![2, 64, 256]⟩
abbrev S2x8x128 : Shape := ⟨3, ![2, 8, 128]⟩
abbrev S1x1x128x128 : Shape := ⟨4, ![1, 1, 128, 128]⟩
abbrev S128x128 : Shape := ⟨2, ![128, 128]⟩
abbrev S1x64x128 : Shape := ⟨3, ![1, 64, 128]⟩
abbrev S64x128 : Shape := ⟨2, ![64, 128]⟩
abbrev S1x64x64 : Shape := ⟨3, ![1, 64, 64]⟩
abbrev S64x64 : Shape := ⟨2, ![64, 64]⟩
abbrev S1x1x1 : Shape := ⟨3, ![1, 1, 1]⟩
abbrev S1x1 : Shape := ⟨2, ![1, 1]⟩
abbrev S64 : Shape := ⟨1, ![64]⟩
abbrev S64x1 : Shape := ⟨2, ![64, 1]⟩

abbrev nBuf : Space → Nat
  | .hbm => 13
  | .vmem => 20
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x256, .f32⟩
  | .hbm, ⟨5, _⟩ => ⟨S2x1024x128, .f32⟩
  | .hbm, ⟨6, _⟩ => ⟨S2x8192x512, .f32⟩
  | .hbm, ⟨7, _⟩ => ⟨S2x4x128x128, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S2x8192x512, .f32⟩
  | .hbm, ⟨12, _⟩ => ⟨S2x4x128x128, .f32⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x512, .f32⟩
  | .local _ .vmem, ⟨5, _⟩ => ⟨S2x64x512, .f32⟩
  | .local _ .vmem, ⟨6, _⟩ => ⟨S2x64x512, .f32⟩
  | .local _ .vmem, ⟨7, _⟩ => ⟨S2x64x512, .f32⟩
  | .local _ .vmem, ⟨8, _⟩ => ⟨S2x64x256, .f32⟩
  | .local _ .vmem, ⟨9, _⟩ => ⟨S2x64x256, .f32⟩
  | .local _ .vmem, ⟨10, _⟩ => ⟨S2x8x128, .f32⟩
  | .local _ .vmem, ⟨11, _⟩ => ⟨S2x8x128, .f32⟩
  | .local _ .vmem, ⟨12, _⟩ => ⟨S2x64x512, .f32⟩
  | .local _ .vmem, ⟨13, _⟩ => ⟨S2x64x512, .f32⟩
  | .local _ .vmem, ⟨14, _⟩ => ⟨S2x4x128x128, .f32⟩
  | .local _ .vmem, ⟨15, _⟩ => ⟨S1x128, .f32⟩
  | .local _ .vmem, ⟨16, _⟩ => ⟨S2x64x512, .f32⟩
  | .local _ .vmem, ⟨17, _⟩ => ⟨S2x64x512, .f32⟩
  | .local _ .vmem, ⟨18, _⟩ => ⟨S2x4x128x128, .f32⟩
  | .local _ .vmem, ⟨19, _⟩ => ⟨S2x4x128x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![1, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ReferenceIdeal.lean ====
abbrev S2x8192x512 : Shape := ⟨3, ![2, 8192, 512]⟩
abbrev S2x8192x256 : Shape := ⟨3, ![2, 8192, 256]⟩
abbrev S2x1024x128 : Shape := ⟨3, ![2, 1024, 128]⟩
abbrev S2x4x128x128 : Shape := ⟨4, ![2, 4, 128, 128]⟩
abbrev S1x128 : Shape := ⟨2, ![1, 128]⟩
abbrev S2x128x8x128 : Shape := ⟨4, ![2, 128, 8, 128]⟩
abbrev S2x128x1x4 : Shape := ⟨4, ![2, 128, 1, 4]⟩
abbrev S2x128x4 : Shape := ⟨3, ![2, 128, 4]⟩
abbrev S128x2x4 : Shape := ⟨3, ![128, 2, 4]⟩
abbrev S2x128x64x4x128 : Shape := ⟨5, ![2, 128, 64, 4, 128]⟩
abbrev S128x2x4x64x128 : Shape := ⟨5, ![128, 2, 4, 64, 128]⟩
abbrev S2x128x64x4x64 : Shape := ⟨5, ![2, 128, 64, 4, 64]⟩
abbrev S128x2x4x64x64 : Shape := ⟨5, ![128, 2, 4, 64, 64]⟩
abbrev S_ : Shape := ⟨0, ![]⟩
abbrev S1x2x4x64x128 : Shape := ⟨5, ![1, 2, 4, 64, 128]⟩
abbrev S2x4x64x128 : Shape := ⟨4, ![2, 4, 64, 128]⟩
abbrev S1x2x4x64x64 : Shape := ⟨5, ![1, 2, 4, 64, 64]⟩
abbrev S2x4x64x64 : Shape := ⟨4, ![2, 4, 64, 64]⟩
abbrev S1x2x4 : Shape := ⟨3, ![1, 2, 4]⟩
abbrev S2x4 : Shape := ⟨2, ![2, 4]⟩
abbrev S2x4x1x1 : Shape := ⟨4, ![2, 4, 1, 1]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩

abbrev nBuf : Space → Nat
  | .hbm => 121
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x256, .f32⟩
  | .hbm, ⟨5, _⟩ => ⟨S2x1024x128, .f32⟩
  | .hbm, ⟨6, _⟩ => ⟨S2x8192x512, .f32⟩
  | .hbm, ⟨7, _⟩ => ⟨S2x4x128x128, .f32⟩
  | .hbm, ⟨8, _⟩ => ⟨S1x128, .f32⟩
  | .hbm, ⟨9, _⟩ => ⟨S2x128x8x128, .f32⟩
  | .hbm, ⟨10, _⟩ => ⟨S2x128x1x4, .f32⟩
  | .hbm, ⟨11, _⟩ => ⟨S2x128x4, .f32⟩
  | .hbm, ⟨12, _⟩ => ⟨S128x2x4, .f32⟩
  | .hbm, ⟨13, _⟩ => ⟨S2x128x64x4x128, .f32⟩
  | .hbm, ⟨14, _⟩ => ⟨S128x2x4x64x128, .f32⟩
  | .hbm, ⟨15, _⟩ => ⟨S2x128x64x4x128, .f32⟩
  | .hbm, ⟨16, _⟩ => ⟨S128x2x4x64x128, .f32⟩
  | .hbm, ⟨17, _⟩ => ⟨S2x128x64x4x128, .f32⟩
  | .hbm, ⟨18, _⟩ => ⟨S128x2x4x64x128, .f32⟩
  | .hbm, ⟨19, _⟩ => ⟨S2x128x64x4x64, .f32⟩
  | .hbm, ⟨20, _⟩ => ⟨S128x2x4x64x64, .f32⟩
  | .hbm, ⟨21, _⟩ => ⟨S2x128x64x4x128, .f32⟩
  | .hbm, ⟨22, _⟩ => ⟨S128x2x4x64x128, .f32⟩
  | .hbm, ⟨23, _⟩ => ⟨S_, .f32⟩
  | .hbm, ⟨24, _⟩ => ⟨S128x2x4x64x128, .f32⟩
  | .hbm, ⟨25, _⟩ => ⟨S_, .i32⟩
  | .hbm, ⟨26, _⟩ => ⟨S128x2x4x64x128, .f32⟩
  | .hbm, ⟨27, _⟩ => ⟨S128x2x4x64x128, .f32⟩
  | .hbm, ⟨28, _⟩ => ⟨S128x2x4x64x128, .f32⟩
  | .hbm, ⟨29, _⟩ => ⟨S128x2x4x64x64, .f32⟩
  | .hbm, ⟨30, _⟩ => ⟨S128x2x4x64x128, .f32⟩
  | .hbm, ⟨31, _⟩ => ⟨S128x2x4, .f32⟩
  | .hbm, ⟨32, _⟩ => ⟨S_, .i32⟩
  | .hbm, ⟨33, _⟩ => ⟨S2x4x128x128, .f32⟩
  | .hbm, ⟨34, _⟩ => ⟨S128x2x4x64x128, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x2x4x64x128, .f32⟩
  | .hbm, ⟨42, _⟩ => ⟨S2x4x64x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x2x4x64x128, .f32⟩
  | .hbm, ⟨48, _⟩ => ⟨S2x4x64x128, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x4x64x128, .f32⟩
  | .hbm, ⟨54, _⟩ => ⟨S2x4x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x2x4x64x64, .f32⟩
  | .hbm, ⟨60, _⟩ => ⟨S2x4x64x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x2x4x64x128, .f32⟩
  | .hbm, ⟨66, _⟩ => ⟨S2x4x64x128, .f32⟩
  | .hbm, ⟨67, _⟩ => ⟨S_, .i32⟩
  | .hbm, ⟨68, _⟩ => ⟨S_, .i32⟩
  | .hbm, ⟨69, _⟩ => ⟨S1x2x4, .f32⟩
  | .hbm, ⟨70, _⟩ => ⟨S2x4, .f32⟩
  | .hbm, ⟨71, _⟩ => ⟨S2x4x64x128, .f32⟩
  | .hbm, ⟨72, _⟩ => ⟨S2x4x64x128, .f32⟩
  | .hbm, ⟨73, _⟩ => ⟨S2x4x64x128, .f32⟩
  | .hbm, ⟨74, _⟩ => ⟨S2x4x64x128, .f32⟩
  | .hbm, ⟨75, _⟩ => ⟨S2x4x64x128, .f32⟩
  | .hbm, ⟨76, _⟩ => ⟨S2x4, .f32⟩
  | .hbm, ⟨77, _⟩ => ⟨S2x4x1x1, .f32⟩
  | .hbm, ⟨78, _⟩ => ⟨S2x4x128x128, .f32⟩
  | .hbm, ⟨79, _⟩ => ⟨S2x4x128x128, .f32⟩
  | .hbm, ⟨80, _⟩ => ⟨S2x4x128x128, .f32⟩
  | .hbm, ⟨81, _⟩ => ⟨S2x4x128x128, .f32⟩
  | .hbm, ⟨82, _⟩ => ⟨S1x2x4x64x128, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S128x2x4x64x128, .f32⟩
  | .hbm, ⟨88, _⟩ => ⟨S_, .i32⟩
  | .hbm, ⟨89, _⟩ => ⟨S_, .i32⟩
  | .hbm, ⟨90, _⟩ => ⟨S2x128x64x4x128, .f32⟩
  | .hbm, ⟨91, _⟩ => ⟨S2x8192x4x128, .f32⟩
  | .hbm, ⟨92, _⟩ => ⟨S2x8192x4x128, .f32⟩
  | .hbm, ⟨93, _⟩ => ⟨S2x8192x4x128, .f32⟩
  | .hbm, ⟨94, _⟩ => ⟨S_, .f32⟩
  | .hbm, ⟨95, _⟩ => ⟨S2x8192x4, .f32⟩
  | .hbm, ⟨96, _⟩ => ⟨S2x8192x4x1, .f32⟩
  | .hbm, ⟨97, _⟩ => ⟨S_, .f32⟩
  | .hbm, ⟨98, _⟩ => ⟨S2x8192x4x1, .f32⟩
  | .hbm, ⟨99, _⟩ => ⟨S2x8192x4x1, .f32⟩
  | .hbm, ⟨100, _⟩ => ⟨S_, .f32⟩
  | .hbm, ⟨101, _⟩ => ⟨S2x8192x4x1, .f32⟩
  | .hbm, ⟨102, _⟩ => ⟨S2x8192x4x1, .f32⟩
  | .hbm, ⟨103, _⟩ => ⟨S2x8192x4x1, .f32⟩
  | .hbm, ⟨104, _⟩ => ⟨S2x8192x4x128, .f32⟩
  | .hbm, ⟨105, _⟩ => ⟨S2x8192x4x128, .f32⟩
  | .hbm, ⟨106, _⟩ => ⟨S128, .f32⟩
  | .hbm, ⟨107, _⟩ => ⟨S1x1x1x128, .f32⟩
  | .hbm, ⟨108, _⟩ => ⟨S2x8192x4x128, .f32⟩
  | .hbm, ⟨109, _⟩ => ⟨S2x8192x4x128, .f32⟩
  | .hbm, ⟨110, _⟩ => ⟨S2x8192x4x128, .f32⟩
  | .hbm, ⟨111, _⟩ => ⟨S2x8192x4x128, .f32⟩
  | .hbm, ⟨112, _⟩ => ⟨S_, .f32⟩
  | .hbm, ⟨113, _⟩ => ⟨S2x8192x4x128, .f32⟩
  | .hbm, ⟨114, _⟩ => ⟨S2x8192x4x128, .f32⟩
  | .hbm, ⟨115, _⟩ => ⟨S_, .f32⟩
  | .hbm, ⟨116, _⟩ => ⟨S2x8192x4x128, .f32⟩
  | .hbm, ⟨117, _⟩ => ⟨S2x8192x4x128, .f32⟩
  | .hbm, ⟨118, _⟩ => ⟨S2x8192x4x128, .f32⟩
  | .hbm, ⟨119, _⟩ => ⟨S2x8192x4x128, .f32⟩
  | .hbm, ⟨120, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_c : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev main_v15_8 : Ref sig .tc := ⟨.hbm, 34, rfl⟩
abbrev main_while0c_c_11 : Ref sig .tc := ⟨.hbm, 35, rfl⟩
abbrev main_while0c_v36 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_c_2 : Ref sig .tc := ⟨.hbm, 40, rfl⟩
abbrev main_while0b_call0_v0 : Ref sig .tc := ⟨.hbm, 41, rfl⟩
abbrev main_while0b_v36 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v0 : Ref sig .tc := ⟨.hbm, 47, rfl⟩
abbrev main_while0b_v37 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_v0 : Ref sig .tc := ⟨.hbm, 53, rfl⟩
abbrev main_while0b_v38 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_c_2 : Ref sig .tc := ⟨.hbm, 58, rfl⟩
abbrev main_while0b_call3_v0 : Ref sig .tc := ⟨.hbm, 59, rfl⟩
abbrev main_while0b_v39 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_c_1 : Ref sig .tc := ⟨.hbm, 63, rfl⟩
abbrev main_while0b_call4_c_2 : Ref sig .tc := ⟨.hbm, 64, rfl⟩
abbrev main_while0b_call4_v0 : Ref sig .tc := ⟨.hbm, 65, rfl⟩
abbrev main_while0b_v40 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_v0 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_c_2 : Ref sig .tc := ⟨.hbm, 86, rfl⟩
abbrev main_while0b_v53 : Ref sig .tc := ⟨.hbm, 87, rfl⟩
abbrev main_while0b_c_11 : Ref sig .tc := ⟨.hbm, 88, rfl⟩
abbrev main_while0b_v54 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_cst_0 : Ref sig .tc := ⟨.hbm, 94, rfl⟩
abbrev main_v20 : Ref sig .tc := ⟨.hbm, 95, rfl⟩
abbrev main_v21 : Ref sig .tc := ⟨.hbm, 96, rfl⟩
abbrev main_cst_1 : Ref sig .tc := ⟨.hbm, 97, rfl⟩
abbrev main_v22 : Ref sig .tc := ⟨.hbm, 98, rfl⟩
abbrev main_v23 : Ref sig .tc := ⟨.hbm, 99, rfl⟩
abbrev main_cst_2 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_call7_v0 : Ref sig .tc := ⟨.hbm, 110, rfl⟩
abbrev main_call7_v1 : Ref sig .tc := ⟨.hbm, 111, rfl⟩
abbrev main_call7_cst : Ref sig .tc := ⟨.hbm, 112, rfl⟩
abbrev main_call7_v2 : Ref sig .tc := ⟨.hbm, 113, rfl⟩
abbrev main_call7_v3 : Ref sig .tc := ⟨.hbm, 114, rfl⟩
abbrev main_call7_cst_0 : Ref sig .tc := ⟨.hbm, 115, rfl⟩
abbrev main_call7_v4 : Ref sig .tc := ⟨.hbm, 116, rfl⟩
abbrev main_call7_v5 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x2048, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192x1024, .f32⟩
  | .hbm, ⟨25, _⟩ => ⟨S2x8192x1024, .f32⟩
  | .hbm, ⟨26, _⟩ => ⟨S512x1024, .f32⟩
  | .hbm, ⟨27, _⟩ => ⟨S2x8192x1024, .f32⟩
  | .hbm, ⟨28, _⟩ => ⟨S2x8192x1024, .f32⟩
  | .hbm, ⟨29, _⟩ => ⟨S512x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S1024x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1024, .f32⟩
  | .hbm, ⟨50, _⟩ => ⟨S1x1x1024, .f32⟩
  | .hbm, ⟨51, _⟩ => ⟨S2x8192x1024, .f32⟩
  | .hbm, ⟨52, _⟩ => ⟨S2x8192x1024, .f32⟩
  | .hbm, ⟨53, _⟩ => ⟨S16384x1024, .f32⟩
  | .hbm, ⟨54, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x4616 : Shape := ⟨3, ![1, 1024, 4616]⟩
abbrev S1x4x128x128 : Shape := ⟨4, ![1, 4, 128, 128]⟩
abbrev S1x512 : Shape := ⟨2, ![1, 512]⟩
abbrev S1x4x1536 : Shape := ⟨3, ![1, 4, 1536]⟩
abbrev S1x4 : Shape := ⟨2, ![1, 4]⟩
abbrev S1024x4616 : Shape := ⟨2, ![1024, 4616]⟩
abbrev S_ : Shape := ⟨0, ![]⟩
abbrev S2x15x512 : Shape := ⟨3, ![2, 15, 512]⟩
abbrev S2x3x1536 : Shape := ⟨3, ![2, 3, 1536]⟩
abbrev S2x16x512 : Shape := ⟨3, ![2, 16, 512]⟩
abbrev S2x8x1536 : Shape := ⟨3, ![2, 8, 1536]⟩
abbrev S1024 : Shape := ⟨1, ![1024]⟩
abbrev S1024x512 : Shape := ⟨2, ![1024, 512]⟩
abbrev S1024x1536 : Shape := ⟨2, ![1024, 1536]⟩
abbrev S1024x8 : Shape := ⟨2, ![1024, 8]⟩
abbrev S1024x128 : Shape := ⟨2, ![1024, 128]⟩
abbrev S1024x2048 : Shape := ⟨2, ![1024, 2048]⟩
abbrev S4x128x128 : Shape := ⟨3, ![4, 128, 128]⟩
abbrev S512 : Shape := ⟨1, ![512]⟩
abbrev S4x1536 : Shape := ⟨2, ![4, 1536]⟩
abbrev S8x1536 : Shape := ⟨2, ![8, 1536]⟩
abbrev S4 : Shape := ⟨1, ![4]⟩
abbrev S1x128 : Shape := ⟨2, ![1, 128]⟩
abbrev S2x8192x512 : Shape := ⟨3, ![2, 8192, 512]⟩
abbrev S2x8192x2048 : Shape := ⟨3, ![2, 8192, 2048]⟩
abbrev S2x8192x128 : Shape := ⟨3, ![2, 8192, 128]⟩
abbrev S1x512x1024 : Shape := ⟨3, ![1, 512, 1024]⟩
abbrev S1x16x512 : Shape := ⟨3, ![1, 16, 512]⟩
abbrev S1x8x1536 : Shape := ⟨3, ![1, 8, 1536]⟩
abbrev S1x512x512 : Shape := ⟨3, ![1, 512, 512]⟩
abbrev S1x512x2048 : Shape := ⟨3, ![1, 512, 2048]⟩
abbrev S1x512x128 : Shape := ⟨3, ![1, 512, 128]⟩
abbrev S512x1024 : Shape := ⟨2, ![512, 1024]⟩
abbrev S512x1 : Shape := ⟨2, ![512, 1]⟩
abbrev S512x512 : Shape := ⟨2, ![512, 512]⟩
abbrev S512x1536 : Shape := ⟨2, ![512, 1536]⟩
abbrev S512x2048 : Shape := ⟨2, ![512, 2048]⟩
abbrev S512x128 : Shape := ⟨2, ![512, 128]⟩
abbrev S16x512 : Shape := ⟨2, ![16, 512]⟩
abbrev S528x512 : Shape := ⟨2, ![528, 512]⟩
abbrev S528x128 : Shape := ⟨2, ![528, 128]⟩
abbrev S1x128x128 : Shape := ⟨3, ![1, 128, 128]⟩
abbrev S128x128 : Shape := ⟨2, ![128, 128]⟩
abbrev S520x1536 : Shape := ⟨2, ![520, 1536]⟩
abbrev S1x1536 : Shape := ⟨2, ![1, 1536]⟩
abbrev S2x8192x8 : Shape := ⟨3, ![2, 8192, 8]⟩

abbrev nBuf : Space → Nat
  | .hbm => 64
  | .vmem => 37
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4616, .f32⟩
  | .hbm, ⟨3, _⟩ => ⟨S1x4x128x128, .f32⟩
  | .hbm, ⟨4, _⟩ => ⟨S1x512, .f32⟩
  | .hbm, ⟨5, _⟩ => ⟨S1x4x1536, .f32⟩
  | .hbm, ⟨6, _⟩ => ⟨S1x4, .f32⟩
  | .hbm, ⟨7, _⟩ => ⟨S1x4, .f32⟩
  | .hbm, ⟨8, _⟩ => ⟨S1024x4616, .f32⟩
  | .hbm, ⟨9, _⟩ => ⟨S_, .f32⟩
  | .hbm, ⟨10, _⟩ => ⟨S2x15x512, .f32⟩
  | .hbm, ⟨11, _⟩ => ⟨S_, .f32⟩
  | .hbm, ⟨12, _⟩ => ⟨S2x3x1536, .f32⟩
  | .hbm, ⟨13, _⟩ => ⟨S_, .i32⟩
  | .hbm, ⟨14, _⟩ => ⟨S_, .f32⟩
  | .hbm, ⟨15, _⟩ => ⟨S2x16x512, .f32⟩
  | .hbm, ⟨16, _⟩ => ⟨S_, .i32⟩
  | .hbm, ⟨17, _⟩ => ⟨S_, .f32⟩
  | .hbm, ⟨18, _⟩ => ⟨S2x8x1536, .f32⟩
  | .hbm, ⟨19, _⟩ => ⟨S1024, .f32⟩
  | .hbm, ⟨20, _⟩ => ⟨S1x1024, .f32⟩
  | .hbm, ⟨21, _⟩ => ⟨S1024x512, .f32⟩
  | .hbm, ⟨22, _⟩ => ⟨S1024x512, .bf16⟩
  | .hbm, ⟨23, _⟩ => ⟨S1024x1536, .f32⟩
  | .hbm, ⟨24, _⟩ => ⟨S1024x1536, .bf16⟩
  | .hbm, ⟨25, _⟩ => ⟨S1024x512, .f32⟩
  | .hbm, ⟨26, _⟩ => ⟨S1024x512, .bf16⟩
  | .hbm, ⟨27, _⟩ => ⟨S1024x8, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x128, .bf16⟩
  | .hbm, ⟨32, _⟩ => ⟨S1024x2048, .f32⟩
  | .hbm, ⟨33, _⟩ => ⟨S1024x2048, .bf16⟩
  | .hbm, ⟨34, _⟩ => ⟨S4x128x128, .f32⟩
  | .hbm, ⟨35, _⟩ => ⟨S4x128x128, .bf16⟩
  | .hbm, ⟨36, _⟩ => ⟨S512, .f32⟩
  | .hbm, ⟨37, _⟩ => ⟨S1x512, .f32⟩
  | .hbm, ⟨38, _⟩ => ⟨S4x1536, .f32⟩
  | .hbm, ⟨39, _⟩ => ⟨S_, .i32⟩
  | .hbm, ⟨40, _⟩ => ⟨S_, .f32⟩
  | .hbm, ⟨41, _⟩ => ⟨S8x1536, .f32⟩
  | .hbm, ⟨42, _⟩ => ⟨S4, .f32⟩
  | .hbm, ⟨43, _⟩ => ⟨S1x4, .f32⟩
  | .hbm, ⟨44, _⟩ => ⟨S_, .i32⟩
  | .hbm, ⟨45, _⟩ => ⟨S_, .f32⟩
  | .hbm, ⟨46, _⟩ => ⟨S1x128, .f32⟩
  | .hbm, ⟨47, _⟩ => ⟨S4, .f32⟩
  | .hbm, ⟨48, _⟩ => ⟨S1x4, .f32⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S2x8192x512, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S2x8192x2048, .f32⟩
  | .hbm, ⟨58, _⟩ => ⟨S2x8192x128, .f32⟩
  | .hbm, ⟨59, _⟩ => ⟨S2x16x512, .f32⟩
  | .hbm, ⟨60, _⟩ => ⟨S2x8x1536, .f32⟩
  | .hbm, ⟨61, _⟩ => ⟨S2x8192x8, .f32⟩
  | .hbm, ⟨62, _⟩ => ⟨S2x15x512, .f32⟩
  | .hbm, ⟨63, _⟩ => ⟨S2x3x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x16x512, .f32⟩
  | .local _ .vmem, ⟨3, _⟩ => ⟨S1x16x512, .f32⟩
  | .local _ .vmem, ⟨4, _⟩ => ⟨S1x8x1536, .f32⟩
  | .local _ .vmem, ⟨5, _⟩ => ⟨S1x8x1536, .f32⟩
  | .local _ .vmem, ⟨6, _⟩ => ⟨S1x1024, .f32⟩
  | .local _ .vmem, ⟨7, _⟩ => ⟨S1024x512, .bf16⟩
  | .local _ .vmem, ⟨8, _⟩ => ⟨S1024x1536, .bf16⟩
  | .local _ .vmem, ⟨9, _⟩ => ⟨S1024x512, .bf16⟩
  | .local _ .vmem, ⟨10, _⟩ => ⟨S1024x128, .bf16⟩
  | .local _ .vmem, ⟨11, _⟩ => ⟨S1024x2048, .bf16⟩
  | .local _ .vmem, ⟨12, _⟩ => ⟨S4x128x128, .bf16⟩
  | .local _ .vmem, ⟨13, _⟩ => ⟨S1x512, .f32⟩
  | .local _ .vmem, ⟨14, _⟩ => ⟨S8x1536, .f32⟩
  | .local _ .vmem, ⟨15, _⟩ => ⟨S1x128, .f32⟩
  | .local _ .vmem, ⟨16, _⟩ => ⟨S1x128, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x2048, .f32⟩
  | .local _ .vmem, ⟨28, _⟩ => ⟨S1x512x2048, .f32⟩
  | .local _ .vmem, ⟨29, _⟩ => ⟨S1x512x128, .f32⟩
  | .local _ .vmem, ⟨30, _⟩ => ⟨S1x512x128, .f32⟩
  | .local _ .vmem, ⟨31, _⟩ => ⟨S1x16x512, .f32⟩
  | .local _ .vmem, ⟨32, _⟩ => ⟨S1x16x512, .f32⟩
  | .local _ .vmem, ⟨33, _⟩ => ⟨S1x8x1536, .f32⟩
  | .local _ .vmem, ⟨34, _⟩ => ⟨S1x8x1536, .f32⟩
  | .local _ .vmem, ⟨35, _⟩ => ⟨S1x16x512, .f32⟩
  | .local _ .vmem, ⟨36, _⟩ => ⟨S1x8x1536, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_c_1 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_call3_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_call4_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_call5_v0 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v30_3 : Ref sig .tc := ⟨.hbm, 55, rfl⟩
abbrev main_v30_4 : Ref sig .tc := ⟨.hbm, 56, rfl⟩
abbrev main_v30_5 : Ref sig .tc := ⟨.hbm, 57, rfl⟩
abbrev main_v30_6 : Ref sig .tc := ⟨.hbm, 58, rfl⟩
abbrev main_v30_7 : Ref sig .tc := ⟨.hbm, 59, rfl⟩
abbrev main_v30_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x8x1536 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== Reference3Ideal.lean ====
abbrev S2x8192x1024 : Shape := ⟨3, ![2, 8192, 1024]⟩
abbrev S1x1024 : Shape := ⟨2, ![1, 1024]⟩
abbrev S1x1024x4616 : Shape := ⟨3, ![1, 1024, 4616]⟩
abbrev S1x4x128x128 : Shape := ⟨4, ![1, 4, 128, 128]⟩
abbrev S1x512 : Shape := ⟨2, ![1, 512]⟩
abbrev S1x4x1536 : Shape := ⟨3, ![1, 4, 1536]⟩
abbrev S1x4 : Shape := ⟨2, ![1, 4]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x4616 : Shape := ⟨2, ![1024, 4616]⟩
abbrev S2x8192x4616 : Shape := ⟨3, ![2, 8192, 4616]⟩
abbrev S2x8192x512 : Shape := ⟨3, ![2, 8192, 512]⟩
abbrev S2x8192x1536 : Shape := ⟨3, ![2, 8192, 1536]⟩
abbrev S2x8192x4 : Shape := ⟨3, ![2, 8192, 4]⟩
abbrev S4 : Shape := ⟨1, ![4]⟩
abbrev S1x1x4 : Shape := ⟨3, ![1, 1, 4]⟩
abbrev S2x8192x2048 : Shape := ⟨3, ![2, 8192, 2048]⟩
abbrev S2x15x512 : Shape := ⟨3, ![2, 15, 512]⟩
abbrev S2x8207x512 : Shape := ⟨3, ![2, 8207, 512]⟩
abbrev S8192 : Shape := ⟨1, ![8192]⟩
abbrev S2x8192x128 : Shape := ⟨3, ![2, 8192, 128]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S4x128x128 : Shape := ⟨3, ![4, 128, 128]⟩
abbrev S4x128x2x8192 : Shape := ⟨4, ![4, 128, 2, 8192]⟩
abbrev S512 : Shape := ⟨1, ![512]⟩
abbrev S1x1x512 : Shape := ⟨3, ![1, 1, 512]⟩
abbrev S4x1536 : Shape := ⟨2, ![4, 1536]⟩
abbrev S2x3x1536 : Shape := ⟨3, ![2, 3, 1536]⟩
abbrev S2x8195x1536 : Shape := ⟨3, ![2, 8195, 1536]⟩
abbrev S1x1536 : Shape := ⟨2, ![1, 1536]⟩
abbrev S1536 : Shape := ⟨1, ![1536]⟩
abbrev S1x1x1536 : Shape := ⟨3, ![1, 1, 1536]⟩
abbrev S2x8192x4x1 : Shape := ⟨4, ![2, 8192, 4, 1]⟩
abbrev S2x8192x8 : Shape := ⟨3, ![2, 8192, 8]⟩

abbrev nBuf : Space → Nat
  | .hbm => 256
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x4616, .f32⟩
  | 3 => ⟨S1x4x128x128, .f32⟩
  | 4 => ⟨S1x512, .f32⟩
  | 5 => ⟨S1x4x1536, .f32⟩
  | 6 => ⟨S1x4, .f32⟩
  | 7 => ⟨S1x4, .f32⟩
  | 8 => ⟨S2x8192x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x1024, .f32⟩
  | 20 => ⟨S2x8192x1024, .f32⟩
  | 21 => ⟨S1024, .f32⟩
  | 22 => ⟨S1x1x1024, .f32⟩
  | 23 => ⟨S2x8192x1024, .f32⟩
  | 24 => ⟨S2x8192x1024, .f32⟩
  | 25 => ⟨S1024x4616, .f32⟩
  | 26 => ⟨S2x8192x4616, .f32⟩
  | 27 => ⟨S2x8192x512, .f32⟩
  | 28 => ⟨S2x8192x1536, .f32⟩
  | 29 => ⟨S2x8192x512, .f32⟩
  | 30 => ⟨S2x8192x4, .f32⟩
  | 31 => ⟨S2x8192x4, .f32⟩
  | 32 => ⟨S2x8192x4, .f32⟩
  | 33 => ⟨S_, .f32⟩
  | 34 => ⟨S2x8192x4, .f32⟩
  | 35 => ⟨S2x8192x4, .f32⟩
  | 36 => ⟨S_, .f32⟩
  | 37 => ⟨S2x8192x4, .f32⟩
  | 38 => ⟨S2x8192x4, .f32⟩
  | 39 => ⟨S4, .f32⟩
  | 40 => ⟨S4, .f32⟩
  | 41 => ⟨S4, .f32⟩
  | 42 => ⟨S2x8192x4, .f32⟩
  | 43 => ⟨S4, .f32⟩
  | 44 => ⟨S1x1x4, .f32⟩
  | 45 => ⟨S2x8192x4, .f32⟩
  | 46 => ⟨S2x8192x4, .f32⟩
  | 47 => ⟨S_, .f32⟩
  | 48 => ⟨S2x8192x4, .f32⟩
  | 49 => ⟨S2x8192x4, .f32⟩
  | 50 => ⟨S2x8192x4, .f32⟩
  | 51 => ⟨S2x8192x4, .f32⟩
  | 52 => ⟨S2x8192x4, .i1⟩
  | 53 => ⟨S2x8192x4, .f32⟩
  | 54 => ⟨S2x8192x4, .f32⟩
  | 55 => ⟨S2x8192x4, .f32⟩
  | 56 => ⟨S2x8192x4, .f32⟩
  | 57 => ⟨S2x8192x4, .f32⟩
  | 58 => ⟨S2x8192x4, .f32⟩
  | 59 => ⟨S2x8192x4, .f32⟩
  | 60 => ⟨S2x8192x4, .f32⟩
  | 61 => ⟨S1x1x4, .f32⟩
  | 62 => ⟨S2x8192x4, .f32⟩
  | 63 => ⟨S2x8192x4, .f32⟩
  | 64 => ⟨S2x8192x2048, .f32⟩
  | 65 => ⟨S_, .f32⟩
  | 66 => ⟨S2x15x512, .f32⟩
  | 67 => ⟨S2x8207x512, .f32⟩
  | 68 => ⟨S8192, .i32⟩
  | 69 => ⟨S2x8192x128, .f32⟩
  | 70 => ⟨S2x8192x128, .f32⟩
  | 71 => ⟨S2x8192x128, .f32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .f32⟩
  | 79 => ⟨S1x8192x1, .f32⟩
  | 80 => ⟨S2x8192x128, .f32⟩
  | 81 => ⟨S2x8192x128, .f32⟩
  | 82 => ⟨S2x8192x128, .f32⟩
  | 83 => ⟨S2x8192x128, .f32⟩
  | 84 => ⟨S2x8192x128, .f32⟩
  | 85 => ⟨S2x8192x128, .f32⟩
  | 86 => ⟨S2x8192x128, .f32⟩
  | 87 => ⟨S2x8192x128, .f32⟩
  | 88 => ⟨S2x8192x128, .f32⟩
  | 89 => ⟨S2x8192x128, .f32⟩
  | 90 => ⟨S2x8192x128, .f32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .f32⟩
  | 98 => ⟨S1x8192x1, .f32⟩
  | 99 => ⟨S2x8192x128, .f32⟩
  | 100 => ⟨S2x8192x128, .f32⟩
  | 101 => ⟨S2x8192x128, .f32⟩
  | 102 => ⟨S2x8192x128, .f32⟩
  | 103 => ⟨S2x8192x128, .f32⟩
  | 104 => ⟨S2x8192x128, .f32⟩
  | 105 => ⟨S2x8192x128, .f32⟩
  | 106 => ⟨S2x8192x128, .f32⟩
  | 107 => ⟨S2x8192x128, .f32⟩
  | 108 => ⟨S2x8192x128, .f32⟩
  | 109 => ⟨S2x8192x128, .f32⟩
  | 110 => ⟨S2x8192x128, .f32⟩
  | 111 => ⟨S2x8192x128, .f32⟩
  | 112 => ⟨S2x8192x128, .f32⟩
  | 113 => ⟨S2x8192x128, .f32⟩
  | 114 => ⟨S2x8192x128, .f32⟩
  | 115 => ⟨S2x8192x128, .f32⟩
  | 116 => ⟨S2x8192x128, .f32⟩
  | 117 => ⟨S2x8192x128, .f32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S8192, .f32⟩
  | 125 => ⟨S1x8192x1, .f32⟩
  | 126 => ⟨S2x8192x128, .f32⟩
  | 127 => ⟨S2x8192x128, .f32⟩
  | _ => ⟨S2x8192x1024, .f32⟩

abbrev hbmTy0_1 (i : Nat) : BufTy := match i % 128 with
  | 0 => ⟨S2x8192x128, .f32⟩
  | 1 => ⟨S2x8192x128, .f32⟩
  | 2 => ⟨S2x8192x128, .f32⟩
  | 3 => ⟨S2x8192x128, .f32⟩
  | 4 => ⟨S2x8192x128, .f32⟩
  | 5 => ⟨S2x8192x128, .f32⟩
  | 6 => ⟨S2x8192x128, .f32⟩
  | 7 => ⟨S2x8192x128, .f32⟩
  | 8 => ⟨S2x8192x128, .f32⟩
  | 9 => ⟨S2x8192x128, .f32⟩
  | 10 => ⟨S2x8192x128, .f32⟩
  | 11 => ⟨S2x8192x128, .f32⟩
  | 12 => ⟨S2x8192x128, .f32⟩
  | 13 => ⟨S2x8192x128, .f32⟩
  | 14 => ⟨S2x8192x128, .f32⟩
  | 15 => ⟨S2x8192x128, .f32⟩
  | 16 => ⟨S2x8192x128, .f32⟩
  | 17 => ⟨S2x8192x128, .f32⟩
  | 18 => ⟨S2x8192x128, .f32⟩
  | 19 => ⟨S2x8192x128, .f32⟩
  | 20 => ⟨S2x8192x128, .f32⟩
  | 21 => ⟨S2x8192x128, .f32⟩
  | 22 => ⟨S2x8192x128, .f32⟩
  | 23 => ⟨S2x8192x128, .f32⟩
  | 24 => ⟨S2x8192x128, .f32⟩
  | 25 => ⟨S2x8192x128, .f32⟩
  | 26 => ⟨S2x8192x128, .f32⟩
  | 27 => ⟨S2x8192x128, .f32⟩
  | 28 => ⟨S2x8192x128, .f32⟩
  | 29 => ⟨S2x8192x128, .f32⟩
  | 30 => ⟨S2x8192x128, .f32⟩
  | 31 => ⟨S2x8192x128, .f32⟩
  | 32 => ⟨S2x8192x128, .f32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192, .f32⟩
  | 40 => ⟨S1x8192x1, .f32⟩
  | 41 => ⟨S2x8192x128, .f32⟩
  | 42 => ⟨S2x8192x128, .f32⟩
  | 43 => ⟨S2x8192x128, .f32⟩
  | 44 => ⟨S2x8192x128, .f32⟩
  | 45 => ⟨S2x8192x1x128, .f32⟩
  | 46 => ⟨S2x8192x1x128, .f32⟩
  | 47 => ⟨S2x8192x1x128, .f32⟩
  | 48 => ⟨S2x8192x1x128, .f32⟩
  | 49 => ⟨S2x8192x4x128, .f32⟩
  | 50 => ⟨S4x128x128, .f32⟩
  | 51 => ⟨S4x128x2x8192, .f32⟩
  | 52 => ⟨S2x8192x4x128, .f32⟩
  | 53 => ⟨S2x8192x512, .f32⟩
  | 54 => ⟨S512, .f32⟩
  | 55 => ⟨S1x1x512, .f32⟩
  | 56 => ⟨S2x8192x512, .f32⟩
  | 57 => ⟨S2x8192x512, .f32⟩
  | 58 => ⟨S2x15x512, .f32⟩
  | 59 => ⟨S4x1536, .f32⟩
  | 60 => ⟨S_, .f32⟩
  | 61 => ⟨S2x3x1536, .f32⟩
  | 62 => ⟨S2x8195x1536, .f32⟩
  | 63 => ⟨S2x8192x1536, .f32⟩
  | 64 => ⟨S1x1536, .f32⟩
  | 65 => ⟨S1536, .f32⟩
  | 66 => ⟨S1x1x1536, .f32⟩
  | 67 => ⟨S2x8192x1536, .f32⟩
  | 68 => ⟨S2x8192x1536, .f32⟩
  | 69 => ⟨S2x8192x1536, .f32⟩
  | 70 => ⟨S1x1536, .f32⟩
  | 71 => ⟨S1536, .f32⟩
  | 72 => ⟨S1x1x1536, .f32⟩
  | 73 => ⟨S2x8192x1536, .f32⟩
  | 74 => ⟨S2x8192x1536, .f32⟩
  | 75 => ⟨S2x8192x1536, .f32⟩
  | 76 => ⟨S2x8192x1536, .f32⟩
  | 77 => ⟨S1x1536, .f32⟩
  | 78 => ⟨S1536, .f32⟩
  | 79 => ⟨S1x1x1536, .f32⟩
  | 80 => ⟨S2x8192x1536, .f32⟩
  | 81 => ⟨S2x8192x1536, .f32⟩
  | 82 => ⟨S2x8192x1536, .f32⟩
  | 83 => ⟨S2x8192x1536, .f32⟩
  | 84 => ⟨S1x1536, .f32⟩
  | 85 => ⟨S1536, .f32⟩
  | 86 => ⟨S1x1x1536, .f32⟩
  | 87 => ⟨S2x8192x1536, .f32⟩
  | 88 => ⟨S2x8192x1536, .f32⟩
  | 89 => ⟨S2x8192x1536, .f32⟩
  | 90 => ⟨S2x8192x1536, .f32⟩
  | 91 => ⟨S2x8192x1536, .f32⟩
  | 92 => ⟨S_, .f32⟩
  | 93 => ⟨S2x8192x1536, .f32⟩
  | 94 => ⟨S2x8192x1536, .f32⟩
  | 95 => ⟨S_, .f32⟩
  | 96 => ⟨S2x8192x1536, .f32⟩
  | 97 => ⟨S2x8192x1536, .f32⟩
  | 98 => ⟨S2x8192x1536, .f32⟩
  | 99 => ⟨S2x3x1536, .f32⟩
  | 100 => ⟨S2x8192x512, .f32⟩
  | 101 => ⟨S2x8192x4x128, .f32⟩
  | 102 => ⟨S2x8192x4x128, .f32⟩
  | 103 => ⟨S_, .f32⟩
  | 104 => ⟨S2x8192x4, .f32⟩
  | 105 => ⟨S2x8192x4x1, .f32⟩
  | 106 => ⟨S_, .f32⟩
  | 107 => ⟨S2x8192x4x1, .f32⟩
  | 108 => ⟨S2x8192x4x1, .f32⟩
  | 109 => ⟨S2x8192x4x1, .f32⟩
  | 110 => ⟨S2x8192x4x128, .f32⟩
  | 111 => ⟨S2x8192x4x128, .f32⟩
  | 112 => ⟨S2x8192x512, .f32⟩
  | 113 => ⟨S2x8192x512, .f32⟩
  | 114 => ⟨S2x8192x4x128, .f32⟩
  | 115 => ⟨S2x8192x4x128, .f32⟩
  | 116 => ⟨S_, .f32⟩
  | 117 => ⟨S2x8192x4, .f32⟩
  | 118 => ⟨S2x8192x4x1, .f32⟩
  | 119 => ⟨S_, .f32⟩
  | 120 => ⟨S2x8192x4x1, .f32⟩
  | 121 => ⟨S2x8192x4x1, .f32⟩
  | 122 => ⟨S2x8192x4x1, .f32⟩
  | 123 => ⟨S2x8192x4x128, .f32⟩
  | 124 => ⟨S2x8192x4x128, .f32⟩
  | 125 => ⟨S2x8192x512, .f32⟩
  | 126 => ⟨S2x8192x512, .f32⟩
  | 127 => ⟨S2x8192x8, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c : Ref sig .tc := ⟨.hbm, 72, rfl⟩
abbrev main_v45 : Ref sig .tc := ⟨.hbm, 73, rfl⟩
abbrev main_v46 : Ref sig .tc := ⟨.hbm, 74, rfl⟩
abbrev main_c_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_6 : Ref sig .tc := ⟨.hbm, 91, rfl⟩
abbrev main_v62 : Ref sig .tc := ⟨.hbm, 92, rfl⟩
abbrev main_v63 : Ref sig .tc := ⟨.hbm, 93, rfl⟩
abbrev main_c_7 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_8 : Ref sig .tc := ⟨.hbm, 118, rfl⟩
abbrev main_v87 : Ref sig .tc := ⟨.hbm, 119, rfl⟩
abbrev main_v88 : Ref sig .tc := ⟨.hbm, 120, rfl⟩
abbrev main_c_9 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_10 : Ref sig .tc := ⟨.hbm, 161, rfl⟩
abbrev main_v128 : Ref sig .tc := ⟨.hbm, 162, rfl⟩
abbrev main_v129 : Ref sig .tc := ⟨.hbm, 163, rfl⟩
abbrev main_c_11 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_12 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_call1_v0 : Ref sig .tc := ⟨.hbm, 218, rfl⟩
abbrev main_call1_v1 : Ref sig .tc := ⟨.hbm, 219, rfl⟩
abbrev main_call1_cst : Ref sig .tc := ⟨.hbm, 220, rfl⟩
abbrev main_call1_v2 : Ref sig .tc := ⟨.hbm, 221, rfl⟩
abbrev main_call1_v3 : Ref sig .tc := ⟨.hbm, 222, rfl⟩
abbrev main_call1_cst_0 : Ref sig .tc := ⟨.hbm, 223, rfl⟩
abbrev main_call1_v4 : Ref sig .tc := ⟨.hbm, 224, rfl⟩
abbrev main_call1_v5 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_cst_13 : Ref sig .tc := ⟨.hbm, 231, rfl⟩
abbrev main_v187 : Ref sig .tc := ⟨.hbm, 232, rfl⟩
abbrev main_v188 : Ref sig .tc := ⟨.hbm, 233, rfl⟩
abbrev main_cst_14 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_cst_15 : Ref sig .tc := ⟨.hbm, 244, rfl⟩
abbrev main_v198 : Ref sig .tc := ⟨.hbm, 245, rfl⟩
abbrev main_v199 : Ref sig .tc := ⟨.hbm, 246, rfl⟩
abbrev main_cst_16 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩

abbrev nD : Nat := 1
abbrev τ : Topo := Topo.v7x

variable {F : FTy → Type} [FloatOps F]
-- ==== Reference4Ideal.lean ====
abbrev S2x8192x1024 : Shape := ⟨3, ![2, 8192, 1024]⟩
abbrev S1x1024 : Shape := ⟨2, ![1, 1024]⟩
abbrev S1x1024x4616 : Shape := ⟨3, ![1, 1024, 4616]⟩
abbrev S1x4x128x128 : Shape := ⟨4, ![1, 4, 128, 128]⟩
abbrev S1x512 : Shape := ⟨2, ![1, 512]⟩
abbrev S1x4x1536 : Shape := ⟨3, ![1, 4, 1536]⟩
abbrev S1x4 : Shape := ⟨2, ![1, 4]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x4616 : Shape := ⟨2, ![1024, 4616]⟩
abbrev S2x8192x4616 : Shape := ⟨3, ![2, 8192, 4616]⟩
abbrev S2x8192x512 : Shape := ⟨3, ![2, 8192, 512]⟩
abbrev S2x8192x1536 : Shape := ⟨3, ![2, 8192, 1536]⟩
abbrev S2x8192x4 : Shape := ⟨3, ![2, 8192, 4]⟩
abbrev S4 : Shape := ⟨1, ![4]⟩
abbrev S1x1x4 : Shape := ⟨3, ![1, 1, 4]⟩
abbrev S2x8192x2048 : Shape := ⟨3, ![2, 8192, 2048]⟩
abbrev S2x15x512 : Shape := ⟨3, ![2, 15, 512]⟩
abbrev S2x8207x512 : Shape := ⟨3, ![2, 8207, 512]⟩
abbrev S2x8208x512 : Shape := ⟨3, ![2, 8208, 512]⟩
abbrev S8192 : Shape := ⟨1, ![8192]⟩
abbrev S2x8192x128 : Shape := ⟨3, ![2, 8192, 128]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S4x128x128 : Shape := ⟨3, ![4, 128, 128]⟩
abbrev S4x128x2x8192 : Shape := ⟨4, ![4, 128, 2, 8192]⟩
abbrev S512 : Shape := ⟨1, ![512]⟩
abbrev S1x1x512 : Shape := ⟨3, ![1, 1, 512]⟩
abbrev S4x1536 : Shape := ⟨2, ![4, 1536]⟩
abbrev S2x3x1536 : Shape := ⟨3, ![2, 3, 1536]⟩
abbrev S2x8195x1536 : Shape := ⟨3, ![2, 8195, 1536]⟩
abbrev S1x1536 : Shape := ⟨2, ![1, 1536]⟩
abbrev S1536 : Shape := ⟨1, ![1536]⟩
abbrev S1x1x1536 : Shape := ⟨3, ![1, 1, 1536]⟩
abbrev S2x8192x4x1 : Shape := ⟨4, ![2, 8192, 4, 1]⟩
abbrev S2x8192x8 : Shape := ⟨3, ![2, 8192, 8]⟩

abbrev nBuf : Space → Nat
  | .hbm => 218
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x4616, .f32⟩
  | 3 => ⟨S1x4x128x128, .f32⟩
  | 4 => ⟨S1x512, .f32⟩
  | 5 => ⟨S1x4x1536, .f32⟩
  | 6 => ⟨S1x4, .f32⟩
  | 7 => ⟨S1x4, .f32⟩
  | 8 => ⟨S2x8192x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x1024, .f32⟩
  | 20 => ⟨S2x8192x1024, .f32⟩
  | 21 => ⟨S1024, .f32⟩
  | 22 => ⟨S1x1x1024, .f32⟩
  | 23 => ⟨S2x8192x1024, .f32⟩
  | 24 => ⟨S2x8192x1024, .f32⟩
  | 25 => ⟨S1024x4616, .f32⟩
  | 26 => ⟨S2x8192x4616, .f32⟩
  | 27 => ⟨S2x8192x512, .f32⟩
  | 28 => ⟨S2x8192x1536, .f32⟩
  | 29 => ⟨S2x8192x512, .f32⟩
  | 30 => ⟨S2x8192x4, .f32⟩
  | 31 => ⟨S2x8192x4, .f32⟩
  | 32 => ⟨S2x8192x4, .f32⟩
  | 33 => ⟨S_, .f32⟩
  | 34 => ⟨S2x8192x4, .f32⟩
  | 35 => ⟨S2x8192x4, .f32⟩
  | 36 => ⟨S_, .f32⟩
  | 37 => ⟨S2x8192x4, .f32⟩
  | 38 => ⟨S2x8192x4, .f32⟩
  | 39 => ⟨S4, .f32⟩
  | 40 => ⟨S4, .f32⟩
  | 41 => ⟨S4, .f32⟩
  | 42 => ⟨S2x8192x4, .f32⟩
  | 43 => ⟨S4, .f32⟩
  | 44 => ⟨S1x1x4, .f32⟩
  | 45 => ⟨S2x8192x4, .f32⟩
  | 46 => ⟨S2x8192x4, .f32⟩
  | 47 => ⟨S_, .f32⟩
  | 48 => ⟨S2x8192x4, .f32⟩
  | 49 => ⟨S2x8192x4, .f32⟩
  | 50 => ⟨S2x8192x4, .f32⟩
  | 51 => ⟨S2x8192x4, .f32⟩
  | 52 => ⟨S2x8192x4, .i1⟩
  | 53 => ⟨S2x8192x4, .f32⟩
  | 54 => ⟨S2x8192x4, .f32⟩
  | 55 => ⟨S2x8192x4, .f32⟩
  | 56 => ⟨S2x8192x4, .f32⟩
  | 57 => ⟨S2x8192x4, .f32⟩
  | 58 => ⟨S2x8192x4, .f32⟩
  | 59 => ⟨S2x8192x4, .f32⟩
  | 60 => ⟨S2x8192x4, .f32⟩
  | 61 => ⟨S1x1x4, .f32⟩
  | 62 => ⟨S2x8192x4, .f32⟩
  | 63 => ⟨S2x8192x4, .f32⟩
  | 64 => ⟨S2x8192x2048, .f32⟩
  | 65 => ⟨S_, .f32⟩
  | 66 => ⟨S2x15x512, .f32⟩
  | 67 => ⟨S2x8207x512, .f32⟩
  | 68 => ⟨S_, .f32⟩
  | 69 => ⟨S_, .f32⟩
  | 70 => ⟨S2x8207x512, .f32⟩
  | 71 => ⟨S_, .i32⟩
  | 72 => ⟨S_, .f32⟩
  | 73 => ⟨S2x8208x512, .f32⟩
  | 74 => ⟨S8192, .i32⟩
  | 75 => ⟨S2x8192x128, .f32⟩
  | 76 => ⟨S2x8192x128, .f32⟩
  | 77 => ⟨S2x8192x128, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S8192, .f32⟩
  | 85 => ⟨S1x8192x1, .f32⟩
  | 86 => ⟨S2x8192x128, .f32⟩
  | 87 => ⟨S2x8192x128, .f32⟩
  | 88 => ⟨S2x8192x128, .f32⟩
  | 89 => ⟨S2x8192x128, .f32⟩
  | 90 => ⟨S2x8192x128, .f32⟩
  | 91 => ⟨S2x8192x128, .f32⟩
  | 92 => ⟨S2x8192x128, .f32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .f32⟩
  | 100 => ⟨S1x8192x1, .f32⟩
  | 101 => ⟨S2x8192x128, .f32⟩
  | 102 => ⟨S2x8192x128, .f32⟩
  | 103 => ⟨S2x8192x128, .f32⟩
  | 104 => ⟨S2x8192x128, .f32⟩
  | 105 => ⟨S2x8192x128, .f32⟩
  | 106 => ⟨S2x8192x128, .f32⟩
  | 107 => ⟨S2x8192x128, .f32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192, .f32⟩
  | 115 => ⟨S1x8192x1, .f32⟩
  | 116 => ⟨S2x8192x128, .f32⟩
  | 117 => ⟨S2x8192x128, .f32⟩
  | 118 => ⟨S2x8192x128, .f32⟩
  | 119 => ⟨S2x8192x128, .f32⟩
  | 120 => ⟨S2x8192x128, .f32⟩
  | 121 => ⟨S2x8192x128, .f32⟩
  | 122 => ⟨S2x8192x128, .f32⟩
  | 123 => ⟨S_, .i32⟩
  | 124 => ⟨S8192, .i32⟩
  | 125 => ⟨S8192, .i32⟩
  | 126 => ⟨S_, .i32⟩
  | 127 => ⟨S8192, .i32⟩
  | _ => ⟨S2x8192x1024, .f32⟩

abbrev hbmTy0_1 (i : Nat) : BufTy := match i % 128 with
  | 0 => ⟨S8192, .i32⟩
  | 1 => ⟨S8192, .f32⟩
  | 2 => ⟨S1x8192x1, .f32⟩
  | 3 => ⟨S2x8192x128, .f32⟩
  | 4 => ⟨S2x8192x128, .f32⟩
  | 5 => ⟨S2x8192x128, .f32⟩
  | 6 => ⟨S2x8192x128, .f32⟩
  | 7 => ⟨S2x8192x1x128, .f32⟩
  | 8 => ⟨S2x8192x1x128, .f32⟩
  | 9 => ⟨S2x8192x1x128, .f32⟩
  | 10 => ⟨S2x8192x1x128, .f32⟩
  | 11 => ⟨S2x8192x4x128, .f32⟩
  | 12 => ⟨S4x128x128, .f32⟩
  | 13 => ⟨S4x128x2x8192, .f32⟩
  | 14 => ⟨S2x8192x4x128, .f32⟩
  | 15 => ⟨S2x8192x512, .f32⟩
  | 16 => ⟨S512, .f32⟩
  | 17 => ⟨S1x1x512, .f32⟩
  | 18 => ⟨S2x8192x512, .f32⟩
  | 19 => ⟨S2x8192x512, .f32⟩
  | 20 => ⟨S2x15x512, .f32⟩
  | 21 => ⟨S4x1536, .f32⟩
  | 22 => ⟨S_, .f32⟩
  | 23 => ⟨S2x3x1536, .f32⟩
  | 24 => ⟨S2x8195x1536, .f32⟩
  | 25 => ⟨S2x8192x1536, .f32⟩
  | 26 => ⟨S1x1536, .f32⟩
  | 27 => ⟨S1536, .f32⟩
  | 28 => ⟨S1x1x1536, .f32⟩
  | 29 => ⟨S2x8192x1536, .f32⟩
  | 30 => ⟨S2x8192x1536, .f32⟩
  | 31 => ⟨S2x8192x1536, .f32⟩
  | 32 => ⟨S1x1536, .f32⟩
  | 33 => ⟨S1536, .f32⟩
  | 34 => ⟨S1x1x1536, .f32⟩
  | 35 => ⟨S2x8192x1536, .f32⟩
  | 36 => ⟨S2x8192x1536, .f32⟩
  | 37 => ⟨S2x8192x1536, .f32⟩
  | 38 => ⟨S2x8192x1536, .f32⟩
  | 39 => ⟨S1x1536, .f32⟩
  | 40 => ⟨S1536, .f32⟩
  | 41 => ⟨S1x1x1536, .f32⟩
  | 42 => ⟨S2x8192x1536, .f32⟩
  | 43 => ⟨S2x8192x1536, .f32⟩
  | 44 => ⟨S2x8192x1536, .f32⟩
  | 45 => ⟨S2x8192x1536, .f32⟩
  | 46 => ⟨S1x1536, .f32⟩
  | 47 => ⟨S1536, .f32⟩
  | 48 => ⟨S1x1x1536, .f32⟩
  | 49 => ⟨S2x8192x1536, .f32⟩
  | 50 => ⟨S2x8192x1536, .f32⟩
  | 51 => ⟨S2x8192x1536, .f32⟩
  | 52 => ⟨S2x8192x1536, .f32⟩
  | 53 => ⟨S2x8192x1536, .f32⟩
  | 54 => ⟨S_, .f32⟩
  | 55 => ⟨S2x8192x1536, .f32⟩
  | 56 => ⟨S2x8192x1536, .f32⟩
  | 57 => ⟨S_, .f32⟩
  | 58 => ⟨S2x8192x1536, .f32⟩
  | 59 => ⟨S2x8192x1536, .f32⟩
  | 60 => ⟨S2x8192x1536, .f32⟩
  | 61 => ⟨S2x3x1536, .f32⟩
  | 62 => ⟨S2x8192x512, .f32⟩
  | 63 => ⟨S2x8192x4x128, .f32⟩
  | 64 => ⟨S2x8192x4x128, .f32⟩
  | 65 => ⟨S_, .f32⟩
  | 66 => ⟨S2x8192x4, .f32⟩
  | 67 => ⟨S2x8192x4x1, .f32⟩
  | 68 => ⟨S_, .f32⟩
  | 69 => ⟨S2x8192x4x1, .f32⟩
  | 70 => ⟨S2x8192x4x1, .f32⟩
  | 71 => ⟨S2x8192x4x1, .f32⟩
  | 72 => ⟨S2x8192x4x128, .f32⟩
  | 73 => ⟨S2x8192x4x128, .f32⟩
  | 74 => ⟨S2x8192x512, .f32⟩
  | 75 => ⟨S2x8192x512, .f32⟩
  | 76 => ⟨S2x8192x4x128, .f32⟩
  | 77 => ⟨S2x8192x4x128, .f32⟩
  | 78 => ⟨S_, .f32⟩
  | 79 => ⟨S2x8192x4, .f32⟩
  | 80 => ⟨S2x8192x4x1, .f32⟩
  | 81 => ⟨S_, .f32⟩
  | 82 => ⟨S2x8192x4x1, .f32⟩
  | 83 => ⟨S2x8192x4x1, .f32⟩
  | 84 => ⟨S2x8192x4x1, .f32⟩
  | 85 => ⟨S2x8192x4x128, .f32⟩
  | 86 => ⟨S2x8192x4x128, .f32⟩
  | 87 => ⟨S2x8192x512, .f32⟩
  | 88 => ⟨S2x8192x512, .f32⟩
  | 89 => ⟨S2x8192x8, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_call1_call0_cst : Ref sig .tc := ⟨.hbm, 68, rfl⟩
abbrev main_call1_call0_v0 : Ref sig .tc := ⟨.hbm, 69, rfl⟩
abbrev main_v41 : Ref sig .tc := ⟨.hbm, 70, rfl⟩
abbrev main_c : Ref sig .tc := ⟨.hbm, 71, rfl⟩
abbrev main_call2_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_5 : Ref sig .tc := ⟨.hbm, 78, rfl⟩
abbrev main_v47 : Ref sig .tc := ⟨.hbm, 79, rfl⟩
abbrev main_v48 : Ref sig .tc := ⟨.hbm, 80, rfl⟩
abbrev main_c_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_7 : Ref sig .tc := ⟨.hbm, 93, rfl⟩
abbrev main_v60 : Ref sig .tc := ⟨.hbm, 94, rfl⟩
abbrev main_v61 : Ref sig .tc := ⟨.hbm, 95, rfl⟩
abbrev main_c_8 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_9 : Ref sig .tc := ⟨.hbm, 108, rfl⟩
abbrev main_v73 : Ref sig .tc := ⟨.hbm, 109, rfl⟩
abbrev main_v74 : Ref sig .tc := ⟨.hbm, 110, rfl⟩
abbrev main_c_10 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_11 : Ref sig .tc := ⟨.hbm, 123, rfl⟩
abbrev main_v86 : Ref sig .tc := ⟨.hbm, 124, rfl⟩
abbrev main_v87 : Ref sig .tc := ⟨.hbm, 125, rfl⟩
abbrev main_c_12 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_13 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_call3_v0 : Ref sig .tc := ⟨.hbm, 180, rfl⟩
abbrev main_call3_v1 : Ref sig .tc := ⟨.hbm, 181, rfl⟩
abbrev main_call3_cst : Ref sig .tc := ⟨.hbm, 182, rfl⟩
abbrev main_call3_v2 : Ref sig .tc := ⟨.hbm, 183, rfl⟩
abbrev main_call3_v3 : Ref sig .tc := ⟨.hbm, 184, rfl⟩
abbrev main_call3_cst_0 : Ref sig .tc := ⟨.hbm, 185, rfl⟩
abbrev main_call3_v4 : Ref sig .tc := ⟨.hbm, 186, rfl⟩
abbrev main_call3_v5 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_14 : Ref sig .tc := ⟨.hbm, 193, rfl⟩
abbrev main_v145 : Ref sig .tc := ⟨.hbm, 194, rfl⟩
abbrev main_v146 : Ref sig .tc := ⟨.hbm, 195, rfl⟩
abbrev main_cst_15 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_16 : Ref sig .tc := ⟨.hbm, 206, rfl⟩
abbrev main_v156 : Ref sig .tc := ⟨.hbm, 207, rfl⟩
abbrev main_v157 : Ref sig .tc := ⟨.hbm, 208, rfl⟩
abbrev main_cst_17 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩

abbrev nD : Nat := 1
abbrev τ : Topo := Topo.v7x

variable {F : FTy → Type} [FloatOps F]
-- ==== Proof.ScanMath.lean ====
module

public import proofs.«01_k».proof.Proof.Gen.KernelIdeal.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Scan

open Cert.KernelIdeal Cert.KernelIdeal.Gen

/-- Lane `v` of head `h` in a row of four heads of 128 lanes. -/
def lane (h : Fin 4) (v : Fin 128) : Fin 512 := ⟨128 * h.val + v.val, by omega⟩

/-- Lane `j` of head `h` in a row of four heads of 64 lanes. -/
def lane64 (h : Fin 4) (j : Fin 64) : Fin 256 := ⟨64 * h.val + j.val, by omega⟩

/-- The lane that holds the decay of head `h`. -/
def laneG (h : Fin 4) : Fin 128 := ⟨4 + h.val, by omega⟩

/-- The corrected values of one chunk: `u - w S`. -/
def vnE (u w : S2x64x512.Idx → EReal) (S : S2x4x128x128.Idx → EReal) (b : Fin 2) (h : Fin 4) (r : Fin 64) (v : Fin 128) : EReal :=
  u (ix3 b r (lane h v)) - ∑ k : Fin 128, w (ix3 b r (lane h k)) * S (ix4 b h k v)

/-- The state after one chunk: the decayed state plus the keys against the corrected values. -/
def snE (u w kd : S2x64x512.Idx → EReal) (gl : S2x8x128.Idx → EReal) (S : S2x4x128x128.Idx → EReal)
    (b : Fin 2) (h : Fin 4) (k v : Fin 128) : EReal :=
  S (ix4 b h k v) * Ideal.exp (gl (ix3 b 7 (laneG h))) + ∑ r : Fin 64, kd (ix3 b r (lane h k)) * vnE u w S b h r v

/-- The output of one chunk before its norm. -/
def oE (u w qd : S2x64x512.Idx → EReal) (qk : S2x64x256.Idx → EReal) (S : S2x4x128x128.Idx → EReal)
    (b : Fin 2) (h : Fin 4) (r : Fin 64) (v : Fin 128) : EReal :=
  (∑ k : Fin 128, qd (ix3 b r (lane h k)) * S (ix4 b h k v)) + ∑ j : Fin 64, qk (ix3 b r (lane64 h j)) * vnE u w S b h j v

/-- A row of one head after its norm, scaled by `g` and gated by `z`. -/
def gateE (o : Fin 128 → EReal) (g z : EReal) (v : Fin 128) : EReal :=
  o v * Ideal.rsqrt (Ideal.div (∑ x : Fin 128, o x * o x) (Ideal.ofBits FTy.f32 1124073472#32) + Ideal.ofBits FTy.f32 897988541#32) * g
    * (z * Ideal.div 1 (1 + Ideal.exp (0 - z)))

/-- Stores that are blocks of `G` leave `G` wherever one of them covers. -/
theorem canonOf {s : Shape} {e : EltTy} {Val : EltTy → Type} [∀ e, Nonempty (Val e)] (G : s.Idx → Val e) (L : List (View.Piece Val s e))
    (h : View.PiecesOf G L) (y : s.Idx) (hc : ∃ p ∈ L, y ∈ p.1.set) : View.canon L y = G y := by
  have := View.canon_append_of_piecesOf G [] L h y hc
  rwa [List.append_nil] at this

/-- The head of a lane. -/
def headOf (l : Fin 512) : Fin 4 := ⟨l.val / 128, by omega⟩
/-- The place of a lane in its head. -/
def placeOf (l : Fin 512) : Fin 128 := ⟨l.val % 128, by omega⟩

theorem emb_norm {s : Shape} (r : Rect s) (x : r.shape.Idx) :
    r.emb x = Shape.Idx.norm fun a => ⟨r.off a + r.stride a * (x a).val, r.toLoadRect.coord_lt a (x a).isLt⟩ := rfl

theorem headOf_0 (v : Fin 128) (h) : headOf ⟨v.val, h⟩ = 0 := Fin.ext (by simp only [headOf]; omega)
theorem headOf_1 (v : Fin 128) (h) : headOf ⟨128 + v.val, h⟩ = 1 := Fin.ext (by simp only [headOf]; omega)
theorem headOf_2 (v : Fin 128) (h) : headOf ⟨256 + v.val, h⟩ = 2 := Fin.ext (by simp only [headOf]; omega)
theorem headOf_3 (v : Fin 128) (h) : headOf ⟨384 + v.val, h⟩ = 3 := Fin.ext (by simp only [headOf]; omega)
theorem lane_0 (v : Fin 128) : lane 0 v = ⟨v.val, by omega⟩ := Fin.ext (by simp [lane])
theorem lane_1 (v : Fin 128) : lane 1 v = ⟨128 + v.val, by omega⟩ := Fin.ext (by simp [lane])
theorem lane_2 (v : Fin 128) : lane 2 v = ⟨256 + v.val, by omega⟩ := Fin.ext (by simp [lane])
theorem lane_3 (v : Fin 128) : lane 3 v = ⟨384 + v.val, by omega⟩ := Fin.ext (by simp [lane])
theorem lane64_0 (v : Fin 64) : lane64 0 v = ⟨v.val, by omega⟩ := Fin.ext (by simp [lane64])
theorem lane64_1 (v : Fin 64) : lane64 1 v = ⟨64 + v.val, by omega⟩ := Fin.ext (by simp [lane64])
theorem lane64_2 (v : Fin 64) : lane64 2 v = ⟨128 + v.val, by omega⟩ := Fin.ext (by simp [lane64])
theorem lane64_3 (v : Fin 64) : lane64 3 v = ⟨192 + v.val, by omega⟩ := Fin.ext (by simp [lane64])
theorem laneG_0 : laneG 0 = 4 := rfl
theorem laneG_1 : laneG 1 = 5 := rfl
theorem laneG_2 : laneG 2 = 6 := rfl
theorem laneG_3 : laneG 3 = 7 := rfl
theorem placeOf_0 (v : Fin 128) (h) : placeOf ⟨v.val, h⟩ = v := Fin.ext (by simp only [placeOf]; omega)
theorem placeOf_1 (v : Fin 128) (h) : placeOf ⟨128 + v.val, h⟩ = v := Fin.ext (by simp only [placeOf]; omega)
theorem placeOf_2 (v : Fin 128) (h) : placeOf ⟨256 + v.val, h⟩ = v := Fin.ext (by simp only [placeOf]; omega)
theorem placeOf_3 (v : Fin 128) (h) : placeOf ⟨384 + v.val, h⟩ = v := Fin.ext (by simp only [placeOf]; omega)

/-- The state block after one chunk. -/
def SB (u w kd : S2x64x512.Idx → EReal) (gl : S2x8x128.Idx → EReal) (S : S2x4x128x128.Idx → EReal) : S2x4x128x128.Idx → EReal :=
  fun q => snE u w kd gl S (q 0) (q 1) (q 2) (q 3)

/-- The output block of one chunk. -/
def YB (u w qd : S2x64x512.Idx → EReal) (qk : S2x64x256.Idx → EReal) (z : S2x64x512.Idx → EReal) (g : S1x128.Idx → EReal)
    (S : S2x4x128x128.Idx → EReal) : S2x64x512.Idx → EReal :=
  fun q => gateE (oE u w qd qk S (q 0) (headOf (q 2)) (q 1)) (g (ix2 0 (placeOf (q 2)))) (z q) (placeOf (q 2))

/-- Chunk `t` of an array of 8192 rows: its 64 rows. -/
def chunk (x : S2x8192x512.Idx → EReal) (t : ℕ) : S2x64x512.Idx → EReal :=
  fun q => x (ix3 (q 0) ⟨(64 * t + (q 1).val) % 8192, Nat.mod_lt _ (by decide)⟩ (q 2))
/-- Chunk `t` of the masked products of the queries with the keys. -/
def chunkQK (x : S2x8192x256.Idx → EReal) (t : ℕ) : S2x64x256.Idx → EReal :=
  fun q => x (ix3 (q 0) ⟨(64 * t + (q 1).val) % 8192, Nat.mod_lt _ (by decide)⟩ (q 2))
/-- Chunk `t` of the decays. -/
def chunkG (x : S2x1024x128.Idx → EReal) (t : ℕ) : S2x8x128.Idx → EReal :=
  fun q => x (ix3 (q 0) ⟨(8 * t + (q 1).val) % 1024, Nat.mod_lt _ (by decide)⟩ (q 2))

/-- The state before chunk `t`. -/
def SN (u w kd : S2x8192x512.Idx → EReal) (gl : S2x1024x128.Idx → EReal) (s0 : S2x4x128x128.Idx → EReal) : ℕ → S2x4x128x128.Idx → EReal
  | 0 => s0
  | t + 1 => SB (chunk u t) (chunk w t) (chunk kd t) (chunkG gl t) (SN u w kd gl s0 t)

/-- The gated output of chunk `t`. -/
def YN (u w qd kd : S2x8192x512.Idx → EReal) (qk : S2x8192x256.Idx → EReal) (gl : S2x1024x128.Idx → EReal) (z : S2x8192x512.Idx → EReal)
    (s0 : S2x4x128x128.Idx → EReal) (g : S1x128.Idx → EReal) (t : ℕ) : S2x64x512.Idx → EReal :=
  YB (chunk u t) (chunk w t) (chunk qd t) (chunkQK qk t) (chunk z t) g (SN u w kd gl s0 t)

end Cert.KernelIdeal.Scan

end
-- ==== Proof.ScanStepA.lean ====
module

public import proofs.«01_k».proof.Proof.ScanMath
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Scan

open Cert.KernelIdeal Cert.KernelIdeal.Gen

theorem pay2_eq (x7 : Vec Ideal S2x4x128x128 .f32) :
    k0_pay2 (View.ld x7 (Rect.unit ![0, 0, 0, 0] ![2, 4, 128, 128] inb_S2x4x128x128_S2x4x128x128_0_0_0_0)) = x7 := by
  funext q
  unfold_payloads
  pointwise

/-- The eight stores of the state. -/
abbrev scL (w1 w2 w3 w4 w5 w6 w7 w8 : S1x1x128x128.Idx → EReal) : List (View.Piece (Elt Ideal) S2x4x128x128 .f32) :=
  [⟨Rect.unit ![1, 3, 0, 0] ![1, 1, 128, 128] inb_S2x4x128x128_S1x1x128x128_1_3_0_0, w1⟩,
        ⟨Rect.unit ![1, 2, 0, 0] ![1, 1, 128, 128] inb_S2x4x128x128_S1x1x128x128_1_2_0_0, w2⟩,
        ⟨Rect.unit ![1, 1, 0, 0] ![1, 1, 128, 128] inb_S2x4x128x128_S1x1x128x128_1_1_0_0, w3⟩,
        ⟨Rect.unit ![1, 0, 0, 0] ![1, 1, 128, 128] inb_S2x4x128x128_S1x1x128x128_1_0_0_0, w4⟩,
        ⟨Rect.unit ![0, 3, 0, 0] ![1, 1, 128, 128] inb_S2x4x128x128_S1x1x128x128_0_3_0_0, w5⟩,
        ⟨Rect.unit ![0, 2, 0, 0] ![1, 1, 128, 128] inb_S2x4x128x128_S1x1x128x128_0_2_0_0, w6⟩,
        ⟨Rect.unit ![0, 1, 0, 0] ![1, 1, 128, 128] inb_S2x4x128x128_S1x1x128x128_0_1_0_0, w7⟩,
        ⟨Rect.unit ![0, 0, 0, 0] ![1, 1, 128, 128] inb_S2x4x128x128_S1x1x128x128_0_0_0_0, w8⟩]

theorem scov8_A (w1 w2 w3 w4 w5 w6 w7 w8 : S1x1x128x128.Idx → EReal) (q : S2x4x128x128.Idx) :
    ∃ p ∈ scL w1 w2 w3 w4 w5 w6 w7 w8, q ∈ p.1.set :=
  View.cover_of_tiledL (scL w1 w2 w3 w4 w5 w6 w7 w8) S1x1x128x128.size (by sl_kernel_rfl) q
variable (c : Dev nD) (i : grid0.Coords) (a2 : Memref sig .tc .vmem S2x64x512 .f32) (h2 : a2.IsWhole) (a3 : Memref sig .tc .vmem S2x64x512 .f32) (h3 : a3.IsWhole) (a4 : Memref sig .tc .vmem S2x64x512 .f32) (h4 : a4.IsWhole) (a5 : Memref sig .tc .vmem S2x64x512 .f32) (h5 : a5.IsWhole) (a6 : Memref sig .tc .vmem S2x64x256 .f32) (h6 : a6.IsWhole) (a7 : Memref sig .tc .vmem S2x8x128 .f32) (h7 : a7.IsWhole) (a8 : Memref sig .tc .vmem S2x64x512 .f32) (h8 : a8.IsWhole) (a9 : Memref sig .tc .vmem S2x4x128x128 .f32) (h9 : a9.IsWhole) (a10 : Memref sig .tc .vmem S1x128 .f32) (h10 : a10.IsWhole) (a11 : Memref sig .tc .vmem S2x64x512 .f32) (h11 : a11.IsWhole) (a12 : Memref sig .tc .vmem S2x4x128x128 .f32) (h12 : a12.IsWhole) (a13 : Memref sig .tc .vmem S2x4x128x128 .f32) (h13 : a13.IsWhole)
  (x0 : Vec Ideal S2x64x512 .f32) (x1 : Vec Ideal S2x64x512 .f32) (x2 : Vec Ideal S2x64x512 .f32) (x3 : Vec Ideal S2x64x512 .f32) (x4 : Vec Ideal S2x64x256 .f32) (x5 : Vec Ideal S2x8x128 .f32) (x6 : Vec Ideal S2x64x512 .f32) (x7 : Vec Ideal S2x4x128x128 .f32) (x8 : Vec Ideal S1x128 .f32) (xs : Vec Ideal S2x4x128x128 .f32)

theorem sout_A (hc : cond0_0 i) : sout0_A_0 c i a2 h2 a3 h3 a4 h4 a5 h5 a6 h6 a7 h7 a8 h8 a9 h9 a10 h10 a11 h11 a12 h12 a13 h13 hc x0 x1 x2 x3 x4 x5 x6 x7 x8 = SB x0 x1 x3 x5 x7 := by
  funext q
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6 x7 x8)]
  have hcov := scover0_A_0 c i a2 h2 a3 h3 a4 h4 a5 h5 a6 h6 a7 h7 a8 h8 a9 h9 a10 h10 a11 h11 a12 h12 a13 h13 hc x0 x1 x2 x3 x4 x5 x6 x7 x8 q
  revert hcov
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread]
  rw [show k0_pay2 (View.ld x7 (Rect.unit ![0, 0, 0, 0] ![2, 4, 128, 128] inb_S2x4x128x128_S2x4x128x128_0_0_0_0)) = x7 from pay2_eq x7]
  simp (disch := decide) only [View.readCov_fill]
  intro hcov
  refine View.canon_append_of_piecesOf (SB x0 x1 x3 x5 x7) [_] [_, _, _, _, _, _, _, _] ?_ q (scov8_A _ _ _ _ _ _ _ _ q)
  refine ⟨?_, ?_, ?_, ?_, ?_, ?_, ?_, ?_, trivial⟩
  all_goals
    clear hcov; intro x
    obtain ⟨p0, p1, k, v, rfl⟩ : ∃ (p0 p1 : Fin 1) (k v : Fin 128), x = ix4 p0 p1 k v := ⟨x 0, x 1, x 2, x 3, (ix4_eta x).symm⟩
    unfold SB snE vnE
    unfold_payloads
    pointwise [emb_norm, lane_0, lane_1, lane_2, lane_3, lane64_0, lane64_1, lane64_2, lane64_3, laneG_0, laneG_1, laneG_2, laneG_3, headOf_0, headOf_1, headOf_2, headOf_3, placeOf_0, placeOf_1, placeOf_2, placeOf_3, dot_S64x128_S128x128_S64x128_1_0_0_1_n_n, dot_S64x128_S64x128_S128x128_0_0_1_1_n_n, dot_S64x64_S64x128_S64x128_1_0_0_1_n_n]

theorem out10_A (hc : cond0_0 i) : out0_A_10 c i a2 h2 a3 h3 a4 h4 a5 h5 a6 h6 a7 h7 a8 h8 a9 h9 a10 h10 a11 h11 a12 h12 a13 h13 hc x0 x1 x2 x3 x4 x5 x6 x7 x8 = SB x0 x1 x3 x5 x7 := by
  funext q
  unfold out0_A_10
  rw [View.read_writes_eq_canon _ _ _ (cover0_A_10 c i a2 h2 a3 h3 a4 h4 a5 h5 a6 h6 a7 h7 a8 h8 a9 h9 a10 h10 a11 h11 a12 h12 a13 h13 hc x0 x1 x2 x3 x4 x5 x6 x7 x8)]
  have hcov := cover0_A_10 c i a2 h2 a3 h3 a4 h4 a5 h5 a6 h6 a7 h7 a8 h8 a9 h9 a10 h10 a11 h11 a12 h12 a13 h13 hc x0 x1 x2 x3 x4 x5 x6 x7 x8 q
  revert hcov
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread]
  rw [show k0_pay2 (View.ld x7 (Rect.unit ![0, 0, 0, 0] ![2, 4, 128, 128] inb_S2x4x128x128_S2x4x128x128_0_0_0_0)) = x7 from pay2_eq x7]
  simp (disch := decide) only [View.readCov_fill]
  intro hcov
  refine canonOf (SB x0 x1 x3 x5 x7) _ ?_ q hcov
  refine ⟨?_, ?_, ?_, ?_, ?_, ?_, ?_, ?_, trivial⟩
  all_goals
    clear hcov; intro x
    obtain ⟨p0, p1, k, v, rfl⟩ : ∃ (p0 p1 : Fin 1) (k v : Fin 128), x = ix4 p0 p1 k v := ⟨x 0, x 1, x 2, x 3, (ix4_eta x).symm⟩
    unfold SB snE vnE
    unfold_payloads
    pointwise [emb_norm, lane_0, lane_1, lane_2, lane_3, lane64_0, lane64_1, lane64_2, lane64_3, laneG_0, laneG_1, laneG_2, laneG_3, headOf_0, headOf_1, headOf_2, headOf_3, placeOf_0, placeOf_1, placeOf_2, placeOf_3, dot_S64x128_S128x128_S64x128_1_0_0_1_n_n, dot_S64x128_S64x128_S128x128_0_0_1_1_n_n, dot_S64x64_S64x128_S64x128_1_0_0_1_n_n]

theorem out9_A (hc : cond0_0 i) : out0_A_9 c i a2 h2 a3 h3 a4 h4 a5 h5 a6 h6 a7 h7 a8 h8 a9 h9 a10 h10 a11 h11 a12 h12 a13 h13 hc x0 x1 x2 x3 x4 x5 x6 x7 x8 = YB x0 x1 x2 x4 x6 x8 x7 := by
  funext q
  unfold out0_A_9
  rw [View.read_writes_eq_canon _ _ _ (cover0_A_9 c i a2 h2 a3 h3 a4 h4 a5 h5 a6 h6 a7 h7 a8 h8 a9 h9 a10 h10 a11 h11 a12 h12 a13 h13 hc x0 x1 x2 x3 x4 x5 x6 x7 x8)]
  have hcov := cover0_A_9 c i a2 h2 a3 h3 a4 h4 a5 h5 a6 h6 a7 h7 a8 h8 a9 h9 a10 h10 a11 h11 a12 h12 a13 h13 hc x0 x1 x2 x3 x4 x5 x6 x7 x8 q
  revert hcov
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread]
  rw [show k0_pay2 (View.ld x7 (Rect.unit ![0, 0, 0, 0] ![2, 4, 128, 128] inb_S2x4x128x128_S2x4x128x128_0_0_0_0)) = x7 from pay2_eq x7]
  simp (disch := decide) only [View.readCov_fill]
  intro hcov
  refine canonOf (YB x0 x1 x2 x4 x6 x8 x7) _ ?_ q hcov
  refine ⟨?_, ?_, ?_, ?_, ?_, ?_, ?_, ?_, trivial⟩
  all_goals
    clear hcov; intro x
    obtain ⟨p0, r, v, rfl⟩ : ∃ (p0 : Fin 1) (r : Fin 64) (v : Fin 128), x = ix3 p0 r v := ⟨x 0, x 1, x 2, (ix3_eta x).symm⟩
    unfold YB gateE oE vnE
    unfold_payloads
    pointwise [emb_norm, lane_0, lane_1, lane_2, lane_3, lane64_0, lane64_1, lane64_2, lane64_3, laneG_0, laneG_1, laneG_2, laneG_3, headOf_0, headOf_1, headOf_2, headOf_3, placeOf_0, placeOf_1, placeOf_2, placeOf_3, dot_S64x128_S128x128_S64x128_1_0_0_1_n_n, dot_S64x128_S64x128_S128x128_0_0_1_1_n_n, dot_S64x64_S64x128_S64x128_1_0_0_1_n_n]

end Cert.KernelIdeal.Scan

end
-- ==== Proof.ScanStepB.lean ====
module

public import proofs.«01_k».proof.Proof.ScanMath
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Scan

open Cert.KernelIdeal Cert.KernelIdeal.Gen

variable (c : Dev nD) (i : grid0.Coords) (a2 : Memref sig .tc .vmem S2x64x512 .f32) (h2 : a2.IsWhole) (a3 : Memref sig .tc .vmem S2x64x512 .f32) (h3 : a3.IsWhole) (a4 : Memref sig .tc .vmem S2x64x512 .f32) (h4 : a4.IsWhole) (a5 : Memref sig .tc .vmem S2x64x512 .f32) (h5 : a5.IsWhole) (a6 : Memref sig .tc .vmem S2x64x256 .f32) (h6 : a6.IsWhole) (a7 : Memref sig .tc .vmem S2x8x128 .f32) (h7 : a7.IsWhole) (a8 : Memref sig .tc .vmem S2x64x512 .f32) (h8 : a8.IsWhole) (a9 : Memref sig .tc .vmem S2x4x128x128 .f32) (h9 : a9.IsWhole) (a10 : Memref sig .tc .vmem S1x128 .f32) (h10 : a10.IsWhole) (a11 : Memref sig .tc .vmem S2x64x512 .f32) (h11 : a11.IsWhole) (a12 : Memref sig .tc .vmem S2x4x128x128 .f32) (h12 : a12.IsWhole) (a13 : Memref sig .tc .vmem S2x4x128x128 .f32) (h13 : a13.IsWhole)
  (x0 : Vec Ideal S2x64x512 .f32) (x1 : Vec Ideal S2x64x512 .f32) (x2 : Vec Ideal S2x64x512 .f32) (x3 : Vec Ideal S2x64x512 .f32) (x4 : Vec Ideal S2x64x256 .f32) (x5 : Vec Ideal S2x8x128 .f32) (x6 : Vec Ideal S2x64x512 .f32) (x7 : Vec Ideal S2x4x128x128 .f32) (x8 : Vec Ideal S1x128 .f32) (xs : Vec Ideal S2x4x128x128 .f32)

theorem sout_B (hc : ¬cond0_0 i) : sout0_B_0 c i a2 h2 a3 h3 a4 h4 a5 h5 a6 h6 a7 h7 a8 h8 a9 h9 a10 h10 a11 h11 a12 h12 a13 h13 hc x0 x1 x2 x3 x4 x5 x6 x7 x8 xs = SB x0 x1 x3 x5 xs := by
  funext q
  unfold sout0_B_0
  rw [View.read_writes_eq_canon _ _ _ (scover0_B_0 c i a2 h2 a3 h3 a4 h4 a5 h5 a6 h6 a7 h7 a8 h8 a9 h9 a10 h10 a11 h11 a12 h12 a13 h13 hc x0 x1 x2 x3 x4 x5 x6 x7 x8 xs)]
  have hcov := scover0_B_0 c i a2 h2 a3 h3 a4 h4 a5 h5 a6 h6 a7 h7 a8 h8 a9 h9 a10 h10 a11 h11 a12 h12 a13 h13 hc x0 x1 x2 x3 x4 x5 x6 x7 x8 xs q
  revert hcov
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread]
  intro hcov
  refine canonOf (SB x0 x1 x3 x5 xs) _ ?_ q hcov
  refine ⟨?_, ?_, ?_, ?_, ?_, ?_, ?_, ?_, trivial⟩
  all_goals
    clear hcov; intro x
    obtain ⟨p0, p1, k, v, rfl⟩ : ∃ (p0 p1 : Fin 1) (k v : Fin 128), x = ix4 p0 p1 k v := ⟨x 0, x 1, x 2, x 3, (ix4_eta x).symm⟩
    unfold SB snE vnE
    unfold_payloads
    pointwise [emb_norm, lane_0, lane_1, lane_2, lane_3, lane64_0, lane64_1, lane64_2, lane64_3, laneG_0, laneG_1, laneG_2, laneG_3, headOf_0, headOf_1, headOf_2, headOf_3, placeOf_0, placeOf_1, placeOf_2, placeOf_3, dot_S64x128_S128x128_S64x128_1_0_0_1_n_n, dot_S64x128_S64x128_S128x128_0_0_1_1_n_n, dot_S64x64_S64x128_S64x128_1_0_0_1_n_n]

theorem out10_B (hc : ¬cond0_0 i) : out0_B_10 c i a2 h2 a3 h3 a4 h4 a5 h5 a6 h6 a7 h7 a8 h8 a9 h9 a10 h10 a11 h11 a12 h12 a13 h13 hc x0 x1 x2 x3 x4 x5 x6 x7 x8 xs = SB x0 x1 x3 x5 xs := by
  funext q
  unfold out0_B_10
  rw [View.read_writes_eq_canon _ _ _ (cover0_B_10 c i a2 h2 a3 h3 a4 h4 a5 h5 a6 h6 a7 h7 a8 h8 a9 h9 a10 h10 a11 h11 a12 h12 a13 h13 hc x0 x1 x2 x3 x4 x5 x6 x7 x8 xs)]
  have hcov := cover0_B_10 c i a2 h2 a3 h3 a4 h4 a5 h5 a6 h6 a7 h7 a8 h8 a9 h9 a10 h10 a11 h11 a12 h12 a13 h13 hc x0 x1 x2 x3 x4 x5 x6 x7 x8 xs q
  revert hcov
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread]
  intro hcov
  refine canonOf (SB x0 x1 x3 x5 xs) _ ?_ q hcov
  refine ⟨?_, ?_, ?_, ?_, ?_, ?_, ?_, ?_, trivial⟩
  all_goals
    clear hcov; intro x
    obtain ⟨p0, p1, k, v, rfl⟩ : ∃ (p0 p1 : Fin 1) (k v : Fin 128), x = ix4 p0 p1 k v := ⟨x 0, x 1, x 2, x 3, (ix4_eta x).symm⟩
    unfold SB snE vnE
    unfold_payloads
    pointwise [emb_norm, lane_0, lane_1, lane_2, lane_3, lane64_0, lane64_1, lane64_2, lane64_3, laneG_0, laneG_1, laneG_2, laneG_3, headOf_0, headOf_1, headOf_2, headOf_3, placeOf_0, placeOf_1, placeOf_2, placeOf_3, dot_S64x128_S128x128_S64x128_1_0_0_1_n_n, dot_S64x128_S64x128_S128x128_0_0_1_1_n_n, dot_S64x64_S64x128_S64x128_1_0_0_1_n_n]

theorem out9_B (hc : ¬cond0_0 i) : out0_B_9 c i a2 h2 a3 h3 a4 h4 a5 h5 a6 h6 a7 h7 a8 h8 a9 h9 a10 h10 a11 h11 a12 h12 a13 h13 hc x0 x1 x2 x3 x4 x5 x6 x7 x8 xs = YB x0 x1 x2 x4 x6 x8 xs := by
  funext q
  unfold out0_B_9
  rw [View.read_writes_eq_canon _ _ _ (cover0_B_9 c i a2 h2 a3 h3 a4 h4 a5 h5 a6 h6 a7 h7 a8 h8 a9 h9 a10 h10 a11 h11 a12 h12 a13 h13 hc x0 x1 x2 x3 x4 x5 x6 x7 x8 xs)]
  have hcov := cover0_B_9 c i a2 h2 a3 h3 a4 h4 a5 h5 a6 h6 a7 h7 a8 h8 a9 h9 a10 h10 a11 h11 a12 h12 a13 h13 hc x0 x1 x2 x3 x4 x5 x6 x7 x8 xs q
  revert hcov
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread]
  intro hcov
  refine canonOf (YB x0 x1 x2 x4 x6 x8 xs) _ ?_ q hcov
  refine ⟨?_, ?_, ?_, ?_, ?_, ?_, ?_, ?_, trivial⟩
  all_goals
    clear hcov; intro x
    obtain ⟨p0, r, v, rfl⟩ : ∃ (p0 : Fin 1) (r : Fin 64) (v : Fin 128), x = ix3 p0 r v := ⟨x 0, x 1, x 2, (ix3_eta x).symm⟩
    unfold YB gateE oE vnE
    unfold_payloads
    pointwise [emb_norm, lane_0, lane_1, lane_2, lane_3, lane64_0, lane64_1, lane64_2, lane64_3, laneG_0, laneG_1, laneG_2, laneG_3, headOf_0, headOf_1, headOf_2, headOf_3, placeOf_0, placeOf_1, placeOf_2, placeOf_3, dot_S64x128_S128x128_S64x128_1_0_0_1_n_n, dot_S64x128_S64x128_S128x128_0_0_1_1_n_n, dot_S64x64_S64x128_S64x128_1_0_0_1_n_n]

end Cert.KernelIdeal.Scan

end
-- ==== Proof.ScanKernel.lean ====
module

public import proofs.«01_k».proof.Proof.ScanStepA
public import proofs.«01_k».proof.Proof.ScanStepB
public import Idealize.ShloMosaic.Lib.StableHlo.RunClose
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Scan

open Cert.KernelIdeal Cert.KernelIdeal.Gen

variable (m : (ℓ : Loc nD τ sig) → Buf (Elt Ideal) ℓ)

theorem idx0 : ∀ t : Fin cfg0.N, win0_0.index t = ![0, t.val, 0] := (by decide +kernel : ∀ t : Fin grid0.N, win0_0.index t = ![0, t.val, 0])
theorem iblk0 (c : Dev nD) (t : Fin cfg0.N) : iblk m c 0 t = chunk (m ((c : Thread nD τ).loc main_arg0)) t.val := by
  have hN : t.val < 128 := lt_of_lt_of_eq t.isLt N_0
  funext q
  rw [← V_main_arg0 m c]
  unfold chunk
  show V m c main_arg0 (((cfg0.win 0).blk t).view.emb q) = _
  congr 1
  refine (funext fun a => Fin.ext ?_)
  have h1 : (q 1).val < 64 := (q 1).isLt
  fin_cases a
  · blk_simp [idx0]; rfl
  · blk_simp [idx0]
    show t.val * 64 + (q 1).val = (64 * t.val + (q 1).val) % 8192
    omega
  · blk_simp [idx0]; rfl

theorem idx1 : ∀ t : Fin cfg0.N, win0_1.index t = ![0, t.val, 0] := (by decide +kernel : ∀ t : Fin grid0.N, win0_1.index t = ![0, t.val, 0])
theorem iblk1 (c : Dev nD) (t : Fin cfg0.N) : iblk m c 1 t = chunk (m ((c : Thread nD τ).loc main_arg1)) t.val := by
  have hN : t.val < 128 := lt_of_lt_of_eq t.isLt N_0
  funext q
  rw [← V_main_arg1 m c]
  unfold chunk
  show V m c main_arg1 (((cfg0.win 1).blk t).view.emb q) = _
  congr 1
  refine (funext fun a => Fin.ext ?_)
  have h1 : (q 1).val < 64 := (q 1).isLt
  fin_cases a
  · blk_simp [idx1]; rfl
  · blk_simp [idx1]
    show t.val * 64 + (q 1).val = (64 * t.val + (q 1).val) % 8192
    omega
  · blk_simp [idx1]; rfl

theorem idx2 : ∀ t : Fin cfg0.N, win0_2.index t = ![0, t.val, 0] := (by decide +kernel : ∀ t : Fin grid0.N, win0_2.index t = ![0, t.val, 0])
theorem iblk2 (c : Dev nD) (t : Fin cfg0.N) : iblk m c 2 t = chunk (m ((c : Thread nD τ).loc main_arg2)) t.val := by
  have hN : t.val < 128 := lt_of_lt_of_eq t.isLt N_0
  funext q
  rw [← V_main_arg2 m c]
  unfold chunk
  show V m c main_arg2 (((cfg0.win 2).blk t).view.emb q) = _
  congr 1
  refine (funext fun a => Fin.ext ?_)
  have h1 : (q 1).val < 64 := (q 1).isLt
  fin_cases a
  · blk_simp [idx2]; rfl
  · blk_simp [idx2]
    show t.val * 64 + (q 1).val = (64 * t.val + (q 1).val) % 8192
    omega
  · blk_simp [idx2]; rfl

theorem idx3 : ∀ t : Fin cfg0.N, win0_3.index t = ![0, t.val, 0] := (by decide +kernel : ∀ t : Fin grid0.N, win0_3.index t = ![0, t.val, 0])
theorem iblk3 (c : Dev nD) (t : Fin cfg0.N) : iblk m c 3 t = chunk (m ((c : Thread nD τ).loc main_arg3)) t.val := by
  have hN : t.val < 128 := lt_of_lt_of_eq t.isLt N_0
  funext q
  rw [← V_main_arg3 m c]
  unfold chunk
  show V m c main_arg3 (((cfg0.win 3).blk t).view.emb q) = _
  congr 1
  refine (funext fun a => Fin.ext ?_)
  have h1 : (q 1).val < 64 := (q 1).isLt
  fin_cases a
  · blk_simp [idx3]; rfl
  · blk_simp [idx3]
    show t.val * 64 + (q 1).val = (64 * t.val + (q 1).val) % 8192
    omega
  · blk_simp [idx3]; rfl

theorem idx4 : ∀ t : Fin cfg0.N, win0_4.index t = ![0, t.val, 0] := (by decide +kernel : ∀ t : Fin grid0.N, win0_4.index t = ![0, t.val, 0])
theorem iblk4 (c : Dev nD) (t : Fin cfg0.N) : iblk m c 4 t = chunkQK (m ((c : Thread nD τ).loc main_arg4)) t.val := by
  have hN : t.val < 128 := lt_of_lt_of_eq t.isLt N_0
  funext q
  rw [← V_main_arg4 m c]
  unfold chunkQK
  show V m c main_arg4 (((cfg0.win 4).blk t).view.emb q) = _
  congr 1
  refine (funext fun a => Fin.ext ?_)
  have h1 : (q 1).val < 64 := (q 1).isLt
  fin_cases a
  · blk_simp [idx4]; rfl
  · blk_simp [idx4]
    show t.val * 64 + (q 1).val = (64 * t.val + (q 1).val) % 8192
    omega
  · blk_simp [idx4]; rfl

theorem idx5 : ∀ t : Fin cfg0.N, win0_5.index t = ![0, t.val, 0] := (by decide +kernel : ∀ t : Fin grid0.N, win0_5.index t = ![0, t.val, 0])
theorem iblk5 (c : Dev nD) (t : Fin cfg0.N) : iblk m c 5 t = chunkG (m ((c : Thread nD τ).loc main_arg5)) t.val := by
  have hN : t.val < 128 := lt_of_lt_of_eq t.isLt N_0
  funext q
  rw [← V_main_arg5 m c]
  unfold chunkG
  show V m c main_arg5 (((cfg0.win 5).blk t).view.emb q) = _
  congr 1
  refine (funext fun a => Fin.ext ?_)
  have h1 : (q 1).val < 8 := (q 1).isLt
  fin_cases a
  · blk_simp [idx5]; rfl
  · blk_simp [idx5]
    show t.val * 8 + (q 1).val = (8 * t.val + (q 1).val) % 1024
    omega
  · blk_simp [idx5]; rfl

theorem idx6 : ∀ t : Fin cfg0.N, win0_6.index t = ![0, t.val, 0] := (by decide +kernel : ∀ t : Fin grid0.N, win0_6.index t = ![0, t.val, 0])
theorem iblk6 (c : Dev nD) (t : Fin cfg0.N) : iblk m c 6 t = chunk (m ((c : Thread nD τ).loc main_arg6)) t.val := by
  have hN : t.val < 128 := lt_of_lt_of_eq t.isLt N_0
  funext q
  rw [← V_main_arg6 m c]
  unfold chunk
  show V m c main_arg6 (((cfg0.win 6).blk t).view.emb q) = _
  congr 1
  refine (funext fun a => Fin.ext ?_)
  have h1 : (q 1).val < 64 := (q 1).isLt
  fin_cases a
  · blk_simp [idx6]; rfl
  · blk_simp [idx6]
    show t.val * 64 + (q 1).val = (64 * t.val + (q 1).val) % 8192
    omega
  · blk_simp [idx6]; rfl

theorem idx7 : ∀ t : Fin cfg0.N, win0_7.index t = ![0, 0, 0, 0] := (by decide +kernel : ∀ t : Fin grid0.N, win0_7.index t = ![0, 0, 0, 0])
theorem iblk7 (c : Dev nD) (t : Fin cfg0.N) : iblk m c 7 t = (m ((c : Thread nD τ).loc main_arg7)) := by
  funext q
  rw [← V_main_arg7 m c]
  show V m c main_arg7 (((cfg0.win 7).blk t).view.emb q) = _
  congr 1
  refine (funext fun a => Fin.ext ?_)
  fin_cases a <;> blk_simp [idx7]

theorem idx8 : ∀ t : Fin cfg0.N, win0_8.index t = ![0, 0] := (by decide +kernel : ∀ t : Fin grid0.N, win0_8.index t = ![0, 0])
theorem V_main_v1 (c : Dev nD) : V m c main_v1 = m ((c : Thread nD τ).loc main_arg8) := by
  have e : V m c main_v1 = broadcastInDim S1x128 ![1] bcast_S128_S1x128_1 (shapeCast S128 (m ((c : Thread nD τ).loc main_arg8)) shapeCasts_S1x128_S128) := by
    unfold V
    simp only [hostOps0]
    after_results_entrywise []
  rw [e]
  funext q
  obtain ⟨a, b, rfl⟩ : ∃ (a : Fin 1) (b : Fin 128), q = ix2 a b := ⟨q 0, q 1, (ix2_eta q).symm⟩
  obtain rfl : a = 0 := Subsingleton.elim _ _
  pointwise
theorem iblk8 (c : Dev nD) (t : Fin cfg0.N) : iblk m c 8 t = (m ((c : Thread nD τ).loc main_arg8)) := by
  funext q
  rw [← V_main_v1 m c]
  show V m c main_v1 (((cfg0.win 8).blk t).view.emb q) = _
  congr 1
  refine (funext fun a => Fin.ext ?_)
  fin_cases a <;> blk_simp [idx8]

/-- The state before chunk `t`, of the kernel's arguments. -/
abbrev SK (c : Dev nD) (t : ℕ) : S2x4x128x128.Idx → EReal :=
  SN (m ((c : Thread nD τ).loc main_arg0)) (m ((c : Thread nD τ).loc main_arg1)) (m ((c : Thread nD τ).loc main_arg3)) (m ((c : Thread nD τ).loc main_arg5)) (m ((c : Thread nD τ).loc main_arg7)) t

/-- The gated output of chunk `t`, of the kernel's arguments. -/
abbrev YK (c : Dev nD) (t : ℕ) : S2x64x512.Idx → EReal :=
  YN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t

theorem outs_eq (c : Dev nD) : ∀ (n : ℕ) (h : n < cfg0.N), outsAt0 m c n h = (YK m c n, SK m c (n + 1), SK m c (n + 1))
  | 0, h => by
    rw [outsAt0_A m c ⟨0, h⟩ rfl, out9_A, out10_A, sout_A]
    rw [iblk0, iblk1, iblk2, iblk3, iblk4, iblk5, iblk6, iblk7, iblk8]
    rfl
  | n + 1, h => by
    have hN : cfg0.N = 128 := N_0
    have hB : ¬(⟨n + 1, h⟩ : Fin cfg0.N).val % 128 = 0 := by dsimp only; omega
    rw [outsAt0_B m c ⟨n + 1, h⟩ hB, out9_B, out10_B, sout_B]
    rw [iblk0, iblk1, iblk2, iblk3, iblk4, iblk5, iblk6, iblk8]
    have e : (outsAt0 m c ((⟨n + 1, h⟩ : Fin cfg0.N).val - 1) (Nat.lt_of_le_of_lt (Nat.sub_le _ _) h)).2.2 = SK m c (n + 1) :=
      congrArg (fun p => p.2.2) (outs_eq c n (Nat.lt_of_succ_lt h))
    rw [e]
    rfl

/-- What the kernel leaves in its first result, at row `64 t + r`. -/
theorem G9_eq (c : Dev nD) (b : Fin 2) (t : Fin 128) (r : Fin 64) (l : Fin 512) :
    Value.G9 m c (ix3 b ⟨64 * t.val + r.val, by omega⟩ l) = YK m c t.val (ix3 b r l) := by
  have hN : cfg0.N = 128 := N_0
  have hp : Value.pt9Of (ix3 b ⟨64 * t.val + r.val, by omega⟩ l) = t.val := by
    show 128 * (b.val / 2 - 0) + 1 * ((64 * t.val + r.val) / 64 - 0) + 1 * (l.val / 512 - 0) = t.val
    omega
  have hl : Value.loc9Of (ix3 b ⟨64 * t.val + r.val, by omega⟩ l) = ix3 b r l := by
    funext a; apply Fin.ext
    match a with
    | ⟨0, _⟩ => show b.val % 2 = b.val; omega
    | ⟨1, _⟩ => show (64 * t.val + r.val) % 64 = r.val; omega
    | ⟨2, _⟩ => show l.val % 512 = l.val; omega
  unfold Value.G9
  rw [dif_pos (by rw [hp, hN]; exact t.isLt), hl, ← Value.outsAt0_sweep m c _ (by rw [hp, hN]; exact t.isLt), outs_eq]
  dsimp only
  rw [hp]

/-- What the kernel leaves in its second result: the state after the last chunk. -/
theorem G10_eq (c : Dev nD) : Value.G10 m c = SK m c 128 := by
  rw [Value.G10_last, ← Value.outsAt0_sweep m c 127 (lt_of_lt_of_eq (by decide) N_0.symm), outs_eq]

end Cert.KernelIdeal.Scan

end
-- ==== Proof.ScanReference.lean ====
module

public import proofs.«01_k».proof.Proof.ScanMath
public import proofs.«01_k».proof.Proof.Gen.ReferenceIdeal.Run
public import Idealize.ShloMosaic.Lib.DynamicIndex
public import Idealize.ShloMosaic.Lib.StableHlo.RunClose
public import Idealize.ShloMosaic.Lib.Pointwise

@[expose] public section

set_option maxRecDepth 16384

noncomputable section

open Idealize.ShloMosaic Idealize.ShloMosaic.TcCoe Idealize.SL.Sem

namespace Cert.ReferenceIdeal.Scan

open Cert.ReferenceIdeal Cert.ReferenceIdeal.Gen Cert.ReferenceIdeal.Value
open Idealize.ShloMosaic.StableHlo Idealize.ShloMosaic.Tactic
open Cert.KernelIdeal.Scan (lane lane64 laneG vnE snE oE gateE headOf placeOf SB YB chunk chunkQK chunkG SN YN)

/-- The row `t` of an array of 128 chunks. -/
def row (x : S128x2x4x64x128.Idx → EReal) (t : Fin 128) : S2x4x64x128.Idx → EReal := fun q => x (ix5 t (q 0) (q 1) (q 2) (q 3))
/-- The row `t` of the masked products. -/
def rowQ (x : S128x2x4x64x64.Idx → EReal) (t : Fin 128) : S2x4x64x64.Idx → EReal := fun q => x (ix5 t (q 0) (q 1) (q 2) (q 3))
/-- The row `t` of the decays. -/
def rowG (x : S128x2x4.Idx → EReal) (t : Fin 128) : S2x4.Idx → EReal := fun q => x (ix3 t (q 0) (q 1))

/-- Where the slices of trip `t` begin. -/
theorem start5 (i : S_.Idx → BitVec 32) (t : Fin 128) (hi : i (Shape.Idx.first h_S_) = BitVec.ofNat 32 t.val) (a : Fin 5) :
    ((![i, constantI S_ 32 0#32, constantI S_ 32 0#32, constantI S_ 32 0#32, constantI S_ 32 0#32] : Fin 5 → (S_.Idx → BitVec 32)) a
      (Shape.Idx.first h_S_)).toInt = ((![t.val, 0, 0, 0, 0] : Fin 5 → ℕ) a : ℤ) := by
  fin_cases a
  · show (i (Shape.Idx.first h_S_)).toInt = _
    rw [hi]; exact toInt_ofNat_of_lt (by omega)
  all_goals rfl

theorem start3 (i : S_.Idx → BitVec 32) (t : Fin 128) (hi : i (Shape.Idx.first h_S_) = BitVec.ofNat 32 t.val) (a : Fin 3) :
    ((![i, constantI S_ 32 0#32, constantI S_ 32 0#32] : Fin 3 → (S_.Idx → BitVec 32)) a
      (Shape.Idx.first h_S_)).toInt = ((![t.val, 0, 0] : Fin 3 → ℕ) a : ℤ) := by
  fin_cases a
  · show (i (Shape.Idx.first h_S_)).toInt = _
    rw [hi]; exact toInt_ofNat_of_lt (by omega)
  all_goals rfl

theorem slices5 (t : Fin 128) : S128x2x4x64x128.Slices ![t.val, 0, 0, 0, 0] S1x2x4x64x128 :=
  ⟨rfl, fun a => by fin_cases a <;> (simp; try omega)⟩
theorem slices5q (t : Fin 128) : S128x2x4x64x64.Slices ![t.val, 0, 0, 0, 0] S1x2x4x64x64 :=
  ⟨rfl, fun a => by fin_cases a <;> (simp; try omega)⟩
theorem slices3 (t : Fin 128) : S128x2x4.Slices ![t.val, 0, 0] S1x2x4 :=
  ⟨rfl, fun a => by fin_cases a <;> (simp; try omega)⟩

theorem row_eq (x : S128x2x4x64x128.Idx → EReal) (i : S_.Idx → BitVec 32) (t : Fin 128) (hi : i (Shape.Idx.first h_S_) = BitVec.ofNat 32 t.val) :
    shapeCast S2x4x64x128 (Host.dynamicSlice S1x2x4x64x128 x (fun k => ((![i, constantI S_ 32 0#32, constantI S_ 32 0#32, constantI S_ 32 0#32, constantI S_ 32 0#32] : Fin 5 → (S_.Idx → BitVec 32)) k (Shape.Idx.first h_S_)).toInt) sliceFits_S128x2x4x64x128_S1x2x4x64x128) shapeCasts_S1x2x4x64x128_S2x4x64x128 = row x t := by
  rw [Host.dynamicSlice_eq_extractStridedSlice S1x2x4x64x128 x _ ![t.val, 0, 0, 0, 0] _ (slices5 t) (start5 i t hi)]
  funext q
  rw [← ix4_eta q]
  unfold row
  pointwise

theorem rowQ_eq (x : S128x2x4x64x64.Idx → EReal) (i : S_.Idx → BitVec 32) (t : Fin 128) (hi : i (Shape.Idx.first h_S_) = BitVec.ofNat 32 t.val) :
    shapeCast S2x4x64x64 (Host.dynamicSlice S1x2x4x64x64 x (fun k => ((![i, constantI S_ 32 0#32, constantI S_ 32 0#32, constantI S_ 32 0#32, constantI S_ 32 0#32] : Fin 5 → (S_.Idx → BitVec 32)) k (Shape.Idx.first h_S_)).toInt) sliceFits_S128x2x4x64x64_S1x2x4x64x64) shapeCasts_S1x2x4x64x64_S2x4x64x64 = rowQ x t := by
  rw [Host.dynamicSlice_eq_extractStridedSlice S1x2x4x64x64 x _ ![t.val, 0, 0, 0, 0] _ (slices5q t) (start5 i t hi)]
  funext q
  rw [← ix4_eta q]
  unfold rowQ
  pointwise

theorem rowG_eq (x : S128x2x4.Idx → EReal) (i : S_.Idx → BitVec 32) (t : Fin 128) (hi : i (Shape.Idx.first h_S_) = BitVec.ofNat 32 t.val) :
    shapeCast S2x4 (Host.dynamicSlice S1x2x4 x (fun k => ((![i, constantI S_ 32 0#32, constantI S_ 32 0#32] : Fin 3 → (S_.Idx → BitVec 32)) k (Shape.Idx.first h_S_)).toInt) sliceFits_S128x2x4_S1x2x4) shapeCasts_S1x2x4_S2x4 = rowG x t := by
  rw [Host.dynamicSlice_eq_extractStridedSlice S1x2x4 x _ ![t.val, 0, 0] _ (slices3 t) (start3 i t hi)]
  funext q
  rw [← ix2_eta q]
  unfold rowG
  pointwise

/-- The carried arrays of a valuation, at their shapes. -/
abbrev cU (V : Valuation τ sig (Elt Ideal)) : S128x2x4x64x128.Idx → EReal := V (Proc.devRef .tc main_v15_0)
abbrev cW (V : Valuation τ sig (Elt Ideal)) : S128x2x4x64x128.Idx → EReal := V (Proc.devRef .tc main_v15_1)
abbrev cQ (V : Valuation τ sig (Elt Ideal)) : S128x2x4x64x128.Idx → EReal := V (Proc.devRef .tc main_v15_2)
abbrev cP (V : Valuation τ sig (Elt Ideal)) : S128x2x4x64x64.Idx → EReal := V (Proc.devRef .tc main_v15_3)
abbrev cK (V : Valuation τ sig (Elt Ideal)) : S128x2x4x64x128.Idx → EReal := V (Proc.devRef .tc main_v15_4)
abbrev cG (V : Valuation τ sig (Elt Ideal)) : S128x2x4.Idx → EReal := V (Proc.devRef .tc main_v15_5)
abbrev cN (V : Valuation τ sig (Elt Ideal)) : S_.Idx → BitVec 32 := V (Proc.devRef .tc main_v15_6)
abbrev cS (V : Valuation τ sig (Elt Ideal)) : S2x4x128x128.Idx → EReal := V (Proc.devRef .tc main_v15_7)
abbrev cO (V : Valuation τ sig (Elt Ideal)) : S128x2x4x64x128.Idx → EReal := V (Proc.devRef .tc main_v15_8)
/-- The corrected values of a trip, at their shape. -/
def vV (V : Valuation τ sig (Elt Ideal)) : S2x4x64x128.Idx → EReal := res_main_while0b_v43 V

/-- The corrected values of a trip as its operations compute them. -/
def tV (U W : S128x2x4x64x128.Idx → EReal) (S : S2x4x128x128.Idx → EReal) (N : S_.Idx → BitVec 32) : S2x4x64x128.Idx → EReal :=
  (subf (shapeCast S2x4x64x128 (Host.dynamicSlice S1x2x4x64x128 U (fun k => ((![N, constantI S_ 32 0#32, constantI S_ 32 0#32, constantI S_ 32 0#32, constantI S_ 32 0#32] : Fin 5 → (S_.Idx → BitVec 32)) k (Shape.Idx.first h_S_)).toInt) sliceFits_S128x2x4x64x128_S1x2x4x64x128) shapeCasts_S1x2x4x64x128_S2x4x64x128) (Host.dotGeneral (φ₁ := .f32) (φ₂ := .f32) dot_S2x4x64x128_S2x4x128x128_S2x4x64x128_3_2_2_3_01_01 none (shapeCast S2x4x64x128 (Host.dynamicSlice S1x2x4x64x128 W (fun k => ((![N, constantI S_ 32 0#32, constantI S_ 32 0#32, constantI S_ 32 0#32, constantI S_ 32 0#32] : Fin 5 → (S_.Idx → BitVec 32)) k (Shape.Idx.first h_S_)).toInt) sliceFits_S128x2x4x64x128_S1x2x4x64x128) shapeCasts_S1x2x4x64x128_S2x4x64x128) S : FVec Ideal S2x4x64x128 .f32) : FVec Ideal S2x4x64x128 .f32)

/-- The state a trip leaves, as its operations compute it. -/
def tS (K : S128x2x4x64x128.Idx → EReal) (G : S128x2x4.Idx → EReal) (S : S2x4x128x128.Idx → EReal) (N : S_.Idx → BitVec 32)
    (vn : S2x4x64x128.Idx → EReal) : S2x4x128x128.Idx → EReal :=
  (addf (mulf (S : FVec Ideal S2x4x128x128 .f32) (broadcastInDim S2x4x128x128 ![0, 1, 2, 3] bcast_S2x4x1x1_S2x4x128x128_0_1_2_3 (broadcastInDim S2x4x1x1 ![0, 1] bcast_S2x4_S2x4x1x1_0_1 (Host.exp ((shapeCast S2x4 (Host.dynamicSlice S1x2x4 G (fun k => ((![N, constantI S_ 32 0#32, constantI S_ 32 0#32] : Fin 3 → (S_.Idx → BitVec 32)) k (Shape.Idx.first h_S_)).toInt) sliceFits_S128x2x4_S1x2x4) shapeCasts_S1x2x4_S2x4) : FVec Ideal S2x4 .f32)))))
    (Host.dotGeneral (φ₁ := .f32) (φ₂ := .f32) dot_S2x4x64x128_S2x4x64x128_S2x4x128x128_2_2_3_3_01_01 none (shapeCast S2x4x64x128 (Host.dynamicSlice S1x2x4x64x128 K (fun k => ((![N, constantI S_ 32 0#32, constantI S_ 32 0#32, constantI S_ 32 0#32, constantI S_ 32 0#32] : Fin 5 → (S_.Idx → BitVec 32)) k (Shape.Idx.first h_S_)).toInt) sliceFits_S128x2x4x64x128_S1x2x4x64x128) shapeCasts_S1x2x4x64x128_S2x4x64x128) vn : FVec Ideal S2x4x128x128 .f32) : FVec Ideal S2x4x128x128 .f32)

/-- The outputs after a trip, as its operations compute them. -/
def tO (O Q : S128x2x4x64x128.Idx → EReal) (P : S128x2x4x64x64.Idx → EReal) (S : S2x4x128x128.Idx → EReal) (N : S_.Idx → BitVec 32)
    (vn : S2x4x64x128.Idx → EReal) : S128x2x4x64x128.Idx → EReal :=
  id (Host.dynamicUpdateSlice (α := Elt Ideal .f32) O (broadcastInDim S1x2x4x64x128 ![1, 2, 3, 4] bcast_S2x4x64x128_S1x2x4x64x128_1_2_3_4 (addf (Host.dotGeneral (φ₁ := .f32) (φ₂ := .f32) dot_S2x4x64x128_S2x4x128x128_S2x4x64x128_3_2_2_3_01_01 none (shapeCast S2x4x64x128 (Host.dynamicSlice S1x2x4x64x128 Q (fun k => ((![N, constantI S_ 32 0#32, constantI S_ 32 0#32, constantI S_ 32 0#32, constantI S_ 32 0#32] : Fin 5 → (S_.Idx → BitVec 32)) k (Shape.Idx.first h_S_)).toInt) sliceFits_S128x2x4x64x128_S1x2x4x64x128) shapeCasts_S1x2x4x64x128_S2x4x64x128) S : FVec Ideal S2x4x64x128 .f32) (Host.dotGeneral (φ₁ := .f32) (φ₂ := .f32) dot_S2x4x64x64_S2x4x64x128_S2x4x64x128_3_2_2_3_01_01 none (shapeCast S2x4x64x64 (Host.dynamicSlice S1x2x4x64x64 P (fun k => ((![N, constantI S_ 32 0#32, constantI S_ 32 0#32, constantI S_ 32 0#32, constantI S_ 32 0#32] : Fin 5 → (S_.Idx → BitVec 32)) k (Shape.Idx.first h_S_)).toInt) sliceFits_S128x2x4x64x64_S1x2x4x64x64) shapeCasts_S1x2x4x64x64_S2x4x64x64) vn : FVec Ideal S2x4x64x128 .f32) : FVec Ideal S2x4x64x128 .f32)) (fun k => ((![N, constantI S_ 32 0#32, constantI S_ 32 0#32, constantI S_ 32 0#32, constantI S_ 32 0#32] : Fin 5 → (S_.Idx → BitVec 32)) k (Shape.Idx.first h_S_)).toInt) updateFits_S128x2x4x64x128_S1x2x4x64x128)

theorem vV_def (V : Valuation τ sig (Elt Ideal)) : vV V = tV (cU V) (cW V) (cS V) (cN V) := rfl
theorem step7_def (V : Valuation τ sig (Elt Ideal)) : (step_main_v15_7 V : S2x4x128x128.Idx → EReal) = tS (cK V) (cG V) (cS V) (cN V) (vV V) := rfl
theorem step8_def (V : Valuation τ sig (Elt Ideal)) : (step_main_v15_8 V : S128x2x4x64x128.Idx → EReal) = tO (cO V) (cQ V) (cP V) (cS V) (cN V) (vV V) := rfl

section Step
variable (N : S_.Idx → BitVec 32) (t : Fin 128) (h0 : N (Shape.Idx.first h_S_) = BitVec.ofNat 32 t.val)
include h0

theorem tV_eq (U W : S128x2x4x64x128.Idx → EReal) (S : S2x4x128x128.Idx → EReal) (b : Fin 2) (h : Fin 4) (r : Fin 64) (v : Fin 128) :
    tV U W S N (ix4 b h r v) = U (ix5 t b h r v) - ∑ k : Fin 128, W (ix5 t b h r k) * S (ix4 b h k v) := by
  unfold tV
  rw [row_eq U N t h0, row_eq W N t h0]
  pointwise [dot_S2x4x64x128_S2x4x128x128_S2x4x64x128_3_2_2_3_01_01, row]

theorem tS_eq (K : S128x2x4x64x128.Idx → EReal) (G : S128x2x4.Idx → EReal) (S : S2x4x128x128.Idx → EReal)
    (vn : S2x4x64x128.Idx → EReal) (b : Fin 2) (h : Fin 4) (k v : Fin 128) :
    tS K G S N vn (ix4 b h k v) = S (ix4 b h k v) * Ideal.exp (G (ix3 t b h)) + ∑ r : Fin 64, K (ix5 t b h r k) * vn (ix4 b h r v) := by
  unfold tS
  rw [row_eq K N t h0, rowG_eq G N t h0]
  pointwise [dot_S2x4x64x128_S2x4x64x128_S2x4x128x128_2_2_3_3_01_01, row, rowG]

theorem tO_eq (O Q : S128x2x4x64x128.Idx → EReal) (P : S128x2x4x64x64.Idx → EReal) (S : S2x4x128x128.Idx → EReal)
    (vn : S2x4x64x128.Idx → EReal) (i : Fin 128) (b : Fin 2) (h : Fin 4) (r : Fin 64) (v : Fin 128) :
    tO O Q P S N vn (ix5 i b h r v) = if i = t then
      (∑ k : Fin 128, Q (ix5 t b h r k) * S (ix4 b h k v)) + ∑ j : Fin 64, P (ix5 t b h r j) * vn (ix4 b h j v)
      else O (ix5 i b h r v) := by
  unfold tO
  rw [id_eq]
  rw [row_eq Q N t h0, rowQ_eq P N t h0]
  rw [Host.dynamicUpdateSlice_eq_updateSlice _ _ _ _ ![t.val, 0, 0, 0, 0] (fun a => by
    have e := start5 N t h0 a
    have := (slices5 t).2 a
    refine Eq.trans (congrArg (fun z : ℤ => (min (max z 0) _).toNat) e) ?_
    omega) (slices5 t)]
  rw [updateSlice_apply]
  by_cases hit : i = t
  · subst hit
    rw [if_pos rfl, dif_pos (by intro a; fin_cases a <;> (simp; try omega))]
    pointwise [dot_S2x4x64x128_S2x4x128x128_S2x4x64x128_3_2_2_3_01_01, dot_S2x4x64x64_S2x4x64x128_S2x4x64x128_3_2_2_3_01_01, row, rowQ]
  · rw [if_neg hit, dif_neg]
    intro hh
    have h1 := hh 0
    simp at h1
    exact hit (Fin.ext (by omega))

end Step

theorem ext4 {f g : S2x4x128x128.Idx → EReal} (h : ∀ (b : Fin 2) (h : Fin 4) (k v : Fin 128), f (ix4 b h k v) = g (ix4 b h k v)) : f = g := by
  funext x
  have := h (x 0) (x 1) (x 2) (x 3)
  rwa [show (ix4 (x 0) (x 1) (x 2) (x 3) : S2x4x128x128.Idx) = x from ix4_eta x] at this

section Loop
variable (m : (ℓ : Loc nD τ sig) → Buf (Elt Ideal) ℓ) (c : Dev nD)

/-- What the loop starts from. -/
abbrev E0 : Valuation τ sig (Elt Ideal) := entryContents preI m c
/-- The arguments at their shapes. -/
abbrev a0 : S2x8192x512.Idx → EReal := m ((c.tc : Thread nD τ).loc main_arg0)
abbrev a1 : S2x8192x512.Idx → EReal := m ((c.tc : Thread nD τ).loc main_arg1)
abbrev a2 : S2x8192x512.Idx → EReal := m ((c.tc : Thread nD τ).loc main_arg2)
abbrev a3 : S2x8192x512.Idx → EReal := m ((c.tc : Thread nD τ).loc main_arg3)
abbrev a4 : S2x8192x256.Idx → EReal := m ((c.tc : Thread nD τ).loc main_arg4)
abbrev a5 : S2x1024x128.Idx → EReal := m ((c.tc : Thread nD τ).loc main_arg5)
abbrev a6 : S2x8192x512.Idx → EReal := m ((c.tc : Thread nD τ).loc main_arg6)
abbrev a7 : S2x4x128x128.Idx → EReal := m ((c.tc : Thread nD τ).loc main_arg7)
abbrev a8 : S1x128.Idx → EReal := m ((c.tc : Thread nD τ).loc main_arg8)

/-- An array of rows cut into chunks and heads. -/
def cut (x : S2x8192x512.Idx → EReal) : S128x2x4x64x128.Idx → EReal :=
  transpose S128x2x4x64x128 [1, 0, 3, 2, 4] (shapeCast S2x128x64x4x128 x shapeCasts_S2x8192x512_S2x128x64x4x128) transposes_S2x128x64x4x128_S128x2x4x64x128_1_0_3_2_4
def cutQ (x : S2x8192x256.Idx → EReal) : S128x2x4x64x64.Idx → EReal :=
  transpose S128x2x4x64x64 [1, 0, 3, 2, 4] (shapeCast S2x128x64x4x64 x shapeCasts_S2x8192x256_S2x128x64x4x64) transposes_S2x128x64x4x64_S128x2x4x64x64_1_0_3_2_4
def cutG (x : S2x1024x128.Idx → EReal) : S128x2x4.Idx → EReal :=
  transpose S128x2x4 [1, 0, 2] (shapeCast S2x128x4 (extractStridedSlice S2x128x1x4 ![0, 0, 7, 4] (shapeCast S2x128x8x128 x shapeCasts_S2x1024x128_S2x128x8x128) slices_S2x128x8x128_S2x128x1x4_0_0_7_4) shapeCasts_S2x128x1x4_S2x128x4) transposes_S2x128x4_S128x2x4_1_0_2

theorem cut_eq (x : S2x8192x512.Idx → EReal) (t : Fin 128) (b : Fin 2) (h : Fin 4) (r : Fin 64) (v : Fin 128) :
    cut x (ix5 t b h r v) = chunk x t.val (ix3 b r (lane h v)) := by
  unfold cut chunk lane
  pointwise
  congr 2 <;> (apply Fin.ext; dsimp only; omega)
theorem cutQ_eq (x : S2x8192x256.Idx → EReal) (t : Fin 128) (b : Fin 2) (h : Fin 4) (r : Fin 64) (v : Fin 64) :
    cutQ x (ix5 t b h r v) = chunkQK x t.val (ix3 b r (lane64 h v)) := by
  unfold cutQ chunkQK lane64
  pointwise
  congr 2 <;> (apply Fin.ext; dsimp only; omega)
theorem cutG_eq (x : S2x1024x128.Idx → EReal) (t : Fin 128) (b : Fin 2) (h : Fin 4) :
    cutG x (ix3 t b h) = chunkG x t.val (ix3 b 7 (laneG h)) := by
  unfold cutG chunkG laneG
  pointwise
  congr 2 <;> (apply Fin.ext; dsimp only; omega)

theorem E0_0 : cU (E0 m c) = cut (a0 m c) := by
  simp only [E0, cU, entryContents, afterL_cons, afterL_nil]
  after_results_entrywise []
theorem E0_1 : cW (E0 m c) = cut (a1 m c) := by
  simp only [E0, cU, entryContents, afterL_cons, afterL_nil]
  after_results_entrywise []
theorem E0_2 : cQ (E0 m c) = cut (a2 m c) := by
  simp only [E0, cU, entryContents, afterL_cons, afterL_nil]
  after_results_entrywise []
theorem E0_3 : cP (E0 m c) = cutQ (a4 m c) := by
  simp only [E0, cU, entryContents, afterL_cons, afterL_nil]
  after_results_entrywise []
theorem E0_4 : cK (E0 m c) = cut (a3 m c) := by
  simp only [E0, cU, entryContents, afterL_cons, afterL_nil]
  after_results_entrywise []
theorem E0_5 : cG (E0 m c) = cutG (a5 m c) := by
  simp only [E0, cU, entryContents, afterL_cons, afterL_nil]
  after_results_entrywise []
theorem E0_7 : cS (E0 m c) = a7 m c := by
  simp only [E0, cU, entryContents, afterL_cons, afterL_nil]
  after_results_entrywise []

/-- The state before trip `t`. -/
abbrev SR (t : ℕ) : S2x4x128x128.Idx → EReal := SN (a0 m c) (a1 m c) (a3 m c) (a5 m c) (a7 m c) t

/-- The output of chunk `i` of the whole run. -/
abbrev OR (i : ℕ) (b : Fin 2) (h : Fin 4) (r : Fin 64) (v : Fin 128) : EReal :=
  oE (chunk (a0 m c) i) (chunk (a1 m c) i) (chunk (a2 m c) i) (chunkQK (a4 m c) i) (SR m c i) b h r v

/-- What holds before trip `t`. -/
structure Inv (t : ℕ) (V : Valuation τ sig (Elt Ideal)) : Prop where
  u : cU V = cut (a0 m c)
  w : cW V = cut (a1 m c)
  q : cQ V = cut (a2 m c)
  p : cP V = cutQ (a4 m c)
  k : cK V = cut (a3 m c)
  g : cG V = cutG (a5 m c)
  n : cN V = fun _ => BitVec.ofNat 32 t
  s : cS V = SR m c t
  o : ∀ (i : Fin 128), i.val < t → ∀ b h r v, cO V (ix5 i b h r v) = OR m c i.val b h r v

theorem inv_zero : Inv m c 0 (E0 m c) :=
  ⟨E0_0 m c, E0_1 m c, E0_2 m c, E0_3 m c, E0_4 m c, E0_5 m c, ctr_entry m c, E0_7 m c, fun i h => absurd h (Nat.not_lt_zero _)⟩

theorem inv_succ (t : Fin 128) (V : Valuation τ sig (Elt Ideal)) (hV : Inv m c t.val V) : Inv m c (t.val + 1) (STEP V) := by
  have h0 : cN V (Shape.Idx.first h_S_) = BitVec.ofNat 32 t.val := congrFun hV.n _
  have hv : ∀ b h r v, vV V (ix4 b h r v) = vnE (chunk (a0 m c) t.val) (chunk (a1 m c) t.val) (SR m c t.val) b h r v := fun b h r v => by
    rw [vV_def, tV_eq _ t h0, hV.u, hV.w, hV.s, cut_eq]
    simp only [cut_eq]
    rfl
  refine ⟨(STEP_main_v15_0 V).trans hV.u, (STEP_main_v15_1 V).trans hV.w, (STEP_main_v15_2 V).trans hV.q, (STEP_main_v15_3 V).trans hV.p,
    (STEP_main_v15_4 V).trans hV.k, (STEP_main_v15_5 V).trans hV.g, ?_, ?_, ?_⟩
  · refine (STEP_main_v15_6 V).trans ?_
    funext j
    show IntOp.addi (cN V j) 1#32 = _
    rw [hV.n]
    exact (BitVec.ofNat_add_ofNat ..)
  · refine (STEP_main_v15_7 V).trans ((step7_def V).trans ?_)
    refine ext4 fun b h k v => ?_
    rw [tS_eq _ t h0, hV.k, hV.g, hV.s, cutG_eq]
    simp only [cut_eq, hv]
    rfl
  · intro i hit b h r v
    refine (congrFun ((STEP_main_v15_8 V).trans (step8_def V)) _).trans ?_
    rw [tO_eq _ t h0]
    by_cases e : i = t
    · subst e
      rw [if_pos rfl, hV.q, hV.p, hV.s]
      simp only [cut_eq, cutQ_eq, hv]
      rfl
    · rw [if_neg e]
      exact hV.o i (by have : i.val ≠ t.val := fun h => e (Fin.ext h)
                       omega) b h r v

theorem inv (t : ℕ) (ht : t ≤ 128) : Inv m c t (STEP^[t] (E0 m c)) := by
  induction t with
  | zero => exact inv_zero m c
  | succ t ih =>
    rw [Function.iterate_succ_apply']
    exact inv_succ m c ⟨t, by omega⟩ _ (ih (by omega))

/-- What the reference leaves in its second result: the state after the last chunk. -/
theorem state_eq : cS (STEP^[128] (E0 m c)) = SR m c 128 := (inv m c 128 (le_refl _)).s

end Loop

section Out
/-- The gated output as the operations after the loop compute it. -/
def tY (O : S128x2x4x64x128.Idx → EReal) (Z : S2x8192x512.Idx → EReal) (g : S1x128.Idx → EReal) : S2x8192x512.Idx → EReal :=
  shapeCast (α := Elt Ideal .f32) S2x8192x512 (mulf (F := Ideal) (φ := .f32) (mulf (mulf (shapeCast S2x8192x4x128 (transpose S2x128x64x4x128 [1, 0, 3, 2, 4] (O : FVec Ideal S128x2x4x64x128 .f32) transposes_S128x2x4x64x128_S2x128x64x4x128_1_0_3_2_4) shapeCasts_S2x128x64x4x128_S2x8192x4x128) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (shapeCast S2x8192x4x128 (transpose S2x128x64x4x128 [1, 0, 3, 2, 4] (O : FVec Ideal S128x2x4x64x128 .f32) transposes_S128x2x4x64x128_S2x128x64x4x128_1_0_3_2_4) shapeCasts_S2x128x64x4x128_S2x8192x4x128) (shapeCast S2x8192x4x128 (transpose S2x128x64x4x128 [1, 0, 3, 2, 4] (O : FVec Ideal S128x2x4x64x128 .f32) transposes_S128x2x4x64x128_S2x128x64x4x128_1_0_3_2_4) shapeCasts_S2x128x64x4x128_S2x8192x4x128)) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x1x128_S2x8192x4x128_0_1_2_3 (broadcastInDim S1x1x1x128 ![3] bcast_S128_S1x1x1x128_3 (shapeCast S128 (g : FVec Ideal S1x128 .f32) shapeCasts_S1x128_S128)))) (mulf (shapeCast S2x8192x4x128 (Z : FVec Ideal S2x8192x512 .f32) shapeCasts_S2x8192x512_S2x8192x4x128) (Host.divf (broadcastInDim S2x8192x4x128 ![] bcast_S_S2x8192x4x128 (constant S_ .f32 0x3F800000#32)) (addf (broadcastInDim S2x8192x4x128 ![] bcast_S_S2x8192x4x128 (constant S_ .f32 0x3F800000#32)) (Host.exp (Host.negf (shapeCast S2x8192x4x128 (Z : FVec Ideal S2x8192x512 .f32) shapeCasts_S2x8192x512_S2x8192x4x128))))))) shapeCasts_S2x8192x4x128_S2x8192x512

theorem out_def (V : Valuation τ sig (Elt Ideal)) : (out_main_v35 V : S2x8192x512.Idx → EReal) = tY (cO V) (V (Proc.devRef .tc main_arg6)) (V (Proc.devRef .tc main_arg8)) := rfl

theorem tY_eq (O : S128x2x4x64x128.Idx → EReal) (Z : S2x8192x512.Idx → EReal) (g : S1x128.Idx → EReal) (b : Fin 2) (t : Fin 128) (r : Fin 64) (h : Fin 4) (v : Fin 128) :
    tY O Z g (ix3 b ⟨64 * t.val + r.val, by omega⟩ (lane h v)) = gateE (fun x => O (ix5 t b h r x)) (g (ix2 0 v)) (chunk Z t.val (ix3 b r (lane h v))) v := by
  unfold tY gateE chunk lane
  pointwise
  have e1 : ∀ p, (⟨(64 * t.val + r.val) % 8192, p⟩ : Fin 8192) = ⟨64 * t.val + r.val, by omega⟩ := fun p => Fin.ext (Nat.mod_eq_of_lt (by omega))
  have e2 : ∀ p, (⟨h.val * 128 + v.val, p⟩ : Fin 512) = ⟨128 * h.val + v.val, by omega⟩ := fun p => Fin.ext (by dsimp only; omega)
  rw [e1, e2, zero_sub]
end Out

end Cert.ReferenceIdeal.Scan

end
-- ==== Proof.ScanClaim.lean ====
module

public import proofs.«01_k».proof.Defs
public import proofs.«01_k».proof.Proof.ScanKernel
public import proofs.«01_k».proof.Proof.ScanReference
public import proofs.«01_k».proof.Proof.Gen.KernelIdeal
public import proofs.«01_k».proof.Proof.Gen.KernelIdeal.Frame
public import proofs.«01_k».proof.Proof.Gen.ReferenceIdeal
public import Idealize.ShloMosaic.Lib.Quiescent

@[expose] public section

set_option maxRecDepth 16384

noncomputable section

open Idealize.ShloMosaic Idealize.ShloMosaic.TcCoe Idealize.SL.Sem

namespace Cert.ScanClaim

open Cert.KernelIdeal.Scan (lane headOf placeOf gateE YN SN)
open Cert.ReferenceIdeal.Scan (tY tY_eq out_def inv state_eq cO a0 a1 a2 a3 a4 a5 a6 a7 a8 E0)

/-- The reference's run ends with the arguments as they were and every counter at zero. -/
theorem reference_frame : Cert.quiescent_ReferenceIdeal := fun (m : (ℓ : Loc Cert.ReferenceIdeal.nD Cert.ReferenceIdeal.τ Cert.ReferenceIdeal.sig) → Buf (Elt Ideal) ℓ)
    (g : Dev Cert.ReferenceIdeal.nD → PrngReg) _ =>
  (θ_run Cert.ReferenceIdeal.defs _ _).mono (fun r h => ⟨fun c => (h c).2.2, sem_eq_zero_of_no_sems (by decide) r.2⟩)
    (Cert.ReferenceIdeal.Value.run (F := Ideal) m g)

/-- A row of the results, as chunk, row in the chunk, head and place in the head. -/
theorem coords (q : Cert.ReferenceIdeal.S2x8192x512.Idx) : ∃ (b : Fin 2) (t : Fin 128) (r : Fin 64) (h : Fin 4) (v : Fin 128),
    q = ix3 b ⟨64 * t.val + r.val, by omega⟩ (lane h v) := by
  have h1 : (q 1).val < 8192 := (q 1).isLt
  have h2 : (q 2).val < 512 := (q 2).isLt
  refine ⟨q 0, ⟨(q 1).val / 64, by omega⟩, ⟨(q 1).val % 64, Nat.mod_lt _ (by decide)⟩, ⟨(q 2).val / 128, by omega⟩, ⟨(q 2).val % 128, Nat.mod_lt _ (by decide)⟩, ?_⟩
  funext a
  fin_cases a
  · rfl
  · exact Fin.ext (show (q 1).val = 64 * ((q 1).val / 64) + (q 1).val % 64 by omega)
  · exact Fin.ext (show (q 2).val = 128 * ((q 2).val / 128) + (q 2).val % 128 by omega)

theorem headOf_lane (h : Fin 4) (v : Fin 128) : headOf (lane h v) = h := Fin.ext (by simp only [headOf, lane]; omega)
theorem placeOf_lane (h : Fin 4) (v : Fin 128) : placeOf (lane h v) = v := Fin.ext (by simp only [placeOf, lane]; omega)

/-- The recurrence reaches the same results on both sides. -/
theorem algebraic : Cert.algebraic_KernelIdeal_ReferenceIdeal := by
  intro m g m' g' _ hag
  refine ⟨fun c => Cert.KernelIdeal.Value.G9 m c, fun c => Cert.KernelIdeal.Value.G10 m c, Cert.KernelIdeal.Value.run (F := Ideal) m g, ?_⟩
  refine (θ_run Cert.ReferenceIdeal.defs _ _).mono (fun r h c => ⟨(h c).1.trans ?_, (h c).2.1.trans ?_, (h c).2.2⟩)
    (Cert.ReferenceIdeal.Value.run (F := Ideal) m' g')
  · obtain ⟨e0, e1, e2, e3, e4, e5, e6, e7, e8⟩ := hag c
    have H := inv m' c 128 (le_refl _)
    refine (out_def _).trans ?_
    funext q
    obtain ⟨b, t, r, h, v, rfl⟩ := coords q
    rw [tY_eq, Cert.ReferenceIdeal.Value.iter_main_arg6, Cert.ReferenceIdeal.Value.iter_main_arg8]
    have ho : (fun x => cO (Cert.ReferenceIdeal.Value.STEP^[128] (E0 m' c)) (ix5 t b h r x)) = Cert.ReferenceIdeal.Scan.OR m' c t.val b h r :=
      funext fun x => H.o t t.isLt b h r x
    refine (congrArg (fun f => gateE f _ _ v) ho).trans ?_
    refine Eq.trans ?_ (Cert.KernelIdeal.Scan.G9_eq m c b t r (lane h v)).symm
    unfold Cert.KernelIdeal.Scan.YK YN Cert.KernelIdeal.Scan.YB Cert.ReferenceIdeal.Scan.OR Cert.ReferenceIdeal.Scan.SR
      a0 a1 a2 a3 a4 a5 a7
    rw [e0, e1, e2, e3, e4, e5, e6, e7, e8]
    show gateE _ _ _ v = gateE (Cert.KernelIdeal.Scan.oE _ _ _ _ _ b (headOf (lane h v)) r) ((m (c.tc.loc Cert.KernelIdeal.main_arg8) : Cert.KernelIdeal.S1x128.Idx → EReal) (ix2 0 (placeOf (lane h v)))) _ (placeOf (lane h v))
    rw [headOf_lane, placeOf_lane]
  · obtain ⟨e0, e1, e2, e3, e4, e5, e6, e7, e8⟩ := hag c
    refine (state_eq m' c).trans ?_
    refine Eq.trans ?_ (Cert.KernelIdeal.Scan.G10_eq m c).symm
    unfold Cert.KernelIdeal.Scan.SK Cert.ReferenceIdeal.Scan.SR a0 a1 a3 a5 a7
    rw [e0, e1, e3, e5, e7]

end Cert.ScanClaim

end
-- ==== Proof.MergeMath.lean ====
module

public import Idealize.ShloMosaic.Lib.Pointwise
public import Idealize.ShloMosaic.Lib.Tactic

@[expose] public section

noncomputable section

open Idealize.ShloMosaic

namespace Cert.MergeMath

/-- The logistic function, as both sides write it. -/
def sg (a : EReal) : EReal := Ideal.div 1 (1 + Ideal.exp (-a))

/-- The gated sum of the two branches carried up to the model's width, at place `d` of a row: `ya`, `yb` are the branches'
    rows and `g` the row of gate values. -/
def mE (ya yb : Fin 512 → EReal) (g : Fin 2048 → EReal) (wa wb : Fin 512 → Fin 1024 → EReal) (d : Fin 1024) : EReal :=
  sg (g ⟨d.val, by omega⟩) * (∑ k, ya k * wa k d) + sg (g ⟨1024 + d.val, by omega⟩) * (∑ k, yb k * wb k d)

/-- The residual row `x` with the merged branches added, at place `e`. -/
def xE (x : Fin 1024 → EReal) (ya yb : Fin 512 → EReal) (g : Fin 2048 → EReal) (wa wb : Fin 512 → Fin 1024 → EReal)
    (wo : Fin 1024 → Fin 1024 → EReal) (e : Fin 1024) : EReal :=
  x e + ∑ d, mE ya yb g wa wb d * wo d e

/-- A row scaled to mean square one and by the weights `w`, at place `e`. -/
def nE (x w : Fin 1024 → EReal) (e : Fin 1024) : EReal :=
  x e * Ideal.rsqrt (Ideal.div (∑ d, x d * x d) (Ideal.ofBits FTy.f32 1149239296#32) + Ideal.ofBits FTy.f32 897988541#32) * w e

/-- The batch of row `n` of the flattened array. -/
def rowB (n : Fin 16384) : Fin 2 := ⟨n.val / 8192, by omega⟩

/-- The place in its batch of row `n` of the flattened array. -/
def rowL (n : Fin 16384) : Fin 8192 := ⟨n.val % 8192, Nat.mod_lt _ (by decide)⟩

end Cert.MergeMath

end
-- ==== Proof.MergeKernel.lean ====
module

public import proofs.«01_k».proof.Proof.MergeMath
public import proofs.«01_k».proof.Proof.Gen.Kernel2Ideal
public import proofs.«01_k».proof.Proof.Gen.Kernel2Ideal.Frame
public import proofs.«01_k».proof.Proof.Gen.Kernel2Ideal.Value
public import Idealize.ShloMosaic.Lib.StableHlo.RunClose
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Merge

open Cert.Kernel2Ideal Cert.Kernel2Ideal.Gen Cert.MergeMath

section Body

variable (x0 : Vec Ideal S512x1024 .f32) (x1 : Vec Ideal S512x512 .f32) (x2 : Vec Ideal S512x512 .f32)
  (x3 : Vec Ideal S512x2048 .f32) (x4 : Vec Ideal S512x1024 .bf16) (x5 : Vec Ideal S512x1024 .bf16)
  (x6 : Vec Ideal S1024x1024 .bf16) (x7 : Vec Ideal S1x1024 .f32)

/-- Row `r` of the block of the first result. -/
abbrev bX (r : Fin 512) (e : Fin 1024) : EReal :=
  xE (fun d => x0 (ix2 r d)) (fun k => x1 (ix2 r k)) (fun k => x2 (ix2 r k)) (fun k => x3 (ix2 r k))
    (fun k d => x4 (ix2 k d)) (fun k d => x5 (ix2 k d)) (fun d e => x6 (ix2 d e)) e

theorem merged_eq (r : Fin 512) (d : Fin 1024) :
    k0_pay6 x0 x1 x2 x3 x4 x5 x6 x7 (ix2 r d) = mE (fun k => x1 (ix2 r k)) (fun k => x2 (ix2 r k)) (fun k => x3 (ix2 r k))
    (fun k d => x4 (ix2 k d)) (fun k d => x5 (ix2 k d)) d := by
  unfold k0_pay6 k0_pay3 mE sg
  pointwise [dot_S512x512_S512x1024_S512x1024_1_0_0_1_n_n]
  simp only [zero_sub, zero_add]

theorem x_eq (r : Fin 512) (e : Fin 1024) :
    k0_pay1 (k0_pay6 x0 x1 x2 x3 x4 x5 x6 x7) (k0_pay7 x0 x1 x2 x3 x4 x5 x6 x7) (k0_pay8 x0 x1 x2 x3 x4 x5 x6 x7) (ix2 r e)
      = bX x0 x1 x2 x3 x4 x5 x6 r e := by
  unfold k0_pay1 k0_pay7 k0_pay8 k0_pay4 k0_pay5 bX xE
  pointwise [dot_S512x1024_S1024x1024_S512x1024_1_0_0_1_n_n]
  simp only [merged_eq, zero_add]

theorem n_eq (r : Fin 512) (e : Fin 1024) :
    k0_pay2 (k0_pay6 x0 x1 x2 x3 x4 x5 x6 x7) (k0_pay7 x0 x1 x2 x3 x4 x5 x6 x7) (k0_pay8 x0 x1 x2 x3 x4 x5 x6 x7) (View.ld x7 r0_4) (ix2 r e)
      = nE (bX x0 x1 x2 x3 x4 x5 x6 r) (fun e => x7 (ix2 0 e)) e := by
  unfold k0_pay2 nE
  pointwise
  simp only [x_eq, zero_add]

theorem out8_eq (r : Fin 512) (e : Fin 1024) : out0_8 x0 x1 x2 x3 x4 x5 x6 x7 (ix2 r e) = bX x0 x1 x2 x3 x4 x5 x6 r e := by
  unfold out0_8
  refine View.canon_apply_of_pieces (Val := Elt Ideal) (e := .f32) (fun q : S512x1024.Idx => bX x0 x1 x2 x3 x4 x5 x6 (q 0) (q 1)) _ ?_ (ix2 r e) (cover0_8 _ _)
  intro pc hpc
  rcases List.mem_cons.mp hpc with rfl | hpc
  · intro x
    obtain ⟨r, e, rfl⟩ : ∃ (r : Fin 512) (e : Fin 1024), x = ix2 r e := ⟨x 0, x 1, (ix2_eta x).symm⟩
    refine (x_eq x0 x1 x2 x3 x4 x5 x6 x7 r e).trans ?_
    dsimp only
    congr 1
    · exact Fin.ext (show r.val = 0 + 1 * r.val by omega)
    · exact Fin.ext (show e.val = 0 + 1 * e.val by omega)
  nomatch hpc

theorem out9_eq (r : Fin 512) (e : Fin 1024) : out0_9 x0 x1 x2 x3 x4 x5 x6 x7 (ix2 r e) = nE (bX x0 x1 x2 x3 x4 x5 x6 r) (fun e => x7 (ix2 0 e)) e := by
  unfold out0_9
  refine View.canon_apply_of_pieces (Val := Elt Ideal) (e := .f32) (fun q : S512x1024.Idx => nE (bX x0 x1 x2 x3 x4 x5 x6 (q 0)) (fun e => x7 (ix2 0 e)) (q 1)) _ ?_ (ix2 r e) (cover0_9 _ _)
  intro pc hpc
  rcases List.mem_cons.mp hpc with rfl | hpc
  · intro x
    obtain ⟨r, e, rfl⟩ : ∃ (r : Fin 512) (e : Fin 1024), x = ix2 r e := ⟨x 0, x 1, (ix2_eta x).symm⟩
    refine (n_eq x0 x1 x2 x3 x4 x5 x6 x7 r e).trans ?_
    dsimp only
    congr 1
    · congr 1; exact Fin.ext (show r.val = 0 + 1 * r.val by omega)
    · exact Fin.ext (show e.val = 0 + 1 * e.val by omega)
  nomatch hpc

end Body

section Arrays

open Idealize.ShloMosaic.StableHlo

variable (m : (ℓ : Loc nD τ sig) → Buf (Elt Ideal) ℓ) (c : Dev nD)

/-- Row `512 t + r` of the flattened array. -/
def row (t : Fin cfg0.N) (r : Fin 512) : Fin 16384 := ⟨512 * t.val + r.val, by have := lt_of_lt_of_eq t.isLt N_0; omega⟩

/-- A flattened array read at a row and a place. -/
theorem flat_at {w : ℕ} (A : (Shape.mk 3 ![2, 8192, w]).Idx → EReal) (h : (Shape.mk 3 ![2, 8192, w]).ShapeCasts (Shape.mk 2 ![16384, w])) (n : Fin 16384) (e : Fin w) :
    shapeCast (α := EReal) (Shape.mk 2 ![16384, w]) A h (ix2 n e) = A (ix3 (rowB n) (rowL n) e) := by
  refine shapeCast_apply _ _ _ _ ?_
  rw [Shape.rowMajor_val_three, Shape.rowMajor_val_two]
  show ((n.val / 8192) * 8192 + n.val % 8192) * w + e.val = n.val * w + e.val
  rw [Nat.div_add_mod']

theorem weight_512 (A : FVec Ideal S1x512x1024 .f32) (k : Fin 512) (d : Fin 1024) :
    truncf (F := Ideal) .bf16 (shapeCast (α := Elt Ideal .f32) S512x1024 A shapeCasts_S1x512x1024_S512x1024) bitsLt_bf16_f32 (ix2 k d) = A (ix3 0 k d) := by
  pointwise

theorem weight_1024 (A : FVec Ideal S1x1024x1024 .f32) (k : Fin 1024) (d : Fin 1024) :
    truncf (F := Ideal) .bf16 (shapeCast (α := Elt Ideal .f32) S1024x1024 A shapeCasts_S1x1024x1024_S1024x1024) bitsLt_bf16_f32 (ix2 k d) = A (ix3 0 k d) := by
  pointwise

theorem scale_at (A : FVec Ideal S1x1024 .f32) (d : Fin 1024) :
    broadcastInDim (α := Elt Ideal .f32) S1x1024 ![1] bcast_S1024_S1x1024_1 (shapeCast (α := Elt Ideal .f32) S1024 A shapeCasts_S1x1024_S1024) (ix2 0 d) = A (ix2 0 d) := by
  pointwise

theorem V_main_v0 : V m c main_v0 = shapeCast (α := Elt Ideal .f32) S16384x1024 (m ((c : Thread nD τ).loc main_arg0)) shapeCasts_S2x8192x1024_S16384x1024 := by
  unfold V
  simp only [hostOps0]
  after_results_entrywise []
theorem idx0 : ∀ t : Fin cfg0.N, win0_0.index t = ![t.val, 0] := (by decide +kernel : ∀ t : Fin grid0.N, win0_0.index t = ![t.val, 0])
theorem iblk0 (t : Fin cfg0.N) (r : Fin 512) (k : Fin 1024) : iblk m c 0 t (ix2 r k) = (m ((c : Thread nD τ).loc main_arg0) : S2x8192x1024.Idx → EReal) (ix3 (rowB (row t r)) (rowL (row t r)) k) := by
  refine Eq.trans (Eq.trans ?_ (congrFun (V_main_v0 m c) (ix2 (row t r) k))) (flat_at _ shapeCasts_S2x8192x1024_S16384x1024 _ _)
  show V m c main_v0 (((cfg0.win 0).blk t).view.emb (ix2 r k)) = _
  congr 1
  refine (funext fun a => Fin.ext ?_)
  fin_cases a
  · blk_simp [idx0]
    show t.val * 512 + r.val = 512 * t.val + r.val
    omega
  · blk_simp [idx0]; rfl

theorem V_main_v1 : V m c main_v1 = shapeCast (α := Elt Ideal .f32) S16384x512 (m ((c : Thread nD τ).loc main_arg1)) shapeCasts_S2x8192x512_S16384x512 := by
  unfold V
  simp only [hostOps0]
  after_results_entrywise []
theorem idx1 : ∀ t : Fin cfg0.N, win0_1.index t = ![t.val, 0] := (by decide +kernel : ∀ t : Fin grid0.N, win0_1.index t = ![t.val, 0])
theorem iblk1 (t : Fin cfg0.N) (r : Fin 512) (k : Fin 512) : iblk m c 1 t (ix2 r k) = (m ((c : Thread nD τ).loc main_arg1) : S2x8192x512.Idx → EReal) (ix3 (rowB (row t r)) (rowL (row t r)) k) := by
  refine Eq.trans (Eq.trans ?_ (congrFun (V_main_v1 m c) (ix2 (row t r) k))) (flat_at _ shapeCasts_S2x8192x512_S16384x512 _ _)
  show V m c main_v1 (((cfg0.win 1).blk t).view.emb (ix2 r k)) = _
  congr 1
  refine (funext fun a => Fin.ext ?_)
  fin_cases a
  · blk_simp [idx1]
    show t.val * 512 + r.val = 512 * t.val + r.val
    omega
  · blk_simp [idx1]; rfl

theorem V_main_v2 : V m c main_v2 = shapeCast (α := Elt Ideal .f32) S16384x512 (m ((c : Thread nD τ).loc main_arg2)) shapeCasts_S2x8192x512_S16384x512 := by
  unfold V
  simp only [hostOps0]
  after_results_entrywise []
theorem idx2 : ∀ t : Fin cfg0.N, win0_2.index t = ![t.val, 0] := (by decide +kernel : ∀ t : Fin grid0.N, win0_2.index t = ![t.val, 0])
theorem iblk2 (t : Fin cfg0.N) (r : Fin 512) (k : Fin 512) : iblk m c 2 t (ix2 r k) = (m ((c : Thread nD τ).loc main_arg2) : S2x8192x512.Idx → EReal) (ix3 (rowB (row t r)) (rowL (row t r)) k) := by
  refine Eq.trans (Eq.trans ?_ (congrFun (V_main_v2 m c) (ix2 (row t r) k))) (flat_at _ shapeCasts_S2x8192x512_S16384x512 _ _)
  show V m c main_v2 (((cfg0.win 2).blk t).view.emb (ix2 r k)) = _
  congr 1
  refine (funext fun a => Fin.ext ?_)
  fin_cases a
  · blk_simp [idx2]
    show t.val * 512 + r.val = 512 * t.val + r.val
    omega
  · blk_simp [idx2]; rfl

theorem V_main_v3 : V m c main_v3 = shapeCast (α := Elt Ideal .f32) S16384x2048 (m ((c : Thread nD τ).loc main_arg3)) shapeCasts_S2x8192x2048_S16384x2048 := by
  unfold V
  simp only [hostOps0]
  after_results_entrywise []
theorem idx3 : ∀ t : Fin cfg0.N, win0_3.index t = ![t.val, 0] := (by decide +kernel : ∀ t : Fin grid0.N, win0_3.index t = ![t.val, 0])
theorem iblk3 (t : Fin cfg0.N) (r : Fin 512) (k : Fin 2048) : iblk m c 3 t (ix2 r k) = (m ((c : Thread nD τ).loc main_arg3) : S2x8192x2048.Idx → EReal) (ix3 (rowB (row t r)) (rowL (row t r)) k) := by
  refine Eq.trans (Eq.trans ?_ (congrFun (V_main_v3 m c) (ix2 (row t r) k))) (flat_at _ shapeCasts_S2x8192x2048_S16384x2048 _ _)
  show V m c main_v3 (((cfg0.win 3).blk t).view.emb (ix2 r k)) = _
  congr 1
  refine (funext fun a => Fin.ext ?_)
  fin_cases a
  · blk_simp [idx3]
    show t.val * 512 + r.val = 512 * t.val + r.val
    omega
  · blk_simp [idx3]; rfl

theorem V_main_v5 : V m c main_v5 = truncf (F := Ideal) .bf16 (shapeCast (α := Elt Ideal .f32) S512x1024 (m ((c : Thread nD τ).loc main_arg4)) shapeCasts_S1x512x1024_S512x1024) bitsLt_bf16_f32 := by
  unfold V
  simp only [hostOps0]
  after_results_entrywise []
theorem idx4 : ∀ t : Fin cfg0.N, win0_4.index t = ![0, 0] := (by decide +kernel : ∀ t : Fin grid0.N, win0_4.index t = ![0, 0])
theorem iblk4 (t : Fin cfg0.N) (k : Fin 512) (d : Fin 1024) : iblk m c 4 t (ix2 k d) = (m ((c : Thread nD τ).loc main_arg4) : S1x512x1024.Idx → EReal) (ix3 0 k d) := by
  have e := V_main_v5 m c
  have e2 := congrFun e (ix2 k d)
  refine Eq.trans (Eq.trans ?_ e2) ?_
  · show V m c main_v5 (((cfg0.win 4).blk t).view.emb (ix2 k d)) = _
    congr 1
    refine (funext fun a => Fin.ext ?_)
    fin_cases a <;> (blk_simp [idx4]; try rfl)
  · exact weight_512 _ k d

theorem V_main_v7 : V m c main_v7 = truncf (F := Ideal) .bf16 (shapeCast (α := Elt Ideal .f32) S512x1024 (m ((c : Thread nD τ).loc main_arg5)) shapeCasts_S1x512x1024_S512x1024) bitsLt_bf16_f32 := by
  unfold V
  simp only [hostOps0]
  after_results_entrywise []
theorem idx5 : ∀ t : Fin cfg0.N, win0_5.index t = ![0, 0] := (by decide +kernel : ∀ t : Fin grid0.N, win0_5.index t = ![0, 0])
theorem iblk5 (t : Fin cfg0.N) (k : Fin 512) (d : Fin 1024) : iblk m c 5 t (ix2 k d) = (m ((c : Thread nD τ).loc main_arg5) : S1x512x1024.Idx → EReal) (ix3 0 k d) := by
  have e := V_main_v7 m c
  have e2 := congrFun e (ix2 k d)
  refine Eq.trans (Eq.trans ?_ e2) ?_
  · show V m c main_v7 (((cfg0.win 5).blk t).view.emb (ix2 k d)) = _
    congr 1
    refine (funext fun a => Fin.ext ?_)
    fin_cases a <;> (blk_simp [idx5]; try rfl)
  · exact weight_512 _ k d

theorem V_main_v9 : V m c main_v9 = truncf (F := Ideal) .bf16 (shapeCast (α := Elt Ideal .f32) S1024x1024 (m ((c : Thread nD τ).loc main_arg6)) shapeCasts_S1x1024x1024_S1024x1024) bitsLt_bf16_f32 := by
  unfold V
  simp only [hostOps0]
  after_results_entrywise []
theorem idx6 : ∀ t : Fin cfg0.N, win0_6.index t = ![0, 0] := (by decide +kernel : ∀ t : Fin grid0.N, win0_6.index t = ![0, 0])
theorem iblk6 (t : Fin cfg0.N) (k : Fin 1024) (d : Fin 1024) : iblk m c 6 t (ix2 k d) = (m ((c : Thread nD τ).loc main_arg6) : S1x1024x1024.Idx → EReal) (ix3 0 k d) := by
  have e := V_main_v9 m c
  have e2 := congrFun e (ix2 k d)
  refine Eq.trans (Eq.trans ?_ e2) ?_
  · show V m c main_v9 (((cfg0.win 6).blk t).view.emb (ix2 k d)) = _
    congr 1
    refine (funext fun a => Fin.ext ?_)
    fin_cases a <;> (blk_simp [idx6]; try rfl)
  · exact weight_1024 _ k d

theorem V_main_v11 : V m c main_v11 = broadcastInDim (α := Elt Ideal .f32) S1x1024 ![1] bcast_S1024_S1x1024_1 (shapeCast (α := Elt Ideal .f32) S1024 (m ((c : Thread nD τ).loc main_arg7)) shapeCasts_S1x1024_S1024) := by
  unfold V
  simp only [hostOps0]
  after_results_entrywise []
theorem idx7 : ∀ t : Fin cfg0.N, win0_7.index t = ![0, 0] := (by decide +kernel : ∀ t : Fin grid0.N, win0_7.index t = ![0, 0])
theorem iblk7 (t : Fin cfg0.N) (d : Fin 1024) : iblk m c 7 t (ix2 0 d) = (m ((c : Thread nD τ).loc main_arg7) : S1x1024.Idx → EReal) (ix2 0 d) := by
  have e2 := congrFun (V_main_v11 m c) (ix2 0 d)
  refine Eq.trans (Eq.trans ?_ e2) ?_
  · show V m c main_v11 (((cfg0.win 7).blk t).view.emb (ix2 0 d)) = _
    congr 1
    refine (funext fun a => Fin.ext ?_)
    fin_cases a <;> (blk_simp [idx7]; try rfl)
  · exact scale_at _ d

end Arrays

/-- The first result's row `n`, of the arguments. -/
def gX (A0 : S2x8192x1024.Idx → EReal) (A1 A2 : S2x8192x512.Idx → EReal) (A3 : S2x8192x2048.Idx → EReal)
    (A4 A5 : S1x512x1024.Idx → EReal) (A6 : S1x1024x1024.Idx → EReal) (n : Fin 16384) (e : Fin 1024) : EReal :=
  xE (fun d => A0 (ix3 (rowB n) (rowL n) d)) (fun k => A1 (ix3 (rowB n) (rowL n) k)) (fun k => A2 (ix3 (rowB n) (rowL n) k))
    (fun k => A3 (ix3 (rowB n) (rowL n) k)) (fun k d => A4 (ix3 0 k d)) (fun k d => A5 (ix3 0 k d)) (fun d e => A6 (ix3 0 d e)) e

section Result

variable (m : (ℓ : Loc nD τ sig) → Buf (Elt Ideal) ℓ) (c : Dev nD)

/-- The kernel's first result. -/
def GX : S16384x1024.Idx → EReal := fun q =>
  gX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (q 0) (q 1)

/-- The kernel's second result. -/
def GN : S16384x1024.Idx → EReal := fun q =>
  nE (fun e => GX m c (ix2 (q 0) e)) (fun e => (m ((c : Thread nD τ).loc main_arg7) : S1x1024.Idx → EReal) (ix2 0 e)) (q 1)

theorem point_lt (n : Fin 16384) : n.val / 512 < cfg0.N := by rw [show cfg0.N = 32 from N_0]; omega

theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])

theorem final8 : (dats m 0 c).arrAt 8 cfg0.N = GX m c := by
  funext q
  obtain ⟨n, e, rfl⟩ : ∃ (n : Fin 16384) (e : Fin 1024), q = ix2 n e := ⟨q 0, q 1, (ix2_eta q).symm⟩
  have hb := congrFun (Value.blocks8 m c ⟨n.val / 512, point_lt n⟩ (flush0_8 _)) (ix2 (⟨n.val % 512, Nat.mod_lt _ (by decide)⟩ : Fin 512) e)
  rw [Value.flushed8] at hb
  refine Eq.trans (Eq.trans ?_ hb) ?_
  · show _ = (dats m 0 c).arrAt 8 cfg0.N (((cfg0.win 8).blk ⟨n.val / 512, point_lt n⟩).view.emb (ix2 (⟨n.val % 512, Nat.mod_lt _ (by decide)⟩ : Fin 512) e))
    congr 1
    refine (funext fun a => Fin.ext ?_)
    fin_cases a
    · blk_simp [idx8]
      show n.val = n.val / 512 * 512 + n.val % 512
      omega
    · blk_simp [idx8]; rfl
  · refine (out8_eq _ _ _ _ _ _ _ _ _ _).trans ?_
    have hr : row ⟨n.val / 512, point_lt n⟩ ⟨n.val % 512, Nat.mod_lt _ (by decide)⟩ = n := Fin.ext (show 512 * (n.val / 512) + n.val % 512 = n.val by omega)
    unfold bX GX gX
    simp only [iblk0, iblk1, iblk2, iblk3, iblk4, iblk5, iblk6, hr]
    rfl

theorem final9 : (dats m 0 c).arrAt 9 cfg0.N = GN m c := by
  funext q
  obtain ⟨n, e, rfl⟩ : ∃ (n : Fin 16384) (e : Fin 1024), q = ix2 n e := ⟨q 0, q 1, (ix2_eta q).symm⟩
  have hb := congrFun (Value.blocks9 m c ⟨n.val / 512, point_lt n⟩ (flush0_9 _)) (ix2 (⟨n.val % 512, Nat.mod_lt _ (by decide)⟩ : Fin 512) e)
  rw [Value.flushed9] at hb
  refine Eq.trans (Eq.trans ?_ hb) ?_
  · show _ = (dats m 0 c).arrAt 9 cfg0.N (((cfg0.win 9).blk ⟨n.val / 512, point_lt n⟩).view.emb (ix2 (⟨n.val % 512, Nat.mod_lt _ (by decide)⟩ : Fin 512) e))
    congr 1
    refine (funext fun a => Fin.ext ?_)
    fin_cases a
    · blk_simp [idx9]
      show n.val = n.val / 512 * 512 + n.val % 512
      omega
    · blk_simp [idx9]; rfl
  · refine (out9_eq _ _ _ _ _ _ _ _ _ _).trans ?_
    have hr : row ⟨n.val / 512, point_lt n⟩ ⟨n.val % 512, Nat.mod_lt _ (by decide)⟩ = n := Fin.ext (show 512 * (n.val / 512) + n.val % 512 = n.val by omega)
    unfold bX GN GX gX
    simp only [iblk0, iblk1, iblk2, iblk3, iblk4, iblk5, iblk6, iblk7, hr]
    rfl

end Result

end Cert.Kernel2Ideal.Merge

end
-- ==== Proof.MergeClaim.lean ====
module

public import proofs.«01_k».proof.Defs
public import proofs.«01_k».proof.Proof.MergeKernel
public import proofs.«01_k».proof.Proof.Gen.Reference2Ideal
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem

namespace Cert.MergeClaim

open Cert.MergeMath
open Cert.Kernel2Ideal.Merge (gX GX GN flat_at)
open Cert.Reference2Ideal Cert.Reference2Ideal.Gen

/-- The reference's run ends with the arguments as they were and every counter at zero. -/
theorem reference_frame : Cert.quiescent_Reference2Ideal := fun (m : (ℓ : Loc Cert.Reference2Ideal.nD Cert.Reference2Ideal.τ Cert.Reference2Ideal.sig) → Buf (Elt Ideal) ℓ)
    (g : Dev Cert.Reference2Ideal.nD → PrngReg) _ =>
  (θ_run Cert.Reference2Ideal.defs _ _).mono (fun r h => ⟨fun c => (h c).2.2, sem_eq_zero_of_no_sems (by decide) r.2⟩)
    (Cert.Reference2Ideal.Value.run (F := Ideal) m g)

/-- One gate of the reference, as it writes it. -/
def hGate (x : FVec Ideal S2x8192x1024 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf x)))

/-- The residual with the merged branches, as the reference writes it. -/
def hX (A0 : FVec Ideal S2x8192x1024 .f32) (A1 A2 : FVec Ideal S2x8192x512 .f32) (A3 : FVec Ideal S2x8192x2048 .f32)
    (A4 A5 : FVec Ideal S1x512x1024 .f32) (A6 : FVec Ideal S1x1024x1024 .f32) : FVec Ideal S2x8192x1024 .f32 :=
  addf A0 (Host.dotGeneral (φ₁ := .f32) (φ₂ := .f32) dot_S2x8192x1024_S1024x1024_S2x8192x1024_2_0_01_1_n_n none
    (addf
      (mulf (hGate (extractStridedSlice (α := Elt Ideal .f32) S2x8192x1024 ![0, 0, 0] A3 slices_S2x8192x2048_S2x8192x1024_0_0_0))
        (Host.dotGeneral (φ₁ := .f32) (φ₂ := .f32) dot_S2x8192x512_S512x1024_S2x8192x1024_2_0_01_1_n_n none A1 (shapeCast (α := Elt Ideal .f32) S512x1024 A4 shapeCasts_S1x512x1024_S512x1024)))
      (mulf (hGate (extractStridedSlice (α := Elt Ideal .f32) S2x8192x1024 ![0, 0, 1024] A3 slices_S2x8192x2048_S2x8192x1024_0_0_1024))
        (Host.dotGeneral (φ₁ := .f32) (φ₂ := .f32) dot_S2x8192x512_S512x1024_S2x8192x1024_2_0_01_1_n_n none A2 (shapeCast (α := Elt Ideal .f32) S512x1024 A5 shapeCasts_S1x512x1024_S512x1024))))
    (shapeCast (α := Elt Ideal .f32) S1024x1024 A6 shapeCasts_S1x1024x1024_S1024x1024))

/-- A row scaled to mean square one and by the weights, as the reference writes it. -/
def hN (X : FVec Ideal S2x8192x1024 .f32) (A7 : FVec Ideal S1x1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1
      (Host.reduceAdd (mulf X X) (constant S_ .f32 0x00000000#32) reducesTo_S2x8192x1024_S2x8192_d2 h_S_))
      (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast (α := Elt Ideal .f32) S1024 A7 shapeCasts_S1x1024_S1024)))

theorem hX_at (A0 : FVec Ideal S2x8192x1024 .f32) (A1 A2 : FVec Ideal S2x8192x512 .f32) (A3 : FVec Ideal S2x8192x2048 .f32)
    (A4 A5 : FVec Ideal S1x512x1024 .f32) (A6 : FVec Ideal S1x1024x1024 .f32) (b : Fin 2) (l : Fin 8192) (e : Fin 1024) :
    hX A0 A1 A2 A3 A4 A5 A6 (ix3 b l e) = xE (fun d => A0 (ix3 b l d)) (fun k => A1 (ix3 b l k)) (fun k => A2 (ix3 b l k))
      (fun k => A3 (ix3 b l k)) (fun k d => A4 (ix3 0 k d)) (fun k d => A5 (ix3 0 k d)) (fun d e => A6 (ix3 0 d e)) e := by
  unfold hX hGate xE mE sg
  pointwise [dot_S2x8192x1024_S1024x1024_S2x8192x1024_2_0_01_1_n_n, dot_S2x8192x512_S512x1024_S2x8192x1024_2_0_01_1_n_n]

theorem hN_at (X : FVec Ideal S2x8192x1024 .f32) (A7 : FVec Ideal S1x1024 .f32) (b : Fin 2) (l : Fin 8192) (e : Fin 1024) :
    hN X A7 (ix3 b l e) = nE (fun d => X (ix3 b l d)) (fun d => A7 (ix2 0 d)) e := by
  unfold hN nE
  pointwise

/-- Both results are reached by the kernel and by the reference. -/
theorem algebraic : Cert.algebraic_Kernel2Ideal_Reference2Ideal := by
  intro m g m' g' _ hag
  refine ⟨fun c => GX m c, fun c => GN m c, (θ_run Cert.Kernel2Ideal.defs _ _).mono (fun r h c => ⟨(h c).1.trans (Cert.Kernel2Ideal.Merge.final8 m c), (h c).2.1.trans (Cert.Kernel2Ideal.Merge.final9 m c), (h c).2.2⟩) (Cert.Kernel2Ideal.Value.run_blocks (F := Ideal) m g), ?_⟩
  refine (θ_run Cert.Reference2Ideal.defs _ _).mono (fun r h c => ⟨(h c).1.trans ?_, (h c).2.1.trans ?_, (h c).2.2⟩)
    (Cert.Reference2Ideal.Value.run (F := Ideal) m' g')
  · obtain ⟨e0, e1, e2, e3, e4, e5, e6, e7⟩ := hag c
    funext q
    obtain ⟨n, e, rfl⟩ : ∃ (n : Fin 16384) (e : Fin 1024), q = ix2 n e := ⟨q 0, q 1, (ix2_eta q).symm⟩
    refine (flat_at (hX _ _ _ _ _ _ _) shapeCasts_S2x8192x1024_S16384x1024 n e).trans ((hX_at _ _ _ _ _ _ _ _ _ _).trans ?_)
    rw [e0, e1, e2, e3, e4, e5, e6]
    rfl
  · obtain ⟨e0, e1, e2, e3, e4, e5, e6, e7⟩ := hag c
    funext q
    obtain ⟨n, e, rfl⟩ : ∃ (n : Fin 16384) (e : Fin 1024), q = ix2 n e := ⟨q 0, q 1, (ix2_eta q).symm⟩
    refine (flat_at (hN (hX _ _ _ _ _ _ _) _) shapeCasts_S2x8192x1024_S16384x1024 n e).trans ((hN_at _ _ _ _ _).trans ?_)
    simp only [hX_at]
    rw [e0, e1, e2, e3, e4, e5, e6, e7]
    rfl

end Cert.MergeClaim

end
-- ==== Proof.FrontMath.lean ====
module

public import proofs.«01_k».proof.Proof.MergeMath
public import Idealize.ShloMosaic.Lib.Pointwise
public import Idealize.ShloMosaic.Lib.KernelVsHost

@[expose] public section

noncomputable section

open Idealize.ShloMosaic

namespace Cert.FrontMath

open Cert.MergeMath

/-- A row times a column. -/
def prj (h w : Fin 1024 → EReal) : EReal := ∑ d, h d * w d

/-- One doubling of a sum over the places up to `n`: the sum at `n` and the one `s` places before. -/
def st (s : ℕ) (f : ℕ → EReal) (n : ℕ) : EReal := f n + f (n - s)

/-- The sums over the last two, four, eight and sixteen places, by doubling. -/
def win2 (f : ℕ → EReal) : ℕ → EReal := st 1 f
def win4 (f : ℕ → EReal) : ℕ → EReal := st 2 (win2 f)
def win8 (f : ℕ → EReal) : ℕ → EReal := st 4 (win4 f)
def win16 (f : ℕ → EReal) : ℕ → EReal := st 8 (win8 f)

/-- The sum of group `g`'s window. -/
def winG (g : Fin 4) : (ℕ → EReal) → ℕ → EReal := ![win2, win4, win8, win16] g

theorem st_shift (s a : ℕ) (f z : ℕ → EReal) (o : ℕ) (h : ∀ n, a ≤ n → n < 528 → f n = z (o + n)) :
    ∀ n, a + s ≤ n → n < 528 → st s f n = st s z (o + n) := by
  intro n h1 h2
  unfold st
  rw [h n (by omega) h2, h (n - s) (by omega) (by omega), show o + (n - s) = o + n - s by omega]

theorem win2_shift (f z : ℕ → EReal) (o : ℕ) (h : ∀ n, 0 ≤ n → n < 528 → f n = z (o + n)) :
    ∀ n, 1 ≤ n → n < 528 → win2 f n = win2 z (o + n) := fun n h1 h2 => st_shift 1 0 f z o h n (by omega) h2
theorem win4_shift (f z : ℕ → EReal) (o : ℕ) (h : ∀ n, 0 ≤ n → n < 528 → f n = z (o + n)) :
    ∀ n, 3 ≤ n → n < 528 → win4 f n = win4 z (o + n) := fun n h1 h2 => st_shift 2 1 _ _ o (win2_shift f z o h) n (by omega) h2
theorem win8_shift (f z : ℕ → EReal) (o : ℕ) (h : ∀ n, 0 ≤ n → n < 528 → f n = z (o + n)) :
    ∀ n, 7 ≤ n → n < 528 → win8 f n = win8 z (o + n) := fun n h1 h2 => st_shift 4 3 _ _ o (win4_shift f z o h) n (by omega) h2
theorem win16_shift (f z : ℕ → EReal) (o : ℕ) (h : ∀ n, 0 ≤ n → n < 528 → f n = z (o + n)) :
    ∀ n, 15 ≤ n → n < 528 → win16 f n = win16 z (o + n) := fun n h1 h2 => st_shift 8 7 _ _ o (win8_shift f z o h) n (by omega) h2

theorem winG_shift (g : Fin 4) (f z : ℕ → EReal) (o : ℕ) (h : ∀ n, n < 528 → f n = z (o + n)) (n : ℕ) (h1 : 15 ≤ n) (h2 : n < 528) :
    winG g f n = winG g z (o + n) := by
  have h' : ∀ n, 0 ≤ n → n < 528 → f n = z (o + n) := fun n _ h2 => h n h2
  match g with
  | ⟨0, _⟩ => exact win2_shift f z o h' n (by omega) h2
  | ⟨1, _⟩ => exact win4_shift f z o h' n (by omega) h2
  | ⟨2, _⟩ => exact win8_shift f z o h' n (by omega) h2
  | ⟨3, _⟩ => exact win16_shift f z o h' n (by omega) h2

/-- `p` rows carried over followed by the rows of a tile, one column of them. -/
def extT (p : ℕ) (c : Fin p → EReal) (u : Fin 512 → EReal) (n : ℕ) : EReal :=
  if h : n < p then c ⟨n, h⟩ else if h' : n - p < 512 then u ⟨n - p, h'⟩ else 0

/-- `p` rows of zeros followed by all the rows of a sequence, one column of them. -/
def extZ (p : ℕ) (u : Fin 8192 → EReal) (n : ℕ) : EReal :=
  if n < p then 0 else if h : n - p < 8192 then u ⟨n - p, h⟩ else 0

/-- The number of rows a window of width `w` has at place `l`, as a value. -/
def cntE (w : BitVec 32) (l : ℕ) : EReal := FloatOps.sitofp (F := Ideal) .f32 (IntOp.minsi (BitVec.ofNat 32 (l + 1)) w)

/-- The widths of the four windows. -/
def wid (g : Fin 4) : BitVec 32 := ![2#32, 4#32, 8#32, 16#32] g

/-- The convolution over the last four rows, at place `n` of the lengthened column. -/
def convE (f : ℕ → EReal) (w0 w1 w2 w3 : EReal) (n : ℕ) : EReal := f n * w3 + f (n - 1) * w2 + f (n - 2) * w1 + f (n - 3) * w0

/-- The sigmoid linear unit, as the kernel writes it. -/
def silE (a : EReal) : EReal := a * sg a

/-- A head's row scaled to length one, at place `e`. -/
def l2E (y : Fin 128 → EReal) (e : Fin 128) : EReal :=
  y e * Ideal.rsqrt (∑ d, y d * y d + Ideal.ofBits FTy.f32 897988541#32)

/-- The softplus, as the kernel writes it. -/
def spE (a : EReal) : EReal := max a 0 + Ideal.log1p (Ideal.exp (-(max a (-a))))

/-- A rotation down the rows by `s`, below row `s`. -/
theorem roll_at {m w : ℕ} (A : (Shape.mk 2 ![m, w]).Idx → EReal) (sb : BitVec 32) (s : ℕ) (hs : sb.toNat = s) (hm : s < m)
    (h : (Shape.mk 2 ![m, w]).Rotates 0 none) (n : Fin m) (hn : s ≤ n.val) (e : Fin w) :
    dynamicRotate (s := Shape.mk 2 ![m, w]) 0 sb none A h (ix2 n e) = A (ix2 ⟨n.val - s, by omega⟩ e) := by
  refine dynamicRotate_apply (s := Shape.mk 2 ![m, w]) 0 sb A h (ix2 n e) (ix2 ⟨n.val - s, by omega⟩ e) ?_
  intro b
  match b with
  | ⟨0, _⟩ =>
    show n.val - s = if (0 : Fin 2) = 0 then (n.val + m - sb.toNat % m) % m else n.val
    rw [if_pos rfl, hs, Nat.mod_eq_of_lt hm, show n.val + m - s = (n.val - s) + m by omega, Nat.add_mod_right, Nat.mod_eq_of_lt (by omega)]
  | ⟨1, _⟩ => rfl

/-- One doubling, of arrays. -/
theorem roll_step {m w : ℕ} (A : FVec Ideal (Shape.mk 2 ![m, w]) .f32) (sb : BitVec 32) (s : ℕ) (hs : sb.toNat = s) (hm : s < m)
    (h : (Shape.mk 2 ![m, w]).Rotates 0 none) (a : ℕ) (f : Fin w → ℕ → EReal)
    (hA : ∀ (n : Fin m) (e : Fin w), a ≤ n.val → A (ix2 n e) = f e n.val) :
    ∀ (n : Fin m) (e : Fin w), a + s ≤ n.val →
      addf (F := Ideal) A (dynamicRotate (s := Shape.mk 2 ![m, w]) 0 sb none A h) (ix2 n e) = st s (f e) n.val := by
  intro n e hn
  show A (ix2 n e) + dynamicRotate (s := Shape.mk 2 ![m, w]) 0 sb none A h (ix2 n e) = f e n.val + f e (n.val - s)
  rw [roll_at A sb s hs hm h n (by omega) e, hA n e (by omega), hA ⟨n.val - s, by omega⟩ e (by show a ≤ n.val - s; omega)]

end Cert.FrontMath

end
-- ==== Proof.FrontBody.lean ====
module

public import proofs.«01_k».proof.Proof.FrontMath
public import proofs.«01_k».proof.Proof.Gen.Kernel3Ideal.Skeleton
public import Idealize.ShloMosaic.Lib.Pointwise
public import Idealize.ShloMosaic.Lib.Tactic

@[expose] public section

set_option maxRecDepth 16384

noncomputable section

open Idealize.ShloMosaic Idealize.ShloMosaic.TcCoe

namespace Cert.Kernel3Ideal.Front

open Cert.Kernel3Ideal Cert.Kernel3Ideal.Gen Cert.MergeMath Cert.FrontMath

theorem lane_lt (e : Fin 128) (h : e.val < 4) : IntOp.cmpi .slt (BitVec.ofNat 32 e.val) 4#32 = 1#1 :=
  (by decide +kernel : ∀ e : Fin 128, e.val < 4 → IntOp.cmpi .slt (BitVec.ofNat 32 e.val) 4#32 = 1#1) e h

theorem lane_ge (e : Fin 128) (h : 4 ≤ e.val) : IntOp.cmpi .slt (BitVec.ofNat 32 e.val) 4#32 = 0#1 :=
  (by decide +kernel : ∀ e : Fin 128, 4 ≤ e.val → IntOp.cmpi .slt (BitVec.ofNat 32 e.val) 4#32 = 0#1) e h

section Proj

variable (x : Vec Ideal S1x512x1024 .f32) (g : Vec Ideal S1x1024 .f32)

/-- Row `r` of the tile, scaled. -/
abbrev hR (r : Fin 512) (d : Fin 1024) : EReal := nE (fun d => x (ix3 0 r d)) (fun d => g (ix2 0 d)) d

theorem pay4_at (r : Fin 512) (d : Fin 1024) : k0_pay4 x g (ix2 r d) = hR x g r d := by
  unfold k0_pay4 hR nE
  pointwise

theorem pay5_at (w : Vec Ideal S1024x512 .bf16) (r : Fin 512) (e : Fin 512) :
    k0_pay5 x g w (ix2 r e) = prj (hR x g r) (fun d => w (ix2 d e)) := by
  unfold k0_pay5 prj
  pointwise [dot_S512x1024_S1024x512_S512x512_1_0_0_1_n_n]
  simp only [zero_add, pay4_at]

theorem pay6_at (w : Vec Ideal S1024x1536 .bf16) (r : Fin 512) (e : Fin 1536) :
    k0_pay6 x g w (ix2 r e) = prj (hR x g r) (fun d => w (ix2 d e)) := by
  unfold k0_pay6 prj
  pointwise [dot_S512x1024_S1024x1536_S512x1536_1_0_0_1_n_n]
  simp only [zero_add, pay4_at]

theorem pay7_at (w : Vec Ideal S1024x512 .bf16) (z : Fin 1) (r : Fin 512) (e : Fin 512) :
    k0_pay7 x g w (ix3 z r e) = prj (hR x g r) (fun d => w (ix2 d e)) := by
  unfold k0_pay7 prj
  pointwise [dot_S512x1024_S1024x512_S512x512_1_0_0_1_n_n]
  simp only [zero_add, pay4_at]

theorem pay8_at (w : Vec Ideal S1024x2048 .bf16) (z : Fin 1) (r : Fin 512) (e : Fin 2048) :
    k0_pay8 (k0_pay4 x g) w (ix3 z r e) = prj (hR x g r) (fun d => w (ix2 d e)) := by
  unfold k0_pay8 prj
  pointwise [dot_S512x1024_S1024x2048_S512x2048_1_0_0_1_n_n]
  simp only [zero_add, pay4_at]

theorem pay9_at (w : Vec Ideal S1024x128 .bf16) (al dt : Vec Ideal S1x128 .f32) (z : Fin 1) (r : Fin 512) (e : Fin 128) :
    k0_pay9 (k0_pay4 x g) w al dt (ix3 z r e) =
      if e.val < 4 then sg (prj (hR x g r) (fun d => w (ix2 d e)))
      else -Ideal.exp (al (ix2 0 e)) * spE (prj (hR x g r) (fun d => w (ix2 d e)) + dt (ix2 0 e)) := by
  unfold k0_pay9 prj sg spE
  pointwise [dot_S512x1024_S1024x128_S512x128_1_0_0_1_n_n]
  simp only [zero_add, zero_sub, pay4_at]
  rcases Nat.lt_or_ge e.val 4 with h | h
  · rw [if_pos h, lane_lt e h]; rfl
  · rw [if_neg (by omega), lane_ge e h]; rfl

end Proj

section Pool

/-- The column of place `d` in group `g`. -/
def col (g : Fin 4) (d : Fin 128) : Fin 512 := ⟨128 * g.val + d.val, by omega⟩

/-- The group of a column. -/
def colG (e : Fin 512) : Fin 4 := ⟨e.val / 128, by omega⟩

/-- The place in its group of a column. -/
def colD (e : Fin 512) : Fin 128 := ⟨e.val % 128, Nat.mod_lt _ (by decide)⟩

theorem col_eq (e : Fin 512) : col (colG e) (colD e) = e := Fin.ext (show 128 * (e.val / 128) + e.val % 128 = e.val by omega)

variable (U : FVec Ideal S512x512 .f32) (C : Vec Ideal S1x16x512 .f32)

/-- The lengthened column `e` of the tile. -/
abbrev eP (e : Fin 512) : ℕ → EReal := extT 16 (fun k => C (ix3 0 k e)) (fun r => U (ix2 r e))

theorem pay12_at (n : Fin 528) (e : Fin 512) : k0_pay12 U C (ix2 n e) = eP U C e n.val := by
  unfold k0_pay12 eP extT
  pointwise
  rcases Nat.lt_or_ge n.val 16 with h | h
  · rw [dif_pos h, dif_pos h]
  · rw [dif_neg (by omega), dif_neg (by omega), dif_pos (by omega)]

theorem pay10_at (a : BitVec 32) (w : BitVec 32) (r : Fin 512) (e : Fin 128) :
    sitofp (F := Ideal) .f32 (minsi (k0_pay10 a) (broadcast S512x128 w)) (ix2 r e) = cntE w (512 * a.toNat + r.val) := by
  unfold k0_pay10 cntE
  pointwise
  congr 2
  show (0#32 + a * 512#32) + BitVec.ofNat 32 r.val + 1#32 = _
  apply BitVec.eq_of_toNat_eq
  simp only [BitVec.toNat_add, BitVec.toNat_mul, BitVec.toNat_ofNat]
  omega

/-- Place `k` of group `g` of the pooled row `r`: the window's mean less the row itself; `l` is the row's place in the sequence. -/
def pE (g : Fin 4) (l : ℕ) (r : Fin 512) (k : Fin 128) : EReal :=
  Ideal.div (winG g (eP U C (col g k)) (16 + r.val)) (cntE (wid g) l) - U (ix2 r (col g k))

theorem slice_at (o : ℕ) (ho : o + 128 ≤ 512) (h : S528x512.Slices ![0, o] S528x128) (n : Fin 528) (e : Fin 128) :
    extractStridedSlice (α := Elt Ideal .f32) S528x128 ![0, o] (k0_pay12 U C) h (ix2 n e) = eP U C ⟨o + e.val, by omega⟩ n.val := by
  rw [← pay12_at]
  pointwise

theorem g0_at (a : BitVec 32) (w : Vec Ideal S1x128x128 .bf16) (r : Fin 512) (e : Fin 128) :
    k0_pay13 a U C w (ix2 r e) = ∑ k, pE U C 0 (512 * a.toNat + r.val) r k * w (ix3 0 k e) := by
  have h0 : ∀ (n : Fin 528) (e : Fin 128), 0 ≤ n.val →
      extractStridedSlice (α := Elt Ideal .f32) S528x128 ![0, 0] (k0_pay12 U C) slices_S528x512_o0_0_S528x128 (ix2 n e) = eP U C (col 0 e) n.val := by
    intro n e _
    exact slice_at U C 0 (by decide) _ n e
  have h1 := roll_step _ 1#32 1 rfl (by decide) rotates_S528x128_d0 0 (fun e => eP U C (col 0 e)) h0
  unfold k0_pay13
  dsimp only
  revert h1
  clear h0
  generalize hA : addf (F := Ideal) (s := S528x128) (φ := .f32) _ (dynamicRotate 0 1#32 none _ rotates_S528x128_d0) = A
  clear hA
  intro h
  have hc := pay10_at a 2#32
  revert hc
  generalize sitofp (F := Ideal) .f32 (minsi (k0_pay10 a) (broadcast S512x128 2#32)) = N
  intro hc
  unfold pE
  pointwise [dot_S512x128_S128x128_S512x128_1_0_0_1_n_n]
  refine Finset.sum_congr rfl fun k _ => ?_
  rw [h ⟨16 + r.val, by omega⟩ k (by show _ ≤ 16 + r.val; omega), hc]
  have hk : (⟨k.val, by omega⟩ : Fin 512) = col 0 k := Fin.ext (show k.val = 128 * 0 + k.val by omega)
  rw [hk]
  rfl

theorem g1_at (a : BitVec 32) (w : Vec Ideal S1x128x128 .bf16) (r : Fin 512) (e : Fin 128) :
    k0_pay15 (k0_pay14 a U C) w (ix2 r e) = ∑ k, pE U C 1 (512 * a.toNat + r.val) r k * w (ix3 0 k e) := by
  have h0 : ∀ (n : Fin 528) (e : Fin 128), 0 ≤ n.val →
      extractStridedSlice (α := Elt Ideal .f32) S528x128 ![0, 128] (k0_pay12 U C) slices_S528x512_o0_128_S528x128 (ix2 n e) = eP U C (col 1 e) n.val := by
    intro n e _
    exact slice_at U C 128 (by decide) _ n e
  have h1 := roll_step _ 1#32 1 rfl (by decide) rotates_S528x128_d0 0 (fun e => eP U C (col 1 e)) h0
  have h2 := roll_step _ 2#32 2 rfl (by decide) rotates_S528x128_d0 1 (fun e => win2 (eP U C (col 1 e))) h1
  unfold k0_pay15 k0_pay14
  dsimp only
  revert h2
  clear h1 h0
  generalize hA : addf (F := Ideal) (s := S528x128) (φ := .f32) _ (dynamicRotate 0 2#32 none _ rotates_S528x128_d0) = A
  clear hA
  intro h
  have hc := pay10_at a 4#32
  revert hc
  generalize sitofp (F := Ideal) .f32 (minsi (k0_pay10 a) (broadcast S512x128 4#32)) = N
  intro hc
  unfold pE
  pointwise [dot_S512x128_S128x128_S512x128_1_0_0_1_n_n]
  refine Finset.sum_congr rfl fun k _ => ?_
  rw [h ⟨16 + r.val, by omega⟩ k (by show _ ≤ 16 + r.val; omega), hc]
  have hk : (⟨128 + k.val, by omega⟩ : Fin 512) = col 1 k := Fin.ext (show 128 + k.val = 128 * 1 + k.val by omega)
  rw [hk]
  rfl

theorem g2_at (a : BitVec 32) (w : Vec Ideal S1x128x128 .bf16) (r : Fin 512) (e : Fin 128) :
    k0_pay16 U (k0_pay10 a) (k0_pay12 U C) w (ix2 r e) = ∑ k, pE U C 2 (512 * a.toNat + r.val) r k * w (ix3 0 k e) := by
  have h0 : ∀ (n : Fin 528) (e : Fin 128), 0 ≤ n.val →
      extractStridedSlice (α := Elt Ideal .f32) S528x128 ![0, 256] (k0_pay12 U C) slices_S528x512_o0_256_S528x128 (ix2 n e) = eP U C (col 2 e) n.val := by
    intro n e _
    exact slice_at U C 256 (by decide) _ n e
  have h1 := roll_step _ 1#32 1 rfl (by decide) rotates_S528x128_d0 0 (fun e => eP U C (col 2 e)) h0
  have h2 := roll_step _ 2#32 2 rfl (by decide) rotates_S528x128_d0 1 (fun e => win2 (eP U C (col 2 e))) h1
  have h3 := roll_step _ 4#32 4 rfl (by decide) rotates_S528x128_d0 3 (fun e => win4 (eP U C (col 2 e))) h2
  unfold k0_pay16
  dsimp only
  revert h3
  clear h2 h1 h0
  generalize hA : addf (F := Ideal) (s := S528x128) (φ := .f32) _ (dynamicRotate 0 4#32 none _ rotates_S528x128_d0) = A
  clear hA
  intro h
  have hc := pay10_at a 8#32
  revert hc
  generalize sitofp (F := Ideal) .f32 (minsi (k0_pay10 a) (broadcast S512x128 8#32)) = N
  intro hc
  unfold pE
  pointwise [dot_S512x128_S128x128_S512x128_1_0_0_1_n_n]
  refine Finset.sum_congr rfl fun k _ => ?_
  rw [h ⟨16 + r.val, by omega⟩ k (by show _ ≤ 16 + r.val; omega), hc]
  have hk : (⟨256 + k.val, by omega⟩ : Fin 512) = col 2 k := Fin.ext (show 256 + k.val = 128 * 2 + k.val by omega)
  rw [hk]
  rfl

theorem g3_at (a : BitVec 32) (w : Vec Ideal S1x128x128 .bf16) (r : Fin 512) (e : Fin 128) :
    k0_pay17 U (k0_pay10 a) (k0_pay12 U C) w (ix2 r e) = ∑ k, pE U C 3 (512 * a.toNat + r.val) r k * w (ix3 0 k e) := by
  have h0 : ∀ (n : Fin 528) (e : Fin 128), 0 ≤ n.val →
      extractStridedSlice (α := Elt Ideal .f32) S528x128 ![0, 384] (k0_pay12 U C) slices_S528x512_o0_384_S528x128 (ix2 n e) = eP U C (col 3 e) n.val := by
    intro n e _
    exact slice_at U C 384 (by decide) _ n e
  have h1 := roll_step _ 1#32 1 rfl (by decide) rotates_S528x128_d0 0 (fun e => eP U C (col 3 e)) h0
  have h2 := roll_step _ 2#32 2 rfl (by decide) rotates_S528x128_d0 1 (fun e => win2 (eP U C (col 3 e))) h1
  have h3 := roll_step _ 4#32 4 rfl (by decide) rotates_S528x128_d0 3 (fun e => win4 (eP U C (col 3 e))) h2
  have h4 := roll_step _ 8#32 8 rfl (by decide) rotates_S528x128_d0 7 (fun e => win8 (eP U C (col 3 e))) h3
  unfold k0_pay17
  dsimp only
  revert h4
  clear h3 h2 h1 h0
  generalize hA : addf (F := Ideal) (s := S528x128) (φ := .f32) _ (dynamicRotate 0 8#32 none _ rotates_S528x128_d0) = A
  clear hA
  intro h
  have hc := pay10_at a 16#32
  revert hc
  generalize sitofp (F := Ideal) .f32 (minsi (k0_pay10 a) (broadcast S512x128 16#32)) = N
  intro hc
  unfold pE
  pointwise [dot_S512x128_S128x128_S512x128_1_0_0_1_n_n]
  refine Finset.sum_congr rfl fun k _ => ?_
  rw [h ⟨16 + r.val, by omega⟩ k (by show _ ≤ 16 + r.val; omega), hc]
  have hk : (⟨384 + k.val, by omega⟩ : Fin 512) = col 3 k := Fin.ext (show 384 + k.val = 128 * 3 + k.val by omega)
  rw [hk]
  rfl

theorem pay18_at (A0 A1 A2 A3 : FVec Ideal S512x128 .f32) (s : Vec Ideal S1x512 .f32) (z : Fin 1) (r : Fin 512) (e : Fin 512) :
    k0_pay18 A0 A1 A2 A3 s (ix3 z r e) = (![A0, A1, A2, A3] (colG e) (ix2 r (colD e))) * s (ix2 0 e) := by
  obtain ⟨g, d, rfl⟩ : ∃ g d, e = col g d := ⟨_, _, (col_eq e).symm⟩
  have hg : colG (col g d) = g := Fin.ext (show (128 * g.val + d.val) / 128 = g.val by omega)
  have hd : colD (col g d) = d := Fin.ext (show (128 * g.val + d.val) % 128 = d.val by omega)
  rw [hg, hd]
  unfold k0_pay18
  pointwise
  congr 1
  match g with
  | ⟨0, hn⟩ =>
    exact (dif_pos (show (col ⟨0, hn⟩ d).val < 128 by show 128 * 0 + d.val < 128; omega)).trans (congrArg A0 (congrArg (ix2 r) (Fin.ext (show 128 * 0 + d.val = d.val by omega))))
  | ⟨1, hn⟩ =>
    exact (dif_neg (show ¬((col ⟨1, hn⟩ d).val < 128) by show ¬(128 * 1 + d.val < 128); omega)).trans ((dif_pos (show (col ⟨1, hn⟩ d).val - 128 < 128 by show 128 * 1 + d.val - 128 < 128; omega)).trans (congrArg A1 (congrArg (ix2 r) (Fin.ext (show 128 * 1 + d.val - 128 = d.val by omega)))))
  | ⟨2, hn⟩ =>
    exact (dif_neg (show ¬((col ⟨2, hn⟩ d).val < 128) by show ¬(128 * 2 + d.val < 128); omega)).trans ((dif_neg (show ¬((col ⟨2, hn⟩ d).val - 128 < 128) by show ¬(128 * 2 + d.val - 128 < 128); omega)).trans ((dif_pos (show (col ⟨2, hn⟩ d).val - 128 - 128 < 128 by show 128 * 2 + d.val - 128 - 128 < 128; omega)).trans (congrArg A2 (congrArg (ix2 r) (Fin.ext (show 128 * 2 + d.val - 128 - 128 = d.val by omega))))))
  | ⟨3, hn⟩ =>
    exact (dif_neg (show ¬((col ⟨3, hn⟩ d).val < 128) by show ¬(128 * 3 + d.val < 128); omega)).trans ((dif_neg (show ¬((col ⟨3, hn⟩ d).val - 128 < 128) by show ¬(128 * 3 + d.val - 128 < 128); omega)).trans ((dif_neg (show ¬((col ⟨3, hn⟩ d).val - 128 - 128 < 128) by show ¬(128 * 3 + d.val - 128 - 128 < 128); omega)).trans (congrArg A3 (congrArg (ix2 r) (Fin.ext (show 128 * 3 + d.val - 128 - 128 - 128 = d.val by omega))))))

theorem pay19_at (z : Fin 1) (k : Fin 16) (e : Fin 512) : k0_pay19 (k0_pay12 U C) (ix3 z k e) = eP U C e (512 + k.val) := by
  rw [show eP U C e (512 + k.val) = k0_pay12 U C (ix2 ⟨512 + k.val, by omega⟩ e) from (pay12_at U C ⟨512 + k.val, by omega⟩ e).symm]
  unfold k0_pay19
  pointwise

theorem pay20_at (z : Fin 1) (k : Fin 16) (e : Fin 512) : k0_pay20 (k0_pay12 U C) (ix3 z k e) = eP U C e (512 + k.val) := pay19_at U C z k e

end Pool

section Conv

variable (U : FVec Ideal S512x1536 .f32) (C : Vec Ideal S1x8x1536 .f32)

/-- The lengthened column `e` of the tile. -/
abbrev eC (e : Fin 1536) : ℕ → EReal := extT 8 (fun k => C (ix3 0 k e)) (fun r => U (ix2 r e))

theorem pay21_at (n : Fin 520) (e : Fin 1536) : k0_pay21 U C (ix2 n e) = eC U C e n.val := by
  unfold k0_pay21 eC extT
  pointwise
  rcases Nat.lt_or_ge n.val 8 with h | h
  · rw [dif_pos h, dif_pos h]
  · rw [dif_neg (by omega), dif_neg (by omega), dif_pos (by omega)]

theorem rollC_at (sb : BitVec 32) (s : ℕ) (hs : sb.toNat = s) (hs8 : s ≤ 8) (r : Fin 512) (e : Fin 1536) :
    extractStridedSlice (α := Elt Ideal .f32) S512x1536 ![8, 0] (dynamicRotate 0 sb none (k0_pay21 U C) rotates_S520x1536_d0) slices_S520x1536_o8_0_S512x1536 (ix2 r e)
      = eC U C e (8 + r.val - s) := by
  have h := roll_at (k0_pay21 U C) sb s hs (by omega) rotates_S520x1536_d0 ⟨8 + r.val, by omega⟩ (by show s ≤ 8 + r.val; omega) e
  rw [pay21_at] at h
  refine Eq.trans ?_ h
  generalize dynamicRotate 0 sb none (k0_pay21 U C) rotates_S520x1536_d0 = A
  pointwise

theorem pay22_at (W : Vec Ideal S8x1536 .f32) (r : Fin 512) (e : Fin 1536) :
    k0_pay22 U (k0_pay11 W) C (ix2 r e) = convE (eC U C e) (W (ix2 0 e)) (W (ix2 1 e)) (W (ix2 2 e)) (W (ix2 3 e)) (8 + r.val) := by
  have h0 : eC U C e (8 + r.val) = U (ix2 r e) := by
    unfold eC extT
    rw [dif_neg (by omega), dif_pos (by omega)]
    exact congrArg U (congrArg (fun r => ix2 r e) (Fin.ext (show 8 + r.val - 8 = r.val by omega)))
  have h1 := rollC_at U C 1#32 1 rfl (by decide) r e
  have h2 := rollC_at U C 2#32 2 rfl (by decide) r e
  have h3 := rollC_at U C 3#32 3 rfl (by decide) r e
  unfold convE
  rw [h0, ← h1, ← h2, ← h3]
  unfold k0_pay22 k0_pay11
  dsimp only
  generalize extractStridedSlice S512x1536 ![8, 0] (dynamicRotate 0 1#32 none (k0_pay21 U C) rotates_S520x1536_d0) slices_S520x1536_o8_0_S512x1536 = A1
  generalize extractStridedSlice S512x1536 ![8, 0] (dynamicRotate 0 2#32 none (k0_pay21 U C) rotates_S520x1536_d0) slices_S520x1536_o8_0_S512x1536 = A2
  generalize extractStridedSlice S512x1536 ![8, 0] (dynamicRotate 0 3#32 none (k0_pay21 U C) rotates_S520x1536_d0) slices_S520x1536_o8_0_S512x1536 = A3
  pointwise

theorem pay24_at (z : Fin 1) (k : Fin 8) (e : Fin 1536) : k0_pay24 (k0_pay21 U C) (ix3 z k e) = eC U C e (512 + k.val) := by
  rw [show eC U C e (512 + k.val) = k0_pay21 U C (ix2 ⟨512 + k.val, by omega⟩ e) from (pay21_at U C ⟨512 + k.val, by omega⟩ e).symm]
  unfold k0_pay24
  pointwise

theorem pay25_at (z : Fin 1) (k : Fin 8) (e : Fin 1536) : k0_pay25 (k0_pay21 U C) (ix3 z k e) = eC U C e (512 + k.val) := pay24_at U C z k e

end Conv

section Heads

variable (Y : FVec Ideal S512x1536 .f32)

theorem pay23_at (r : Fin 512) (e : Fin 1536) : k0_pay23 Y (ix2 r e) = silE (Y (ix2 r e)) := by
  unfold k0_pay23 silE sg
  pointwise
  simp only [zero_sub]

theorem pay26_at (z : Fin 1) (r : Fin 512) (e : Fin 128) :
    k0_pay26 Y (ix3 z r e) = l2E (fun d => k0_pay23 Y (ix2 r ⟨0 + d.val, by omega⟩)) e := by
  unfold k0_pay26 l2E
  pointwise

theorem pay28_at (z : Fin 1) (r : Fin 512) (e : Fin 128) :
    k0_pay28 (k0_pay27 Y) (ix3 z r e) = l2E (fun d => k0_pay23 Y (ix2 r ⟨512 + d.val, by omega⟩)) e := by
  unfold k0_pay28 k0_pay27 l2E
  pointwise

theorem pay29_at (z : Fin 1) (r : Fin 512) (e : Fin 128) :
    k0_pay29 Y (ix3 z r e) = l2E (fun d => Y (ix2 r ⟨128 + d.val, by omega⟩)) e := by
  unfold k0_pay29 l2E
  pointwise

theorem pay30_at (z : Fin 1) (r : Fin 512) (e : Fin 128) :
    k0_pay30 Y (ix3 z r e) = l2E (fun d => Y (ix2 r ⟨640 + d.val, by omega⟩)) e := by
  unfold k0_pay30 l2E
  pointwise

theorem pay31_at (z : Fin 1) (r : Fin 512) (e : Fin 128) :
    k0_pay31 Y (ix3 z r e) = l2E (fun d => Y (ix2 r ⟨256 + d.val, by omega⟩)) e := by
  unfold k0_pay31 l2E
  pointwise

theorem pay35_at (z : Fin 1) (r : Fin 512) (e : Fin 128) :
    k0_pay35 Y (ix3 z r e) = l2E (fun d => Y (ix2 r ⟨384 + d.val, by omega⟩)) e := by
  unfold k0_pay35 l2E
  pointwise

theorem pay36_at (z : Fin 1) (r : Fin 512) (e : Fin 128) :
    k0_pay36 Y (ix3 z r e) = l2E (fun d => Y (ix2 r ⟨896 + d.val, by omega⟩)) e := by
  unfold k0_pay36 l2E
  pointwise

theorem pay34_at (z : Fin 1) (r : Fin 512) (e : Fin 128) :
    k0_pay34 (k0_pay32 Y) (k0_pay33 Y) (ix3 z r e) = l2E (fun d => Y (ix2 r ⟨768 + d.val, by omega⟩)) e := by
  unfold k0_pay34 k0_pay33 k0_pay32 l2E
  pointwise

theorem pay37_at (z : Fin 1) (r : Fin 512) (e : Fin 512) : k0_pay1 (k0_pay37 Y) (ix3 z r e) = Y (ix2 r ⟨1024 + e.val, by omega⟩) := by
  unfold k0_pay1 k0_pay37
  pointwise

end Heads

end Cert.Kernel3Ideal.Front

end
-- ==== Proof.FrontSpec.lean ====
module

public import proofs.«01_k».proof.Proof.FrontBody

@[expose] public section

noncomputable section

open Idealize.ShloMosaic

namespace Cert.FrontSpec

open Cert.MergeMath Cert.FrontMath
open Cert.Kernel3Ideal.Front (col colG colD col_eq)

section Seq

variable (X : Fin 8192 → Fin 1024 → EReal) (g : Fin 1024 → EReal) (W : Fin 1024 → Fin 4616 → EReal)

/-- Column `e` of the projection of row `l` of a sequence. -/
def PX (l : Fin 8192) (e : Fin 4616) : EReal := prj (nE (X l) g) (fun d => W d e)

/-- The pool rows of a sequence after sixteen zeros, one column. -/
def uZ (e : Fin 512) : ℕ → EReal := extZ 16 (fun l => PX X g W l ⟨e.val, by omega⟩)

/-- The convolution rows of a sequence after eight zeros, one column. -/
def cZ (e : Fin 1536) : ℕ → EReal := extZ 8 (fun l => PX X g W l ⟨512 + e.val, by omega⟩)

/-- The pooled row: the mean over the window less the row itself. -/
def poE (l : Fin 8192) (h : Fin 4) (k : Fin 128) : EReal :=
  Ideal.div (winG h (uZ X g W (col h k)) (16 + l.val)) (cntE (wid h) l.val) - PX X g W l ⟨(col h k).val, by omega⟩

/-- The pooled branch. -/
def yaE (Wg : Fin 4 → Fin 128 → Fin 128 → EReal) (ps : Fin 512 → EReal) (l : Fin 8192) (e : Fin 512) : EReal :=
  (∑ k, poE X g W l (colG e) k * Wg (colG e) k (colD e)) * ps e

/-- The convolution and its activation. -/
def yE (wc : Fin 4 → Fin 1536 → EReal) (l : Fin 8192) (e : Fin 1536) : EReal :=
  silE (convE (cZ X g W e) (wc 0 e) (wc 1 e) (wc 2 e) (wc 3 e) (8 + l.val))

/-- The heads scaled to length one, from column `o` on. -/
def hdE (wc : Fin 4 → Fin 1536 → EReal) (o : ℕ) (ho : o ≤ 1024) (l : Fin 8192) (e : Fin 512) : EReal :=
  l2E (fun d => yE X g W wc l ⟨o + (col (colG e) d).val, by omega⟩) (colD e)

/-- The gates of the recurrence. -/
def bgE (al dt : Fin 4 → EReal) (l : Fin 8192) (e : Fin 8) : EReal :=
  if h : e.val < 4 then sg (PX X g W l ⟨2560 + e.val, by omega⟩)
  else -Ideal.exp (al ⟨e.val - 4, by omega⟩) * spE (PX X g W l ⟨2560 + e.val, by omega⟩ + dt ⟨e.val - 4, by omega⟩)

end Seq

theorem win2_sum (z : ℕ → EReal) (l : ℕ) : win2 z (16 + l) = z (15 + l) + z (16 + l) := by
  unfold win2 st
  rw [show 16 + l - 1 = 15 + l by omega, add_comm]

theorem win4_sum (z : ℕ → EReal) (l : ℕ) : win4 z (16 + l) = z (13 + l) + z (14 + l) + z (15 + l) + z (16 + l) := by
  unfold win4 win2 st
  rw [show 16 + l - 2 = 14 + l by omega, show 16 + l - 1 = 15 + l by omega, show 14 + l - 1 = 13 + l by omega]
  ac_rfl

theorem win8_sum (z : ℕ → EReal) (l : ℕ) : win8 z (16 + l) =
    z (9 + l) + z (10 + l) + z (11 + l) + z (12 + l) + z (13 + l) + z (14 + l) + z (15 + l) + z (16 + l) := by
  unfold win8 win4 win2 st
  rw [show 16 + l - 4 = 12 + l by omega, show 16 + l - 2 = 14 + l by omega, show 16 + l - 1 = 15 + l by omega, show 14 + l - 1 = 13 + l by omega,
    show 12 + l - 2 = 10 + l by omega, show 12 + l - 1 = 11 + l by omega, show 10 + l - 1 = 9 + l by omega]
  ac_rfl

theorem win16_sum (z : ℕ → EReal) (l : ℕ) : win16 z (16 + l) =
    z (1 + l) + z (2 + l) + z (3 + l) + z (4 + l) + z (5 + l) + z (6 + l) + z (7 + l) + z (8 + l) +
    z (9 + l) + z (10 + l) + z (11 + l) + z (12 + l) + z (13 + l) + z (14 + l) + z (15 + l) + z (16 + l) := by
  unfold win16 win8 win4 win2 st
  rw [show 16 + l - 8 = 8 + l by omega, show 16 + l - 4 = 12 + l by omega, show 16 + l - 2 = 14 + l by omega, show 16 + l - 1 = 15 + l by omega,
    show 14 + l - 1 = 13 + l by omega, show 12 + l - 2 = 10 + l by omega, show 12 + l - 1 = 11 + l by omega, show 10 + l - 1 = 9 + l by omega,
    show 8 + l - 4 = 4 + l by omega, show 8 + l - 2 = 6 + l by omega, show 8 + l - 1 = 7 + l by omega, show 6 + l - 1 = 5 + l by omega,
    show 4 + l - 2 = 2 + l by omega, show 4 + l - 1 = 3 + l by omega, show 2 + l - 1 = 1 + l by omega]
  ac_rfl

/-- Fewer zeros before the same rows. -/
theorem extZ_fewer (p q : ℕ) (u : Fin 8192 → EReal) (n : ℕ) : extZ p u n = extZ (p + q) u (q + n) := by
  unfold extZ
  by_cases h : n < p
  · rw [if_pos h, if_pos (by omega)]
  · rw [if_neg h, if_neg (by omega)]
    by_cases h' : n - p < 8192
    · rw [dif_pos h', dif_pos (by omega)]; congr 1; apply Fin.ext; show n - p = q + n - (p + q); omega
    · rw [dif_neg h', dif_neg (by omega)]

end Cert.FrontSpec

end
-- ==== Proof.FrontRunA.lean ====
module

public import proofs.«01_k».proof.Proof.Gen.Kernel3Ideal.Frame.Runs

@[expose] public section

set_option maxRecDepth 16384

noncomputable section

namespace Cert.Kernel3Ideal.Front

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body of the front kernel at the first tile of a sequence: the carried rows are filled from the prefix arrays first.
    It runs from whole buffers to the stores it makes, which are the lists the run finds. -/
def runA (c : Dev nD) (i : grid0.Coords)
    (a2 : Memref sig .tc .vmem S1x512x1024 .f32) (h2 : a2.IsWhole) (a3 : Memref sig .tc .vmem S1x16x512 .f32) (h3 : a3.IsWhole) (a4 : Memref sig .tc .vmem S1x8x1536 .f32) (h4 : a4.IsWhole) (a5 : Memref sig .tc .vmem S1x1024 .f32) (h5 : a5.IsWhole) (a6 : Memref sig .tc .vmem S1024x512 .bf16) (h6 : a6.IsWhole) (a7 : Memref sig .tc .vmem S1024x1536 .bf16) (h7 : a7.IsWhole) (a8 : Memref sig .tc .vmem S1024x512 .bf16) (h8 : a8.IsWhole) (a9 : Memref sig .tc .vmem S1024x128 .bf16) (h9 : a9.IsWhole) (a10 : Memref sig .tc .vmem S1024x2048 .bf16) (h10 : a10.IsWhole) (a11 : Memref sig .tc .vmem S4x128x128 .bf16) (h11 : a11.IsWhole) (a12 : Memref sig .tc .vmem S1x512 .f32) (h12 : a12.IsWhole) (a13 : Memref sig .tc .vmem S8x1536 .f32) (h13 : a13.IsWhole) (a14 : Memref sig .tc .vmem S1x128 .f32) (h14 : a14.IsWhole) (a15 : Memref sig .tc .vmem S1x128 .f32) (h15 : a15.IsWhole) (a16 : Memref sig .tc .vmem S1x512x512 .f32) (h16 : a16.IsWhole) (a17 : Memref sig .tc .vmem S1x512x512 .f32) (h17 : a17.IsWhole) (a18 : Memref sig .tc .vmem S1x512x512 .f32) (h18 : a18.IsWhole) (a19 : Memref sig .tc .vmem S1x512x512 .f32) (h19 : a19.IsWhole) (a20 : Memref sig .tc .vmem S1x512x512 .f32) (h20 : a20.IsWhole) (a21 : Memref sig .tc .vmem S1x512x2048 .f32) (h21 : a21.IsWhole) (a22 : Memref sig .tc .vmem S1x512x128 .f32) (h22 : a22.IsWhole) (a23 : Memref sig .tc .vmem S1x16x512 .f32) (h23 : a23.IsWhole) (a24 : Memref sig .tc .vmem S1x8x1536 .f32) (h24 : a24.IsWhole) (a25 : Memref sig .tc .vmem S1x16x512 .f32) (h25 : a25.IsWhole) (a26 : Memref sig .tc .vmem S1x8x1536 .f32) (h26 : a26.IsWhole) (hc : cond0_0 i)
    (x0 : Vec F S1x512x1024 .f32) (x1 : Vec F S1x16x512 .f32) (x2 : Vec F S1x8x1536 .f32) (x3 : Vec F S1x1024 .f32) (x4 : Vec F S1024x512 .bf16) (x5 : Vec F S1024x1536 .bf16) (x6 : Vec F S1024x512 .bf16) (x7 : Vec F S1024x128 .bf16) (x8 : Vec F S1024x2048 .bf16) (x9 : Vec F S4x128x128 .bf16) (x10 : Vec F S1x512 .f32) (x11 : Vec F S8x1536 .f32) (x12 : Vec F S1x128 .f32) (x13 : Vec F S1x128 .f32) :
    Σ' (L14 : List (View.Piece (Elt F) S1x512x512 .f32)), Σ' (L15 : List (View.Piece (Elt F) S1x512x512 .f32)), Σ' (L16 : List (View.Piece (Elt F) S1x512x512 .f32)), Σ' (L17 : List (View.Piece (Elt F) S1x512x512 .f32)), Σ' (L18 : List (View.Piece (Elt F) S1x512x512 .f32)), Σ' (L19 : List (View.Piece (Elt F) S1x512x2048 .f32)), Σ' (L20 : List (View.Piece (Elt F) S1x512x128 .f32)), Σ' (L21 : List (View.Piece (Elt F) S1x16x512 .f32)), Σ' (L22 : List (View.Piece (Elt F) S1x8x1536 .f32)), Σ' (T0 : List (View.Piece (Elt F) S1x16x512 .f32)), { T1 : List (View.Piece (Elt F) S1x8x1536 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ (∃ f, a16.view.loc (c : Thread nD τ) ↦[a16.view.set]{fullShare} a16.view.writes (Elt F) f L14) ∗ (∃ f, a17.view.loc (c : Thread nD τ) ↦[a17.view.set]{fullShare} a17.view.writes (Elt F) f L15) ∗ (∃ f, a18.view.loc (c : Thread nD τ) ↦[a18.view.set]{fullShare} a18.view.writes (Elt F) f L16) ∗ (∃ f, a19.view.loc (c : Thread nD τ) ↦[a19.view.set]{fullShare} a19.view.writes (Elt F) f L17) ∗ (∃ f, a20.view.loc (c : Thread nD τ) ↦[a20.view.set]{fullShare} a20.view.writes (Elt F) f L18) ∗ (∃ f, a21.view.loc (c : Thread nD τ) ↦[a21.view.set]{fullShare} a21.view.writes (Elt F) f L19) ∗ (∃ f, a22.view.loc (c : Thread nD τ) ↦[a22.view.set]{fullShare} a22.view.writes (Elt F) f L20) ∗ (∃ f, a23.view.loc (c : Thread nD τ) ↦[a23.view.set]{fullShare} a23.view.writes (Elt F) f L21) ∗ (∃ f, a24.view.loc (c : Thread nD τ) ↦[a24.view.set]{fullShare} a24.view.writes (Elt F) f L22) ∗ (∃ f, a25.view.loc (c : Thread nD τ) ↦[a25.view.set]{fullShare} a25.view.writes (Elt F) f T0) ∗ (∃ f, a26.view.loc (c : Thread nD τ) ↦[a26.view.set]{fullShare} a26.view.writes (Elt F) f T1)) -∗ K ⟨⟩))
          ⊢ wp frame (wpE (defs₀ (F := F)) Variants.none c none) E (cc0_mixer_front i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K } := by
  refine ⟨?_, ?_, ?_, ?_, ?_, ?_, ?_, ?_, ?_, ?_, ?_, fun E K => ?run⟩
  case run =>
    simp only [cc0_mixer_front_eq_skeleton]; unfold cc0_mixer_front_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, Hk⟩
    obtain rfl := h2.eq_unread e0; obtain rfl := h3.eq_unread e1; obtain rfl := h4.eq_unread e2; obtain rfl := h5.eq_unread e3; obtain rfl := h6.eq_unread e4; obtain rfl := h7.eq_unread e5; obtain rfl := h8.eq_unread e6; obtain rfl := h9.eq_unread e7; obtain rfl := h10.eq_unread e8; obtain rfl := h11.eq_unread e9; obtain rfl := h12.eq_unread e10; obtain rfl := h13.eq_unread e11; obtain rfl := h14.eq_unread e12; obtain rfl := h15.eq_unread e13
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]
    · iexists _; isplitr; · ipureintro; exact h12.read_unread _
      iexact H10
    isplitl [H11]
    · iexists _; isplitr; · ipureintro; exact h13.read_unread _
      iexact H11
    isplitl [H12]
    · iexists _; isplitr; · ipureintro; exact h14.read_unread _
      iexact H12
    isplitl [H13]
    · iexists _; isplitr; · ipureintro; exact h15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    iexists _; iexact HS1

end Cert.Kernel3Ideal.Front

end
-- ==== Proof.FrontRunB.lean ====
module

public import proofs.«01_k».proof.Proof.FrontRunA

@[expose] public section

set_option maxRecDepth 16384

noncomputable section

namespace Cert.Kernel3Ideal.Front

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body of the front kernel at a later tile: the carried rows are those the tile before left (`xs0`, `xs1`).
    It runs from whole buffers to the stores it makes, which are the lists the run finds. -/
def runB (c : Dev nD) (i : grid0.Coords)
    (a2 : Memref sig .tc .vmem S1x512x1024 .f32) (h2 : a2.IsWhole) (a3 : Memref sig .tc .vmem S1x16x512 .f32) (h3 : a3.IsWhole) (a4 : Memref sig .tc .vmem S1x8x1536 .f32) (h4 : a4.IsWhole) (a5 : Memref sig .tc .vmem S1x1024 .f32) (h5 : a5.IsWhole) (a6 : Memref sig .tc .vmem S1024x512 .bf16) (h6 : a6.IsWhole) (a7 : Memref sig .tc .vmem S1024x1536 .bf16) (h7 : a7.IsWhole) (a8 : Memref sig .tc .vmem S1024x512 .bf16) (h8 : a8.IsWhole) (a9 : Memref sig .tc .vmem S1024x128 .bf16) (h9 : a9.IsWhole) (a10 : Memref sig .tc .vmem S1024x2048 .bf16) (h10 : a10.IsWhole) (a11 : Memref sig .tc .vmem S4x128x128 .bf16) (h11 : a11.IsWhole) (a12 : Memref sig .tc .vmem S1x512 .f32) (h12 : a12.IsWhole) (a13 : Memref sig .tc .vmem S8x1536 .f32) (h13 : a13.IsWhole) (a14 : Memref sig .tc .vmem S1x128 .f32) (h14 : a14.IsWhole) (a15 : Memref sig .tc .vmem S1x128 .f32) (h15 : a15.IsWhole) (a16 : Memref sig .tc .vmem S1x512x512 .f32) (h16 : a16.IsWhole) (a17 : Memref sig .tc .vmem S1x512x512 .f32) (h17 : a17.IsWhole) (a18 : Memref sig .tc .vmem S1x512x512 .f32) (h18 : a18.IsWhole) (a19 : Memref sig .tc .vmem S1x512x512 .f32) (h19 : a19.IsWhole) (a20 : Memref sig .tc .vmem S1x512x512 .f32) (h20 : a20.IsWhole) (a21 : Memref sig .tc .vmem S1x512x2048 .f32) (h21 : a21.IsWhole) (a22 : Memref sig .tc .vmem S1x512x128 .f32) (h22 : a22.IsWhole) (a23 : Memref sig .tc .vmem S1x16x512 .f32) (h23 : a23.IsWhole) (a24 : Memref sig .tc .vmem S1x8x1536 .f32) (h24 : a24.IsWhole) (a25 : Memref sig .tc .vmem S1x16x512 .f32) (h25 : a25.IsWhole) (a26 : Memref sig .tc .vmem S1x8x1536 .f32) (h26 : a26.IsWhole) (hc : ¬cond0_0 i)
    (x0 : Vec F S1x512x1024 .f32) (x1 : Vec F S1x16x512 .f32) (x2 : Vec F S1x8x1536 .f32) (x3 : Vec F S1x1024 .f32) (x4 : Vec F S1024x512 .bf16) (x5 : Vec F S1024x1536 .bf16) (x6 : Vec F S1024x512 .bf16) (x7 : Vec F S1024x128 .bf16) (x8 : Vec F S1024x2048 .bf16) (x9 : Vec F S4x128x128 .bf16) (x10 : Vec F S1x512 .f32) (x11 : Vec F S8x1536 .f32) (x12 : Vec F S1x128 .f32) (x13 : Vec F S1x128 .f32) (xs0 : Vec F S1x16x512 .f32) (xs1 : Vec F S1x8x1536 .f32) :
    Σ' (L14 : List (View.Piece (Elt F) S1x512x512 .f32)), Σ' (L15 : List (View.Piece (Elt F) S1x512x512 .f32)), Σ' (L16 : List (View.Piece (Elt F) S1x512x512 .f32)), Σ' (L17 : List (View.Piece (Elt F) S1x512x512 .f32)), Σ' (L18 : List (View.Piece (Elt F) S1x512x512 .f32)), Σ' (L19 : List (View.Piece (Elt F) S1x512x2048 .f32)), Σ' (L20 : List (View.Piece (Elt F) S1x512x128 .f32)), Σ' (L21 : List (View.Piece (Elt F) S1x16x512 .f32)), Σ' (L22 : List (View.Piece (Elt F) S1x8x1536 .f32)), Σ' (T0 : List (View.Piece (Elt F) S1x16x512 .f32)), { T1 : List (View.Piece (Elt F) S1x8x1536 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ owns (c : Thread nD τ) a25 fullShare xs0 ∗ owns (c : Thread nD τ) a26 fullShare xs1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ owns (c : Thread nD τ) a14 fullShare x12 ∗ owns (c : Thread nD τ) a15 fullShare x13 ∗ (∃ f, a16.view.loc (c : Thread nD τ) ↦[a16.view.set]{fullShare} a16.view.writes (Elt F) f L14) ∗ (∃ f, a17.view.loc (c : Thread nD τ) ↦[a17.view.set]{fullShare} a17.view.writes (Elt F) f L15) ∗ (∃ f, a18.view.loc (c : Thread nD τ) ↦[a18.view.set]{fullShare} a18.view.writes (Elt F) f L16) ∗ (∃ f, a19.view.loc (c : Thread nD τ) ↦[a19.view.set]{fullShare} a19.view.writes (Elt F) f L17) ∗ (∃ f, a20.view.loc (c : Thread nD τ) ↦[a20.view.set]{fullShare} a20.view.writes (Elt F) f L18) ∗ (∃ f, a21.view.loc (c : Thread nD τ) ↦[a21.view.set]{fullShare} a21.view.writes (Elt F) f L19) ∗ (∃ f, a22.view.loc (c : Thread nD τ) ↦[a22.view.set]{fullShare} a22.view.writes (Elt F) f L20) ∗ (∃ f, a23.view.loc (c : Thread nD τ) ↦[a23.view.set]{fullShare} a23.view.writes (Elt F) f L21) ∗ (∃ f, a24.view.loc (c : Thread nD τ) ↦[a24.view.set]{fullShare} a24.view.writes (Elt F) f L22) ∗ (∃ f, a25.view.loc (c : Thread nD τ) ↦[a25.view.set]{fullShare} a25.view.writes (Elt F) f T0) ∗ (∃ f, a26.view.loc (c : Thread nD τ) ↦[a26.view.set]{fullShare} a26.view.writes (Elt F) f T1)) -∗ K ⟨⟩))
          ⊢ wp frame (wpE (defs₀ (F := F)) Variants.none c none) E (cc0_mixer_front i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K } := by
  refine ⟨?_, ?_, ?_, ?_, ?_, ?_, ?_, ?_, ?_, ?_, ?_, fun E K => ?run⟩
  case run =>
    simp only [cc0_mixer_front_eq_skeleton]; unfold cc0_mixer_front_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%fs0, %es0, HS0⟩, ⟨%fs1, %es1, HS1⟩, Hk⟩
    obtain rfl := h2.eq_unread e0; obtain rfl := h3.eq_unread e1; obtain rfl := h4.eq_unread e2; obtain rfl := h5.eq_unread e3; obtain rfl := h6.eq_unread e4; obtain rfl := h7.eq_unread e5; obtain rfl := h8.eq_unread e6; obtain rfl := h9.eq_unread e7; obtain rfl := h10.eq_unread e8; obtain rfl := h11.eq_unread e9; obtain rfl := h12.eq_unread e10; obtain rfl := h13.eq_unread e11; obtain rfl := h14.eq_unread e12; obtain rfl := h15.eq_unread e13; obtain rfl := h25.eq_unread es0; obtain rfl := h26.eq_unread es1
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]
    · iexists _; isplitr; · ipureintro; exact h12.read_unread _
      iexact H10
    isplitl [H11]
    · iexists _; isplitr; · ipureintro; exact h13.read_unread _
      iexact H11
    isplitl [H12]
    · iexists _; isplitr; · ipureintro; exact h14.read_unread _
      iexact H12
    isplitl [H13]
    · iexists _; isplitr; · ipureintro; exact h15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    iexists _; iexact HS1

end Cert.Kernel3Ideal.Front

end
-- ==== Proof.FrontRead.lean ====
module

public import proofs.«01_k».proof.Proof.FrontRunB
public import Idealize.ShloMosaic.Lib.Claim
public import Idealize.ShloMosaic.Lib.Tactic
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Kernel3Ideal.Front

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one tile leaves, as functions of its input blocks and of the rows carried in -/

/-- The carried pool rows followed by the tile's pool rows. -/
def extU (x0 : Vec F S1x512x1024 .f32) (x3 : Vec F S1x1024 .f32) (x4 : Vec F S1024x512 .bf16) (U : Vec F S1x16x512 .f32) : FVec F S528x512 .f32 :=
  k0_pay12 (k0_pay5 x0 x3 x4) U

/-- The carried convolution rows followed by the tile's. -/
def extC (x0 : Vec F S1x512x1024 .f32) (x3 : Vec F S1x1024 .f32) (x5 : Vec F S1024x1536 .bf16) (C : Vec F S1x8x1536 .f32) : FVec F S520x1536 .f32 :=
  k0_pay21 (k0_pay6 x0 x3 x5) C

/-- The convolution of the tile's rows, before its activation. -/
def pre (x0 : Vec F S1x512x1024 .f32) (x3 : Vec F S1x1024 .f32) (x5 : Vec F S1024x1536 .bf16) (x11 : Vec F S8x1536 .f32) (C : Vec F S1x8x1536 .f32) : FVec F S512x1536 .f32 :=
  k0_pay22 (k0_pay6 x0 x3 x5) (k0_pay11 x11) C

/-- The pooled rows, mixed group by group and scaled. -/
def oYa (i : grid0.Coords) (x0 : Vec F S1x512x1024 .f32) (x3 : Vec F S1x1024 .f32) (x4 : Vec F S1024x512 .bf16) (x9 : Vec F S4x128x128 .bf16) (x10 : Vec F S1x512 .f32)
    (U : Vec F S1x16x512 .f32) : FVec F S1x512x512 .f32 :=
  k0_pay18
    (k0_pay13 (BitVec.ofNat 32 (i 1).val) (k0_pay5 x0 x3 x4) U (View.ld x9 (Rect.unit ![0, 0, 0] S1x128x128.size inb_S4x128x128_S1x128x128_0_0_0)))
    (k0_pay15 (k0_pay14 (BitVec.ofNat 32 (i 1).val) (k0_pay5 x0 x3 x4) U) (View.ld x9 (Rect.unit ![1, 0, 0] S1x128x128.size inb_S4x128x128_S1x128x128_1_0_0)))
    (k0_pay16 (k0_pay5 x0 x3 x4) (k0_pay10 (BitVec.ofNat 32 (i 1).val)) (extU x0 x3 x4 U) (View.ld x9 (Rect.unit ![2, 0, 0] S1x128x128.size inb_S4x128x128_S1x128x128_2_0_0)))
    (k0_pay17 (k0_pay5 x0 x3 x4) (k0_pay10 (BitVec.ofNat 32 (i 1).val)) (extU x0 x3 x4 U) (View.ld x9 (Rect.unit ![3, 0, 0] S1x128x128.size inb_S4x128x128_S1x128x128_3_0_0))) x10

/-- The four heads of the query, stored one by one. -/
def lQ (Y : FVec F S512x1536 .f32) : List (View.Piece (Elt F) S1x512x512 .f32) :=
  [⟨Rect.unit ![0, 0, 384] S1x512x128.size inb_S1x512x512_S1x512x128_0_0_384, k0_pay35 (k0_pay23 Y)⟩,
   ⟨Rect.unit ![0, 0, 256] S1x512x128.size inb_S1x512x512_S1x512x128_0_0_256, k0_pay31 (k0_pay23 Y)⟩,
   ⟨Rect.unit ![0, 0, 128] S1x512x128.size inb_S1x512x512_S1x512x128_0_0_128, k0_pay29 (k0_pay23 Y)⟩,
   ⟨Rect.unit ![0, 0, 0] S1x512x128.size inb_S1x512x512_S1x512x128_0_0_0, k0_pay26 Y⟩]

/-- The four heads of the key. -/
def lK (Y : FVec F S512x1536 .f32) : List (View.Piece (Elt F) S1x512x512 .f32) :=
  [⟨Rect.unit ![0, 0, 384] S1x512x128.size inb_S1x512x512_S1x512x128_0_0_384, k0_pay36 (k0_pay23 Y)⟩,
   ⟨Rect.unit ![0, 0, 256] S1x512x128.size inb_S1x512x512_S1x512x128_0_0_256, k0_pay34 (k0_pay32 (k0_pay23 Y)) (k0_pay33 (k0_pay23 Y))⟩,
   ⟨Rect.unit ![0, 0, 128] S1x512x128.size inb_S1x512x512_S1x512x128_0_0_128, k0_pay30 (k0_pay23 Y)⟩,
   ⟨Rect.unit ![0, 0, 0] S1x512x128.size inb_S1x512x512_S1x512x128_0_0_0, k0_pay28 (k0_pay27 Y)⟩]

theorem lQ_cover (Y : FVec F S512x1536 .f32) (q : S1x512x512.Idx) : ∃ p ∈ lQ Y, q ∈ p.1.set :=
  View.cover_of_tiledL (lQ Y) S1x512x128.size (by sl_kernel_rfl) q

theorem lK_cover (Y : FVec F S512x1536 .f32) (q : S1x512x512.Idx) : ∃ p ∈ lK Y, q ∈ p.1.set :=
  View.cover_of_tiledL (lK Y) S1x512x128.size (by sl_kernel_rfl) q

/-- The query block. -/
def oQ (Y : FVec F S512x1536 .f32) : FVec F S1x512x512 .f32 := View.canon (lQ Y)

/-- The key block. -/
def oK (Y : FVec F S512x1536 .f32) : FVec F S1x512x512 .f32 := View.canon (lK Y)

/-- The value block. -/
def oV (Y : FVec F S512x1536 .f32) : FVec F S1x512x512 .f32 := k0_pay1 (k0_pay37 (k0_pay23 Y))

/-! ## The lists a run finds, read back -/

section ReadBack

variable {c : Dev nD} {i : grid0.Coords}
  {a2 : Memref sig .tc .vmem S1x512x1024 .f32} {h2 : a2.IsWhole} {a3 : Memref sig .tc .vmem S1x16x512 .f32} {h3 : a3.IsWhole} {a4 : Memref sig .tc .vmem S1x8x1536 .f32} {h4 : a4.IsWhole} {a5 : Memref sig .tc .vmem S1x1024 .f32} {h5 : a5.IsWhole} {a6 : Memref sig .tc .vmem S1024x512 .bf16} {h6 : a6.IsWhole} {a7 : Memref sig .tc .vmem S1024x1536 .bf16} {h7 : a7.IsWhole} {a8 : Memref sig .tc .vmem S1024x512 .bf16} {h8 : a8.IsWhole} {a9 : Memref sig .tc .vmem S1024x128 .bf16} {h9 : a9.IsWhole} {a10 : Memref sig .tc .vmem S1024x2048 .bf16} {h10 : a10.IsWhole} {a11 : Memref sig .tc .vmem S4x128x128 .bf16} {h11 : a11.IsWhole} {a12 : Memref sig .tc .vmem S1x512 .f32} {h12 : a12.IsWhole} {a13 : Memref sig .tc .vmem S8x1536 .f32} {h13 : a13.IsWhole} {a14 : Memref sig .tc .vmem S1x128 .f32} {h14 : a14.IsWhole} {a15 : Memref sig .tc .vmem S1x128 .f32} {h15 : a15.IsWhole} {a16 : Memref sig .tc .vmem S1x512x512 .f32} {h16 : a16.IsWhole} {a17 : Memref sig .tc .vmem S1x512x512 .f32} {h17 : a17.IsWhole} {a18 : Memref sig .tc .vmem S1x512x512 .f32} {h18 : a18.IsWhole} {a19 : Memref sig .tc .vmem S1x512x512 .f32} {h19 : a19.IsWhole} {a20 : Memref sig .tc .vmem S1x512x512 .f32} {h20 : a20.IsWhole} {a21 : Memref sig .tc .vmem S1x512x2048 .f32} {h21 : a21.IsWhole} {a22 : Memref sig .tc .vmem S1x512x128 .f32} {h22 : a22.IsWhole} {a23 : Memref sig .tc .vmem S1x16x512 .f32} {h23 : a23.IsWhole} {a24 : Memref sig .tc .vmem S1x8x1536 .f32} {h24 : a24.IsWhole} {a25 : Memref sig .tc .vmem S1x16x512 .f32} {h25 : a25.IsWhole} {a26 : Memref sig .tc .vmem S1x8x1536 .f32} {h26 : a26.IsWhole}
  {x0 : Vec F S1x512x1024 .f32} {x1 : Vec F S1x16x512 .f32} {x2 : Vec F S1x8x1536 .f32} {x3 : Vec F S1x1024 .f32} {x4 : Vec F S1024x512 .bf16} {x5 : Vec F S1024x1536 .bf16} {x6 : Vec F S1024x512 .bf16} {x7 : Vec F S1024x128 .bf16} {x8 : Vec F S1024x2048 .bf16} {x9 : Vec F S4x128x128 .bf16} {x10 : Vec F S1x512 .f32} {x11 : Vec F S8x1536 .f32} {x12 : Vec F S1x128 .f32} {x13 : Vec F S1x128 .f32} {xs0 : Vec F S1x16x512 .f32} {xs1 : Vec F S1x8x1536 .f32}

theorem readA_16 {hc : cond0_0 i} (f) : a16.view.read (Elt F) (a16.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).1) = oYa i x0 x3 x4 x9 x10 (k0_pay2 x1) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold oYa extU
  simp (disch := decide) only [View.ld_unit_lit', View.readCov_unit_lit']

theorem readA_17 {hc : cond0_0 i} (f) : a17.view.read (Elt F) (a17.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.1) = oQ (pre x0 x3 x5 x11 (k0_pay3 x2)) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_eq_canon _ _ _ (fun q => lQ_cover _ q)).trans ?_
  show View.canon (lQ _) = View.canon (lQ _)
  refine congrArg (fun Y => View.canon (lQ Y)) ?_
  unfold pre
  simp (disch := decide) only [View.ld_unit_lit', View.readCov_unit_lit']

theorem readA_18 {hc : cond0_0 i} (f) : a18.view.read (Elt F) (a18.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.1) = oK (pre x0 x3 x5 x11 (k0_pay3 x2)) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_eq_canon _ _ _ (fun q => lK_cover _ q)).trans ?_
  show View.canon (lK _) = View.canon (lK _)
  refine congrArg (fun Y => View.canon (lK Y)) ?_
  unfold pre
  simp (disch := decide) only [View.ld_unit_lit', View.readCov_unit_lit']

theorem readA_19 {hc : cond0_0 i} (f) : a19.view.read (Elt F) (a19.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.1) = oV (pre x0 x3 x5 x11 (k0_pay3 x2)) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold oV pre
  simp (disch := decide) only [View.ld_unit_lit', View.readCov_unit_lit']

theorem readA_20 {hc : cond0_0 i} (f) : a20.view.read (Elt F) (a20.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.2.1) = k0_pay7 x0 x3 x6 := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  simp (disch := decide) only [View.ld_unit_lit', View.readCov_unit_lit']

theorem readA_21 {hc : cond0_0 i} (f) : a21.view.read (Elt F) (a21.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.2.2.1) = k0_pay8 (k0_pay4 x0 x3) x8 := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  simp (disch := decide) only [View.ld_unit_lit', View.readCov_unit_lit']

theorem readA_22 {hc : cond0_0 i} (f) : a22.view.read (Elt F) (a22.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.2.2.2.1) = k0_pay9 (k0_pay4 x0 x3) x7 x12 x13 := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  simp (disch := decide) only [View.ld_unit_lit', View.readCov_unit_lit']

theorem readA_23 {hc : cond0_0 i} (f) : a23.view.read (Elt F) (a23.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.2.2.2.2.1) = k0_pay19 (extU x0 x3 x4 (k0_pay2 x1)) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extU
  simp (disch := decide) only [View.ld_unit_lit', View.readCov_unit_lit']

theorem readA_24 {hc : cond0_0 i} (f) : a24.view.read (Elt F) (a24.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.2.2.2.2.2.1) = k0_pay24 (extC x0 x3 x5 (k0_pay3 x2)) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extC
  simp (disch := decide) only [View.ld_unit_lit', View.readCov_unit_lit']

theorem readA_25 {hc : cond0_0 i} (f) : a25.view.read (Elt F) (a25.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.2.2.2.2.2.2.1) = k0_pay20 (extU x0 x3 x4 (k0_pay2 x1)) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extU
  simp (disch := decide) only [View.ld_unit_lit', View.readCov_unit_lit']

theorem readA_26 {hc : cond0_0 i} (f) : a26.view.read (Elt F) (a26.view.writes (Elt F) f (runA c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13).2.2.2.2.2.2.2.2.2.2.1) = k0_pay25 (extC x0 x3 x5 (k0_pay3 x2)) := by
  unfold runA
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extC
  simp (disch := decide) only [View.ld_unit_lit', View.readCov_unit_lit']

theorem readB_16 {hc : ¬cond0_0 i} (f) : a16.view.read (Elt F) (a16.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).1) = oYa i x0 x3 x4 x9 x10 xs0 := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold oYa extU
  simp (disch := decide) only [View.ld_unit_lit', View.readCov_unit_lit']

theorem readB_17 {hc : ¬cond0_0 i} (f) : a17.view.read (Elt F) (a17.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.1) = oQ (pre x0 x3 x5 x11 xs1) := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_eq_canon _ _ _ (fun q => lQ_cover _ q)).trans ?_
  show View.canon (lQ _) = View.canon (lQ _)
  refine congrArg (fun Y => View.canon (lQ Y)) ?_
  unfold pre
  simp (disch := decide) only [View.ld_unit_lit', View.readCov_unit_lit']

theorem readB_18 {hc : ¬cond0_0 i} (f) : a18.view.read (Elt F) (a18.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.1) = oK (pre x0 x3 x5 x11 xs1) := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_eq_canon _ _ _ (fun q => lK_cover _ q)).trans ?_
  show View.canon (lK _) = View.canon (lK _)
  refine congrArg (fun Y => View.canon (lK Y)) ?_
  unfold pre
  simp (disch := decide) only [View.ld_unit_lit', View.readCov_unit_lit']

theorem readB_19 {hc : ¬cond0_0 i} (f) : a19.view.read (Elt F) (a19.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.1) = oV (pre x0 x3 x5 x11 xs1) := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold oV pre
  simp (disch := decide) only [View.ld_unit_lit', View.readCov_unit_lit']

theorem readB_20 {hc : ¬cond0_0 i} (f) : a20.view.read (Elt F) (a20.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.2.1) = k0_pay7 x0 x3 x6 := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  simp (disch := decide) only [View.ld_unit_lit', View.readCov_unit_lit']

theorem readB_21 {hc : ¬cond0_0 i} (f) : a21.view.read (Elt F) (a21.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.2.2.1) = k0_pay8 (k0_pay4 x0 x3) x8 := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  simp (disch := decide) only [View.ld_unit_lit', View.readCov_unit_lit']

theorem readB_22 {hc : ¬cond0_0 i} (f) : a22.view.read (Elt F) (a22.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.2.2.2.1) = k0_pay9 (k0_pay4 x0 x3) x7 x12 x13 := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  simp (disch := decide) only [View.ld_unit_lit', View.readCov_unit_lit']

theorem readB_23 {hc : ¬cond0_0 i} (f) : a23.view.read (Elt F) (a23.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.2.2.2.2.1) = k0_pay19 (extU x0 x3 x4 xs0) := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extU
  simp (disch := decide) only [View.ld_unit_lit', View.readCov_unit_lit']

theorem readB_24 {hc : ¬cond0_0 i} (f) : a24.view.read (Elt F) (a24.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.2.2.2.2.2.1) = k0_pay24 (extC x0 x3 x5 xs1) := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extC
  simp (disch := decide) only [View.ld_unit_lit', View.readCov_unit_lit']

theorem readB_25 {hc : ¬cond0_0 i} (f) : a25.view.read (Elt F) (a25.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.2.2.2.2.2.2.1) = k0_pay20 (extU x0 x3 x4 xs0) := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extU
  simp (disch := decide) only [View.ld_unit_lit', View.readCov_unit_lit']

theorem readB_26 {hc : ¬cond0_0 i} (f) : a26.view.read (Elt F) (a26.view.writes (Elt F) f (runB c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc x0 x1 x2 x3 x4 x5 x6 x7 x8 x9 x10 x11 x12 x13 xs0 xs1).2.2.2.2.2.2.2.2.2.2.1) = k0_pay25 (extC x0 x3 x5 xs1) := by
  unfold runB
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread]
  refine (View.read_writes_full _ _ _ _ _).trans ?_
  unfold extC
  simp (disch := decide) only [View.ld_unit_lit', View.readCov_unit_lit']

end ReadBack

end Cert.Kernel3Ideal.Front

end
-- ==== Proof.FrontTile.lean ====
module

public import proofs.«01_k».proof.Proof.FrontSpec
public import proofs.«01_k».proof.Proof.FrontRead

@[expose] public section

set_option maxRecDepth 16384

noncomputable section

open Idealize.ShloMosaic Idealize.ShloMosaic.TcCoe

namespace Cert.Kernel3Ideal.Front

open Cert.Kernel3Ideal Cert.Kernel3Ideal.Gen Cert.MergeMath Cert.FrontMath Cert.FrontSpec

/-- Row `r` of tile `li`, as a row of the sequence. -/
abbrev rw8 (li : ℕ) (hli : li < 16) (r : Fin 512) : Fin 8192 := ⟨512 * li + r.val, by omega⟩

section Tile

variable {X : Fin 8192 → Fin 1024 → EReal} {g : Fin 1024 → EReal} {W : Fin 1024 → Fin 4616 → EReal} {li : ℕ} {hli : li < 16}
  {x0 : FVec Ideal S1x512x1024 .f32} {x3 : FVec Ideal S1x1024 .f32}

theorem hR_eq (h0 : ∀ r d, x0 (ix3 0 r d) = X (rw8 li hli r) d) (h3 : ∀ d, x3 (ix2 0 d) = g d) (r : Fin 512) :
    hR x0 x3 r = nE (X (rw8 li hli r)) g := by
  funext d
  unfold hR
  simp only [h0, h3]

theorem prj_at (h0 : ∀ r d, x0 (ix3 0 r d) = X (rw8 li hli r) d) (h3 : ∀ d, x3 (ix2 0 d) = g d) (r : Fin 512) (e : Fin 4616) (f : Fin 1024 → EReal)
    (hf : ∀ d, f d = W d e) : prj (hR x0 x3 r) f = PX X g W (rw8 li hli r) e := by
  rw [hR_eq h0 h3, show f = fun d => W d e from funext hf]
  rfl

/-! ### The pool -/

variable {x4 : FVec Ideal S1024x512 .bf16} {U : FVec Ideal S1x16x512 .f32}

theorem u_at (h0 : ∀ r d, x0 (ix3 0 r d) = X (rw8 li hli r) d) (h3 : ∀ d, x3 (ix2 0 d) = g d)
    (h4 : ∀ (d : Fin 1024) (e : Fin 512), x4 (ix2 d e) = W d ⟨0 + e.val, by omega⟩) (r : Fin 512) (e : Fin 512) :
    k0_pay5 (F := Ideal) x0 x3 x4 (ix2 r e) = PX X g W (rw8 li hli r) ⟨e.val, by omega⟩ :=
  (pay5_at x0 x3 x4 r e).trans (prj_at h0 h3 r _ _ fun d => (h4 d e).trans (congrArg (W d) (Fin.ext (Nat.zero_add _))))

theorem eP_eq (h0 : ∀ r d, x0 (ix3 0 r d) = X (rw8 li hli r) d) (h3 : ∀ d, x3 (ix2 0 d) = g d)
    (h4 : ∀ (d : Fin 1024) (e : Fin 512), x4 (ix2 d e) = W d ⟨0 + e.val, by omega⟩)
    (hU : ∀ (k : Fin 16) (e : Fin 512), U (ix3 0 k e) = uZ X g W e (512 * li + k.val)) (e : Fin 512) (n : ℕ) (hn : n < 528) :
    eP (k0_pay5 (F := Ideal) x0 x3 x4) U e n = uZ X g W e (512 * li + n) := by
  unfold eP extT
  by_cases h : n < 16
  · rw [dif_pos h]; exact hU ⟨n, h⟩ e
  · rw [dif_neg h, dif_pos (by omega)]
    refine (u_at (hli := hli) h0 h3 h4 _ e).trans ?_
    unfold uZ extZ
    rw [if_neg (by omega), dif_pos (by omega)]
    exact congrArg (fun l => PX X g W l ⟨e.val, by omega⟩) (Fin.ext (show 512 * li + (n - 16) = 512 * li + n - 16 by omega))

variable {x9 : FVec Ideal S4x128x128 .bf16} {x10 : FVec Ideal S1x512 .f32} {Wg : Fin 4 → Fin 128 → Fin 128 → EReal} {ps : Fin 512 → EReal}

theorem pE_eq (h0 : ∀ r d, x0 (ix3 0 r d) = X (rw8 li hli r) d) (h3 : ∀ d, x3 (ix2 0 d) = g d)
    (h4 : ∀ (d : Fin 1024) (e : Fin 512), x4 (ix2 d e) = W d ⟨0 + e.val, by omega⟩)
    (hU : ∀ (k : Fin 16) (e : Fin 512), U (ix3 0 k e) = uZ X g W e (512 * li + k.val)) (h : Fin 4) (r : Fin 512) (k : Fin 128) (l : ℕ) (hl : l = 512 * li + r.val) :
    pE (k0_pay5 (F := Ideal) x0 x3 x4) U h l r k = poE X g W (rw8 li hli r) h k := by
  subst hl
  unfold pE poE
  rw [u_at h0 h3 h4, winG_shift h _ (uZ X g W (col h k)) (512 * li) (fun n hn => eP_eq h0 h3 h4 hU (col h k) n hn) (16 + r.val) (by omega) (by omega)]
  rw [show 512 * li + (16 + r.val) = 16 + (512 * li + r.val) by omega]

theorem oYa_at (i : grid0.Coords) (hi : (i 1).val = li) (h0 : ∀ r d, x0 (ix3 0 r d) = X (rw8 li hli r) d) (h3 : ∀ d, x3 (ix2 0 d) = g d)
    (h4 : ∀ (d : Fin 1024) (e : Fin 512), x4 (ix2 d e) = W d ⟨0 + e.val, by omega⟩)
    (hU : ∀ (k : Fin 16) (e : Fin 512), U (ix3 0 k e) = uZ X g W e (512 * li + k.val))
    (h9 : ∀ g k d, x9 (ix3 g k d) = Wg g k d) (h10 : ∀ e, x10 (ix2 0 e) = ps e) (z : Fin 1) (r : Fin 512) (e : Fin 512) :
    oYa (F := Ideal) i x0 x3 x4 x9 x10 U (ix3 z r e) = yaE X g W Wg ps (rw8 li hli r) e := by
  have ha : 512 * (BitVec.ofNat 32 (i 1).val).toNat + r.val = 512 * li + r.val := by
    rw [hi, BitVec.toNat_ofNat, Nat.mod_eq_of_lt (by omega)]
  unfold oYa
  rw [pay18_at, h10]
  unfold yaE
  refine congrArg (· * ps e) ?_
  generalize colG e = h
  generalize colD e = d
  match h with
  | ⟨0, hn⟩ =>
    refine (g0_at _ U _ _ r d).trans (Finset.sum_congr rfl fun k _ => ?_)
    rw [pE_eq h0 h3 h4 hU 0 r k _ ha]
    exact congrArg (poE X g W (rw8 li hli r) 0 k * ·) (Eq.trans (by pointwise) (h9 0 k d))
  | ⟨1, hn⟩ =>
    refine (g1_at _ U _ _ r d).trans (Finset.sum_congr rfl fun k _ => ?_)
    rw [pE_eq h0 h3 h4 hU 1 r k _ ha]
    exact congrArg (poE X g W (rw8 li hli r) 1 k * ·) (Eq.trans (by pointwise) (h9 1 k d))
  | ⟨2, hn⟩ =>
    refine (g2_at _ U _ _ r d).trans (Finset.sum_congr rfl fun k _ => ?_)
    rw [pE_eq h0 h3 h4 hU 2 r k _ ha]
    exact congrArg (poE X g W (rw8 li hli r) 2 k * ·) (Eq.trans (by pointwise) (h9 2 k d))
  | ⟨3, hn⟩ =>
    refine (g3_at _ U _ _ r d).trans (Finset.sum_congr rfl fun k _ => ?_)
    rw [pE_eq h0 h3 h4 hU 3 r k _ ha]
    exact congrArg (poE X g W (rw8 li hli r) 3 k * ·) (Eq.trans (by pointwise) (h9 3 k d))

theorem tailU_at (h0 : ∀ r d, x0 (ix3 0 r d) = X (rw8 li hli r) d) (h3 : ∀ d, x3 (ix2 0 d) = g d)
    (h4 : ∀ (d : Fin 1024) (e : Fin 512), x4 (ix2 d e) = W d ⟨0 + e.val, by omega⟩)
    (hU : ∀ (k : Fin 16) (e : Fin 512), U (ix3 0 k e) = uZ X g W e (512 * li + k.val)) (z : Fin 1) (k : Fin 16) (e : Fin 512) :
    k0_pay19 (F := Ideal) (extU x0 x3 x4 U) (ix3 z k e) = uZ X g W e (512 * li + (512 + k.val)) :=
  (pay19_at _ U z k e).trans (eP_eq h0 h3 h4 hU e _ (by omega))

theorem carryU_at (h0 : ∀ r d, x0 (ix3 0 r d) = X (rw8 li hli r) d) (h3 : ∀ d, x3 (ix2 0 d) = g d)
    (h4 : ∀ (d : Fin 1024) (e : Fin 512), x4 (ix2 d e) = W d ⟨0 + e.val, by omega⟩)
    (z : Fin 1) (k : Fin 16) (e : Fin 512) :
    k0_pay20 (F := Ideal) (extU x0 x3 x4 U) (ix3 z k e) = uZ X g W e (512 * li + (512 + k.val)) := by
  refine (pay20_at _ U z k e).trans ?_
  unfold eP extT
  rw [dif_neg (by omega), dif_pos (by omega)]
  refine (u_at (hli := hli) h0 h3 h4 _ e).trans ?_
  unfold uZ extZ
  rw [if_neg (by omega), dif_pos (by omega)]
  exact congrArg (fun l => PX X g W l ⟨e.val, by omega⟩) (Fin.ext (show 512 * li + (512 + k.val - 16) = 512 * li + (512 + k.val) - 16 by omega))

/-! ### The convolution -/

variable {x5 : FVec Ideal S1024x1536 .bf16} {C : FVec Ideal S1x8x1536 .f32}

theorem c_at (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩) (r : Fin 512) (e : Fin 1536) :
    k0_pay6 (F := Ideal) x0 x3 x5 (ix2 r e) = PX X g W (rw8 li hli r) ⟨512 + e.val, by omega⟩ :=
  (pay6_at x0 x3 x5 r e).trans (prj_at h0 h3 r _ _ fun d => h5 d e)

theorem eC_eq (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩)
    (hC : ∀ (k : Fin 8) (e : Fin 1536), C (ix3 0 k e) = cZ X g W e (512 * li + k.val)) (e : Fin 1536) (n : ℕ) (hn : n < 520) :
    eC (k0_pay6 (F := Ideal) x0 x3 x5) C e n = cZ X g W e (512 * li + n) := by
  unfold eC extT
  by_cases h : n < 8
  · rw [dif_pos h]; exact hC ⟨n, h⟩ e
  · rw [dif_neg h, dif_pos (by omega)]
    refine (c_at (hli := hli) h0 h3 h5 _ e).trans ?_
    unfold cZ extZ
    rw [if_neg (by omega), dif_pos (by omega)]
    exact congrArg (fun l => PX X g W l ⟨512 + e.val, by omega⟩) (Fin.ext (show 512 * li + (n - 8) = 512 * li + n - 8 by omega))

theorem tailC_at (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩)
    (hC : ∀ (k : Fin 8) (e : Fin 1536), C (ix3 0 k e) = cZ X g W e (512 * li + k.val)) (z : Fin 1) (k : Fin 8) (e : Fin 1536) :
    k0_pay24 (F := Ideal) (extC x0 x3 x5 C) (ix3 z k e) = cZ X g W e (512 * li + (512 + k.val)) :=
  (pay24_at _ C z k e).trans (eC_eq h0 h3 h5 hC e _ (by omega))

theorem carryC_at (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩) (z : Fin 1) (k : Fin 8) (e : Fin 1536) :
    k0_pay25 (F := Ideal) (extC x0 x3 x5 C) (ix3 z k e) = cZ X g W e (512 * li + (512 + k.val)) := by
  refine (pay25_at _ C z k e).trans ?_
  unfold eC extT
  rw [dif_neg (by omega), dif_pos (by omega)]
  refine (c_at (hli := hli) h0 h3 h5 _ e).trans ?_
  unfold cZ extZ
  rw [if_neg (by omega), dif_pos (by omega)]
  exact congrArg (fun l => PX X g W l ⟨512 + e.val, by omega⟩) (Fin.ext (show 512 * li + (512 + k.val - 8) = 512 * li + (512 + k.val) - 8 by omega))

variable {x11 : FVec Ideal S8x1536 .f32} {wc : Fin 4 → Fin 1536 → EReal}

theorem y_at (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩)
    (hC : ∀ (k : Fin 8) (e : Fin 1536), C (ix3 0 k e) = cZ X g W e (512 * li + k.val))
    (h11 : ∀ (j : Fin 8) (h : j.val < 4) e, x11 (ix2 j e) = wc ⟨j.val, h⟩ e) (r : Fin 512) (e : Fin 1536) :
    k0_pay23 (F := Ideal) (pre x0 x3 x5 x11 C) (ix2 r e) = yE X g W wc (rw8 li hli r) e := by
  rw [pay23_at]
  unfold yE
  refine congrArg silE ?_
  refine (pay22_at _ C x11 r e).trans ?_
  rw [h11 0 (by decide), h11 1 (by decide), h11 2 (by decide), h11 3 (by decide)]
  unfold convE
  rw [eC_eq h0 h3 h5 hC e _ (by omega), eC_eq h0 h3 h5 hC e _ (by omega), eC_eq h0 h3 h5 hC e _ (by omega), eC_eq h0 h3 h5 hC e _ (by omega)]
  rw [show 512 * li + (8 + r.val) = 8 + (512 * li + r.val) by omega, show 512 * li + (8 + r.val - 1) = 8 + (512 * li + r.val) - 1 by omega,
    show 512 * li + (8 + r.val - 2) = 8 + (512 * li + r.val) - 2 by omega, show 512 * li + (8 + r.val - 3) = 8 + (512 * li + r.val) - 3 by omega]
  rfl

theorem hd_of (o : ℕ) (ho : o ≤ 1024) (h : Fin 4) (r : Fin 512) (d : Fin 128) (f : Fin 128 → EReal)
    (hf : ∀ d, f d = yE X g W wc (rw8 li hli r) ⟨o + (col h d).val, by omega⟩) (q1 q2 : Fin 512) (h1 : q1.val = r.val) (h2 : q2.val = 128 * h.val + d.val) :
    l2E f d = hdE X g W wc o ho (rw8 li hli q1) q2 := by
  have e1 : q1 = r := Fin.ext h1
  have e2 : q2 = col h d := Fin.ext h2
  have hg : colG (col h d) = h := Fin.ext (show (128 * h.val + d.val) / 128 = h.val by omega)
  have hd : colD (col h d) = d := Fin.ext (show (128 * h.val + d.val) % 128 = d.val by omega)
  subst e1 e2
  unfold hdE
  simp only [hg, hd]
  rw [show f = _ from funext hf]

theorem q_at (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩)
    (hC : ∀ (k : Fin 8) (e : Fin 1536), C (ix3 0 k e) = cZ X g W e (512 * li + k.val))
    (h11 : ∀ (j : Fin 8) (h : j.val < 4) e, x11 (ix2 j e) = wc ⟨j.val, h⟩ e) (z : Fin 1) (r : Fin 512) (e : Fin 512) :
    oQ (F := Ideal) (pre x0 x3 x5 x11 C) (ix3 z r e) = hdE X g W wc 0 (by decide) (rw8 li hli r) e := by
  have hy := y_at (hli := hli) h0 h3 h5 hC h11
  revert hy
  unfold oQ
  generalize pre (F := Ideal) x0 x3 x5 x11 C = Y
  intro hy
  refine View.canon_apply_of_pieces (Val := Elt Ideal) (e := .f32) (fun q : S1x512x512.Idx => hdE X g W wc 0 (by decide) (rw8 li hli (q 1)) (q 2)) _ ?_ (ix3 z r e) (lQ_cover (F := Ideal) Y _)
  intro pc hpc
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay35_at _ z r d).trans ?_
    exact hd_of 0 (by decide) 3 r d _ (fun d => (hy r _).trans (congrArg _ (Fin.ext (show 384 + d.val = 0 + (128 * 3 + d.val) by omega)))) _ _
      (show 0 + 1 * r.val = r.val by omega) (show 384 + 1 * d.val = 128 * 3 + d.val by omega)
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay31_at _ z r d).trans ?_
    exact hd_of 0 (by decide) 2 r d _ (fun d => (hy r _).trans (congrArg _ (Fin.ext (show 256 + d.val = 0 + (128 * 2 + d.val) by omega)))) _ _
      (show 0 + 1 * r.val = r.val by omega) (show 256 + 1 * d.val = 128 * 2 + d.val by omega)
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay29_at _ z r d).trans ?_
    exact hd_of 0 (by decide) 1 r d _ (fun d => (hy r _).trans (congrArg _ (Fin.ext (show 128 + d.val = 0 + (128 * 1 + d.val) by omega)))) _ _
      (show 0 + 1 * r.val = r.val by omega) (show 128 + 1 * d.val = 128 * 1 + d.val by omega)
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay26_at _ z r d).trans ?_
    exact hd_of 0 (by decide) 0 r d _ (fun d => (hy r _).trans (congrArg _ (Fin.ext (show 0 + d.val = 0 + (128 * 0 + d.val) by omega)))) _ _
      (show 0 + 1 * r.val = r.val by omega) (show 0 + 1 * d.val = 128 * 0 + d.val by omega)
  nomatch hpc

theorem k_at (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩)
    (hC : ∀ (k : Fin 8) (e : Fin 1536), C (ix3 0 k e) = cZ X g W e (512 * li + k.val))
    (h11 : ∀ (j : Fin 8) (h : j.val < 4) e, x11 (ix2 j e) = wc ⟨j.val, h⟩ e) (z : Fin 1) (r : Fin 512) (e : Fin 512) :
    oK (F := Ideal) (pre x0 x3 x5 x11 C) (ix3 z r e) = hdE X g W wc 512 (by decide) (rw8 li hli r) e := by
  have hy := y_at (hli := hli) h0 h3 h5 hC h11
  revert hy
  unfold oK
  generalize pre (F := Ideal) x0 x3 x5 x11 C = Y
  intro hy
  refine View.canon_apply_of_pieces (Val := Elt Ideal) (e := .f32) (fun q : S1x512x512.Idx => hdE X g W wc 512 (by decide) (rw8 li hli (q 1)) (q 2)) _ ?_ (ix3 z r e) (lK_cover (F := Ideal) Y _)
  intro pc hpc
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay36_at _ z r d).trans ?_
    exact hd_of 512 (by decide) 3 r d _ (fun d => (hy r _).trans (congrArg _ (Fin.ext (show 896 + d.val = 512 + (128 * 3 + d.val) by omega)))) _ _
      (show 0 + 1 * r.val = r.val by omega) (show 384 + 1 * d.val = 128 * 3 + d.val by omega)
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay34_at _ z r d).trans ?_
    exact hd_of 512 (by decide) 2 r d _ (fun d => (hy r _).trans (congrArg _ (Fin.ext (show 768 + d.val = 512 + (128 * 2 + d.val) by omega)))) _ _
      (show 0 + 1 * r.val = r.val by omega) (show 256 + 1 * d.val = 128 * 2 + d.val by omega)
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay30_at _ z r d).trans ?_
    exact hd_of 512 (by decide) 1 r d _ (fun d => (hy r _).trans (congrArg _ (Fin.ext (show 640 + d.val = 512 + (128 * 1 + d.val) by omega)))) _ _
      (show 0 + 1 * r.val = r.val by omega) (show 128 + 1 * d.val = 128 * 1 + d.val by omega)
  rcases List.mem_cons.mp hpc with rfl | hpc
  · intro x
    obtain ⟨z, r, d, rfl⟩ : ∃ (z : Fin 1) (r : Fin 512) (d : Fin 128), x = ix3 z r d := ⟨x 0, x 1, x 2, (ix3_eta x).symm⟩
    refine (pay28_at _ z r d).trans ?_
    exact hd_of 512 (by decide) 0 r d _ (fun d => (hy r _).trans (congrArg _ (Fin.ext (show 512 + d.val = 512 + (128 * 0 + d.val) by omega)))) _ _
      (show 0 + 1 * r.val = r.val by omega) (show 0 + 1 * d.val = 128 * 0 + d.val by omega)
  nomatch hpc

theorem v_at (h0 : ∀ r d, x0 (ix3 0 r d) = X (rw8 li hli r) d) (h3 : ∀ d, x3 (ix2 0 d) = g d)
    (h5 : ∀ (d : Fin 1024) (e : Fin 1536), x5 (ix2 d e) = W d ⟨512 + e.val, by omega⟩)
    (hC : ∀ (k : Fin 8) (e : Fin 1536), C (ix3 0 k e) = cZ X g W e (512 * li + k.val))
    (h11 : ∀ (j : Fin 8) (h : j.val < 4) e, x11 (ix2 j e) = wc ⟨j.val, h⟩ e) (z : Fin 1) (r : Fin 512) (e : Fin 512) :
    oV (F := Ideal) (pre x0 x3 x5 x11 C) (ix3 z r e) = yE X g W wc (rw8 li hli r) ⟨1024 + e.val, by omega⟩ :=
  (pay37_at _ z r e).trans (y_at h0 h3 h5 hC h11 r _)

/-! ### The plain projections and the gates -/

theorem z_at {x6 : FVec Ideal S1024x512 .bf16} (h0 : ∀ r d, x0 (ix3 0 r d) = X (rw8 li hli r) d) (h3 : ∀ d, x3 (ix2 0 d) = g d)
    (h6 : ∀ (d : Fin 1024) (e : Fin 512), x6 (ix2 d e) = W d ⟨2048 + e.val, by omega⟩) (z : Fin 1) (r : Fin 512) (e : Fin 512) :
    k0_pay7 (F := Ideal) x0 x3 x6 (ix3 z r e) = PX X g W (rw8 li hli r) ⟨2048 + e.val, by omega⟩ :=
  (pay7_at x0 x3 x6 z r e).trans (prj_at h0 h3 r _ _ fun d => h6 d e)

theorem graw_at {x8 : FVec Ideal S1024x2048 .bf16} (h0 : ∀ r d, x0 (ix3 0 r d) = X (rw8 li hli r) d) (h3 : ∀ d, x3 (ix2 0 d) = g d)
    (h8 : ∀ (d : Fin 1024) (e : Fin 2048), x8 (ix2 d e) = W d ⟨2568 + e.val, by omega⟩) (z : Fin 1) (r : Fin 512) (e : Fin 2048) :
    k0_pay8 (F := Ideal) (k0_pay4 x0 x3) x8 (ix3 z r e) = PX X g W (rw8 li hli r) ⟨2568 + e.val, by omega⟩ :=
  (pay8_at x0 x3 x8 z r e).trans (prj_at h0 h3 r _ _ fun d => h8 d e)

theorem bg_at {x7 : FVec Ideal S1024x128 .bf16} {x12 x13 : FVec Ideal S1x128 .f32} {al dt : Fin 4 → EReal}
    (h0 : ∀ r d, x0 (ix3 0 r d) = X (rw8 li hli r) d) (h3 : ∀ d, x3 (ix2 0 d) = g d)
    (h7 : ∀ (d : Fin 1024) (e : Fin 128) (h : e.val < 8), x7 (ix2 d e) = W d ⟨2560 + e.val, by omega⟩)
    (h12 : ∀ (e : Fin 128) (h : 4 ≤ e.val) (h8 : e.val < 8), x12 (ix2 0 e) = al ⟨e.val - 4, by omega⟩)
    (h13 : ∀ (e : Fin 128) (h : 4 ≤ e.val) (h8 : e.val < 8), x13 (ix2 0 e) = dt ⟨e.val - 4, by omega⟩)
    (z : Fin 1) (r : Fin 512) (e : Fin 8) :
    k0_pay9 (F := Ideal) (k0_pay4 x0 x3) x7 x12 x13 (ix3 z r ⟨e.val, by omega⟩) = bgE X g W al dt (rw8 li hli r) e := by
  rw [pay9_at, prj_at (W := W) (hli := hli) h0 h3 r ⟨2560 + e.val, by omega⟩ _ fun d => h7 d ⟨e.val, by omega⟩ (by show e.val < 8; omega)]
  unfold bgE
  by_cases h : e.val < 4
  · rw [if_pos h, dif_pos h]
  · rw [if_neg h, dif_neg h, h12 ⟨e.val, by omega⟩ (by show 4 ≤ e.val; omega) (by show e.val < 8; omega),
      h13 ⟨e.val, by omega⟩ (by show 4 ≤ e.val; omega) (by show e.val < 8; omega)]

end Tile

theorem pay2_at (x : FVec Ideal S1x16x512 .f32) (q : S1x16x512.Idx) : k0_pay2 (F := Ideal) x q = x q := by
  obtain ⟨z, k, e, rfl⟩ : ∃ (z : Fin 1) (k : Fin 16) (e : Fin 512), q = ix3 z k e := ⟨q 0, q 1, q 2, (ix3_eta q).symm⟩
  unfold k0_pay2
  pointwise

theorem pay3_at (x : FVec Ideal S1x8x1536 .f32) (q : S1x8x1536.Idx) : k0_pay3 (F := Ideal) x q = x q := by
  obtain ⟨z, k, e, rfl⟩ : ∃ (z : Fin 1) (k : Fin 8) (e : Fin 1536), q = ix3 z k e := ⟨q 0, q 1, q 2, (ix3_eta q).symm⟩
  unfold k0_pay3
  pointwise

end Cert.Kernel3Ideal.Front

end
-- ==== Proof.FrontIn.lean ====
module

public import proofs.«01_k».proof.Proof.Gen.Kernel3Ideal.Frame.Runs
public import proofs.«01_k».proof.Proof.FrontSpec
public import Idealize.ShloMosaic.Lib.Pointwise
public import Idealize.ShloMosaic.Lib.StableHlo.RunClose
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.StableHlo

namespace Cert.Kernel3Ideal.Front

open Cert.Kernel3Ideal Cert.Kernel3Ideal.Gen Cert.MergeMath Cert.FrontMath

variable (m : (ℓ : Loc nD τ sig) → Buf (Elt Ideal) ℓ) (c : Dev nD)

/-! ## What the region finds in its input arrays -/

theorem V_v3 : V m c main_v3 = pad S2x16x512 ![0, 1, 0] ![0, 0, 0] ![0, 0, 0] (broadcastInDim (α := Elt Ideal .f32) S2x15x512 ![] bcast_S_S2x15x512 (constant (F := Ideal) S_ .f32 0x00000000#32)) (sitofp (F := Ideal) .f32 (constantI S_ 32 0#32)) pads_S2x15x512_S2x16x512_000_100_000 h_S_ := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v4 : V m c main_v4 = pad S2x8x1536 ![0, 5, 0] ![0, 0, 0] ![0, 0, 0] (broadcastInDim (α := Elt Ideal .f32) S2x3x1536 ![] bcast_S_S2x3x1536 (constant (F := Ideal) S_ .f32 0x00000000#32)) (sitofp (F := Ideal) .f32 (constantI S_ 32 0#32)) pads_S2x3x1536_S2x8x1536_000_500_000 h_S_ := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v6 : V m c main_v6 = broadcastInDim (α := Elt Ideal .f32) S1x1024 ![1] bcast_S1024_S1x1024_1 (shapeCast (α := Elt Ideal .f32) S1024 (m ((c : Thread nD τ).loc main_arg1)) shapeCasts_S1x1024_S1024) := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v8 : V m c main_v8 = truncf (F := Ideal) .bf16 (extractStridedSlice (α := Elt Ideal .f32) S1024x512 ![0, 0] (shapeCast (α := Elt Ideal .f32) S1024x4616 (m ((c : Thread nD τ).loc main_arg2)) shapeCasts_S1x1024x4616_S1024x4616) slices_S1024x4616_S1024x512_0_0) bitsLt_bf16_f32 := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v10 : V m c main_v10 = truncf (F := Ideal) .bf16 (extractStridedSlice (α := Elt Ideal .f32) S1024x1536 ![0, 512] (shapeCast (α := Elt Ideal .f32) S1024x4616 (m ((c : Thread nD τ).loc main_arg2)) shapeCasts_S1x1024x4616_S1024x4616) slices_S1024x4616_S1024x1536_0_512) bitsLt_bf16_f32 := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v12 : V m c main_v12 = truncf (F := Ideal) .bf16 (extractStridedSlice (α := Elt Ideal .f32) S1024x512 ![0, 2048] (shapeCast (α := Elt Ideal .f32) S1024x4616 (m ((c : Thread nD τ).loc main_arg2)) shapeCasts_S1x1024x4616_S1024x4616) slices_S1024x4616_S1024x512_0_2048) bitsLt_bf16_f32 := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v17 : V m c main_v17 = truncf (F := Ideal) .bf16 (extractStridedSlice (α := Elt Ideal .f32) S1024x2048 ![0, 2568] (shapeCast (α := Elt Ideal .f32) S1024x4616 (m ((c : Thread nD τ).loc main_arg2)) shapeCasts_S1x1024x4616_S1024x4616) slices_S1024x4616_S1024x2048_0_2568) bitsLt_bf16_f32 := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v15 : V m c main_v15 = truncf (F := Ideal) .bf16 (pad S1024x128 ![0, 0] ![0, 120] ![0, 0] (extractStridedSlice (α := Elt Ideal .f32) S1024x8 ![0, 2560] (shapeCast (α := Elt Ideal .f32) S1024x4616 (m ((c : Thread nD τ).loc main_arg2)) shapeCasts_S1x1024x4616_S1024x4616) slices_S1024x4616_S1024x8_0_2560) (sitofp (F := Ideal) .f32 (constantI S_ 32 0#32)) pads_S1024x8_S1024x128_000_01200 h_S_) bitsLt_bf16_f32 := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v19 : V m c main_v19 = truncf (F := Ideal) .bf16 (shapeCast (α := Elt Ideal .f32) S4x128x128 (m ((c : Thread nD τ).loc main_arg3)) shapeCasts_S1x4x128x128_S4x128x128) bitsLt_bf16_f32 := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v21 : V m c main_v21 = broadcastInDim (α := Elt Ideal .f32) S1x512 ![1] bcast_S512_S1x512_1 (shapeCast (α := Elt Ideal .f32) S512 (m ((c : Thread nD τ).loc main_arg4)) shapeCasts_S1x512_S512) := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v23 : V m c main_v23 = pad S8x1536 ![0, 0] ![4, 0] ![0, 0] (shapeCast (α := Elt Ideal .f32) S4x1536 (m ((c : Thread nD τ).loc main_arg5)) shapeCasts_S1x4x1536_S4x1536) (sitofp (F := Ideal) .f32 (constantI S_ 32 0#32)) pads_S4x1536_S8x1536_040_000 h_S_ := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v26 : V m c main_v26 = pad S1x128 ![0, 4] ![0, 120] ![0, 0] (broadcastInDim (α := Elt Ideal .f32) S1x4 ![1] bcast_S4_S1x4_1 (shapeCast (α := Elt Ideal .f32) S4 (m ((c : Thread nD τ).loc main_arg6)) shapeCasts_S1x4_S4)) (sitofp (F := Ideal) .f32 (constantI S_ 32 0#32)) pads_S1x4_S1x128_000_41200 h_S_ := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

theorem V_v29 : V m c main_v29 = pad S1x128 ![0, 4] ![0, 120] ![0, 0] (broadcastInDim (α := Elt Ideal .f32) S1x4 ![1] bcast_S4_S1x4_1 (shapeCast (α := Elt Ideal .f32) S4 (m ((c : Thread nD τ).loc main_arg7)) shapeCasts_S1x4_S4)) (sitofp (F := Ideal) .f32 (constantI S_ 32 0#32)) pads_S1x4_S1x128_000_41200 h_S_ := by
  unfold V V0
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_entrywise []

/-! ## The host's preparations at an index -/

theorem zero_value : sitofp (F := Ideal) .f32 (constantI S_ 32 0#32) (Shape.Idx.first h_S_) = 0 := by
  show ((((0#32 : BitVec 32).toInt : ℤ) : ℝ) : EReal) = 0
  simp

theorem padZ_at {s t : Shape} (lo hi it : Fin s.rank → ℕ) (h : s.Pads lo hi it t) (x : s.Idx → EReal) (hx : ∀ q, x q = 0) (q : t.Idx) :
    pad t lo hi it x (sitofp (F := Ideal) .f32 (constantI S_ 32 0#32)) h h_S_ q = 0 := by
  unfold pad
  split_ifs with hh
  · exact hx _
  · exact zero_value

theorem g_at (A : FVec Ideal S1x1024 .f32) (d : Fin 1024) :
    broadcastInDim (α := Elt Ideal .f32) S1x1024 ![1] bcast_S1024_S1x1024_1 (shapeCast (α := Elt Ideal .f32) S1024 A shapeCasts_S1x1024_S1024) (ix2 0 d) = A (ix2 0 d) := by
  pointwise

theorem s_at (A : FVec Ideal S1x512 .f32) (d : Fin 512) :
    broadcastInDim (α := Elt Ideal .f32) S1x512 ![1] bcast_S512_S1x512_1 (shapeCast (α := Elt Ideal .f32) S512 A shapeCasts_S1x512_S512) (ix2 0 d) = A (ix2 0 d) := by
  pointwise

theorem grp_at (A : FVec Ideal S1x4x128x128 .f32) (g : Fin 4) (k d : Fin 128) :
    truncf (F := Ideal) .bf16 (shapeCast (α := Elt Ideal .f32) S4x128x128 A shapeCasts_S1x4x128x128_S4x128x128) bitsLt_bf16_f32 (ix3 g k d) = A (ix4 0 g k d) := by
  pointwise

theorem w8_at (A : FVec Ideal S1x1024x4616 .f32) (d : Fin 1024) (e : Fin 512) :
    truncf (F := Ideal) .bf16 (extractStridedSlice (α := Elt Ideal .f32) S1024x512 ![0, 0] (shapeCast (α := Elt Ideal .f32) S1024x4616 A shapeCasts_S1x1024x4616_S1024x4616) slices_S1024x4616_S1024x512_0_0) bitsLt_bf16_f32 (ix2 d e) = A (ix3 0 d ⟨0 + e.val, by omega⟩) := by
  pointwise

theorem w10_at (A : FVec Ideal S1x1024x4616 .f32) (d : Fin 1024) (e : Fin 1536) :
    truncf (F := Ideal) .bf16 (extractStridedSlice (α := Elt Ideal .f32) S1024x1536 ![0, 512] (shapeCast (α := Elt Ideal .f32) S1024x4616 A shapeCasts_S1x1024x4616_S1024x4616) slices_S1024x4616_S1024x1536_0_512) bitsLt_bf16_f32 (ix2 d e) = A (ix3 0 d ⟨512 + e.val, by omega⟩) := by
  pointwise

theorem w12_at (A : FVec Ideal S1x1024x4616 .f32) (d : Fin 1024) (e : Fin 512) :
    truncf (F := Ideal) .bf16 (extractStridedSlice (α := Elt Ideal .f32) S1024x512 ![0, 2048] (shapeCast (α := Elt Ideal .f32) S1024x4616 A shapeCasts_S1x1024x4616_S1024x4616) slices_S1024x4616_S1024x512_0_2048) bitsLt_bf16_f32 (ix2 d e) = A (ix3 0 d ⟨2048 + e.val, by omega⟩) := by
  pointwise

theorem w17_at (A : FVec Ideal S1x1024x4616 .f32) (d : Fin 1024) (e : Fin 2048) :
    truncf (F := Ideal) .bf16 (extractStridedSlice (α := Elt Ideal .f32) S1024x2048 ![0, 2568] (shapeCast (α := Elt Ideal .f32) S1024x4616 A shapeCasts_S1x1024x4616_S1024x4616) slices_S1024x4616_S1024x2048_0_2568) bitsLt_bf16_f32 (ix2 d e) = A (ix3 0 d ⟨2568 + e.val, by omega⟩) := by
  pointwise

theorem w13_at (A : FVec Ideal S1x1024x4616 .f32) (d : Fin 1024) (e : Fin 8) :
    extractStridedSlice (α := Elt Ideal .f32) S1024x8 ![0, 2560] (shapeCast (α := Elt Ideal .f32) S1024x4616 A shapeCasts_S1x1024x4616_S1024x4616) slices_S1024x4616_S1024x8_0_2560 (ix2 d e) = A (ix3 0 d ⟨2560 + e.val, by omega⟩) := by
  pointwise

theorem w14_at (A : FVec Ideal S1x1024x4616 .f32) (d : Fin 1024) (e : Fin 128) (h : e.val < 8) :
    (pad S1024x128 ![0, 0] ![0, 120] ![0, 0] (extractStridedSlice (α := Elt Ideal .f32) S1024x8 ![0, 2560] (shapeCast (α := Elt Ideal .f32) S1024x4616 A shapeCasts_S1x1024x4616_S1024x4616) slices_S1024x4616_S1024x8_0_2560) (sitofp (F := Ideal) .f32 (constantI S_ 32 0#32)) pads_S1024x8_S1024x128_000_01200 h_S_) (ix2 d e) = A (ix3 0 d ⟨2560 + e.val, by omega⟩) := by
  refine Eq.trans ?_ (w13_at A d ⟨e.val, h⟩)
  unfold pad
  refine (dif_pos (fun a => ?_)).trans ?_
  · match a with
    | ⟨0, _⟩ => exact ⟨Nat.zero_le _, Nat.mod_one _, (by show (d.val - 0) / 1 < 1024; omega)⟩
    | ⟨1, _⟩ => exact ⟨Nat.zero_le _, Nat.mod_one _, (by show (e.val - 0) / 1 < 8; omega)⟩
  · refine congrArg _ (funext fun a => Fin.ext ?_)
    match a with
    | ⟨0, _⟩ => show (d.val - 0) / 1 = d.val; omega
    | ⟨1, _⟩ => show (e.val - 0) / 1 = e.val; omega

theorem w15_at (A : FVec Ideal S1x1024x4616 .f32) (d : Fin 1024) (e : Fin 128) (h : e.val < 8) :
    truncf (F := Ideal) .bf16 (pad S1024x128 ![0, 0] ![0, 120] ![0, 0] (extractStridedSlice (α := Elt Ideal .f32) S1024x8 ![0, 2560] (shapeCast (α := Elt Ideal .f32) S1024x4616 A shapeCasts_S1x1024x4616_S1024x4616) slices_S1024x4616_S1024x8_0_2560) (sitofp (F := Ideal) .f32 (constantI S_ 32 0#32)) pads_S1024x8_S1024x128_000_01200 h_S_) bitsLt_bf16_f32 (ix2 d e) = A (ix3 0 d ⟨2560 + e.val, by omega⟩) :=
  w14_at A d e h

theorem taps0_at (A : FVec Ideal S1x4x1536 .f32) (j : Fin 4) (e : Fin 1536) :
    shapeCast (α := Elt Ideal .f32) S4x1536 A shapeCasts_S1x4x1536_S4x1536 (ix2 j e) = A (ix3 0 j e) := by
  pointwise

theorem taps_at (A : FVec Ideal S1x4x1536 .f32) (j : Fin 8) (h : j.val < 4) (e : Fin 1536) :
    pad S8x1536 ![0, 0] ![4, 0] ![0, 0] (shapeCast (α := Elt Ideal .f32) S4x1536 A shapeCasts_S1x4x1536_S4x1536) (sitofp (F := Ideal) .f32 (constantI S_ 32 0#32)) pads_S4x1536_S8x1536_040_000 h_S_ (ix2 j e) = A (ix3 0 ⟨j.val, h⟩ e) := by
  refine Eq.trans ?_ (taps0_at A ⟨j.val, h⟩ e)
  unfold pad
  refine (dif_pos (fun a => ?_)).trans ?_
  · match a with
    | ⟨0, _⟩ => exact ⟨Nat.zero_le _, Nat.mod_one _, (by show (j.val - 0) / 1 < 4; omega)⟩
    | ⟨1, _⟩ => exact ⟨Nat.zero_le _, Nat.mod_one _, (by show (e.val - 0) / 1 < 1536; omega)⟩
  · refine congrArg _ (funext fun a => Fin.ext ?_)
    match a with
    | ⟨0, _⟩ => show (j.val - 0) / 1 = j.val; omega
    | ⟨1, _⟩ => show (e.val - 0) / 1 = e.val; omega

theorem lanes0_at (A : FVec Ideal S1x4 .f32) (j : Fin 4) :
    broadcastInDim (α := Elt Ideal .f32) S1x4 ![1] bcast_S4_S1x4_1 (shapeCast (α := Elt Ideal .f32) S4 A shapeCasts_S1x4_S4) (ix2 0 j) = A (ix2 0 j) := by
  pointwise

theorem lanes_at (A : FVec Ideal S1x4 .f32) (e : Fin 128) (h : 4 ≤ e.val) (h8 : e.val < 8) :
    pad S1x128 ![0, 4] ![0, 120] ![0, 0] (broadcastInDim (α := Elt Ideal .f32) S1x4 ![1] bcast_S4_S1x4_1 (shapeCast (α := Elt Ideal .f32) S4 A shapeCasts_S1x4_S4)) (sitofp (F := Ideal) .f32 (constantI S_ 32 0#32)) pads_S1x4_S1x128_000_41200 h_S_ (ix2 0 e) = A (ix2 0 ⟨e.val - 4, by omega⟩) := by
  refine Eq.trans ?_ (lanes0_at A ⟨e.val - 4, by omega⟩)
  unfold pad
  refine (dif_pos (fun a => ?_)).trans ?_
  · match a with
    | ⟨0, _⟩ => exact ⟨Nat.zero_le _, Nat.mod_one _, (by show (0 - 0) / 1 < 1; omega)⟩
    | ⟨1, _⟩ => exact ⟨h, Nat.mod_one _, (by show (e.val - 4) / 1 < 4; omega)⟩
  · refine congrArg _ (funext fun a => Fin.ext ?_)
    match a with
    | ⟨0, _⟩ => show (0 - 0) / 1 = 0; omega
    | ⟨1, _⟩ => show (e.val - 4) / 1 = e.val - 4; omega

/-! ## The blocks of a tile -/

/-- The sequence of a tile. -/
def seqOf (t : Fin cfg0.N) : Fin 2 := ⟨t.val / 16, by have := lt_of_lt_of_eq t.isLt N_0; omega⟩

/-- Row `r` of a tile, as a row of its sequence. -/
def rowOf (t : Fin cfg0.N) (r : Fin 512) : Fin 8192 := ⟨512 * (t.val % 16) + r.val, by omega⟩

theorem idx0 : ∀ t : Fin cfg0.N, win0_0.index t = ![t.val / 16, t.val % 16, 0] := (by decide +kernel : ∀ t : Fin grid0.N, win0_0.index t = ![t.val / 16, t.val % 16, 0])

theorem iblk0 (t : Fin cfg0.N) (z : Fin 1) (r : Fin 512) (d : Fin 1024) :
    iblk m c 0 t (ix3 z r d) = (m ((c : Thread nD τ).loc main_arg0) : S2x8192x1024.Idx → EReal) (ix3 (seqOf t) (rowOf t r) d) := by
  refine Eq.trans ?_ (congrFun (V_main_arg0 m c) (ix3 (seqOf t) (rowOf t r) d))
  show V m c main_arg0 (((cfg0.win 0).blk t).view.emb (ix3 z r d)) = _
  congr 1
  refine (funext fun a => Fin.ext ?_)
  fin_cases a
  · blk_simp [idx0]
    rfl
  · blk_simp [idx0]
    show t.val % 16 * 512 + r.val = 512 * (t.val % 16) + r.val
    omega
  · blk_simp [idx0]; rfl

theorem iblk1 (t : Fin cfg0.N) (q : S1x16x512.Idx) : iblk m c 1 t q = (0 : EReal) := by
  show V m c main_v3 (((cfg0.win 1).blk t).view.emb q) = _
  rw [V_v3]
  refine padZ_at _ _ _ _ _ (fun q => ?_) _
  show Ideal.ofBits .f32 0x00000000#32 = 0
  exact Ideal.ofBits_zero_f32

theorem iblk2 (t : Fin cfg0.N) (q : S1x8x1536.Idx) : iblk m c 2 t q = (0 : EReal) := by
  show V m c main_v4 (((cfg0.win 2).blk t).view.emb q) = _
  rw [V_v4]
  refine padZ_at _ _ _ _ _ (fun q => ?_) _
  show Ideal.ofBits .f32 0x00000000#32 = 0
  exact Ideal.ofBits_zero_f32

theorem idx3 : ∀ t : Fin cfg0.N, win0_3.index t = ![0, 0] := (by decide +kernel : ∀ t : Fin grid0.N, win0_3.index t = ![0, 0])
theorem iblk3 (t : Fin cfg0.N) (d : Fin 1024) : iblk m c 3 t (ix2 0 d) = (m ((c : Thread nD τ).loc main_arg1) : S1x1024.Idx → EReal) (ix2 0 d) := by
  refine Eq.trans (Eq.trans ?_ (congrFun (V_v6 m c) (ix2 0 d))) (g_at _ d)
  show V m c main_v6 (((cfg0.win 3).blk t).view.emb (ix2 0 d)) = _
  congr 1
  refine (funext fun a => Fin.ext ?_)
  fin_cases a
  · blk_simp [idx3]
  · blk_simp [idx3]

theorem idx4 : ∀ t : Fin cfg0.N, win0_4.index t = ![0, 0] := (by decide +kernel : ∀ t : Fin grid0.N, win0_4.index t = ![0, 0])
theorem iblk4 (t : Fin cfg0.N) (d : Fin 1024) (e : Fin 512) : iblk m c 4 t (ix2 d e) = (m ((c : Thread nD τ).loc main_arg2) : S1x1024x4616.Idx → EReal) (ix3 0 d ⟨0 + e.val, by omega⟩) := by
  refine Eq.trans (Eq.trans ?_ (congrFun (V_v8 m c) (ix2 d e))) (w8_at _ d e)
  show V m c main_v8 (((cfg0.win 4).blk t).view.emb (ix2 d e)) = _
  congr 1
  refine (funext fun a => Fin.ext ?_)
  fin_cases a
  · blk_simp [idx4]
  · blk_simp [idx4]

theorem idx5 : ∀ t : Fin cfg0.N, win0_5.index t = ![0, 0] := (by decide +kernel : ∀ t : Fin grid0.N, win0_5.index t = ![0, 0])
theorem iblk5 (t : Fin cfg0.N) (d : Fin 1024) (e : Fin 1536) : iblk m c 5 t (ix2 d e) = (m ((c : Thread nD τ).loc main_arg2) : S1x1024x4616.Idx → EReal) (ix3 0 d ⟨512 + e.val, by omega⟩) := by
  refine Eq.trans (Eq.trans ?_ (congrFun (V_v10 m c) (ix2 d e))) (w10_at _ d e)
  show V m c main_v10 (((cfg0.win 5).blk t).view.emb (ix2 d e)) = _
  congr 1
  refine (funext fun a => Fin.ext ?_)
  fin_cases a
  · blk_simp [idx5]
  · blk_simp [idx5]

theorem idx6 : ∀ t : Fin cfg0.N, win0_6.index t = ![0, 0] := (by decide +kernel : ∀ t : Fin grid0.N, win0_6.index t = ![0, 0])
theorem iblk6 (t : Fin cfg0.N) (d : Fin 1024) (e : Fin 512) : iblk m c 6 t (ix2 d e) = (m ((c : Thread nD τ).loc main_arg2) : S1x1024x4616.Idx → EReal) (ix3 0 d ⟨2048 + e.val, by omega⟩) := by
  refine Eq.trans (Eq.trans ?_ (congrFun (V_v12 m c) (ix2 d e))) (w12_at _ d e)
  show V m c main_v12 (((cfg0.win 6).blk t).view.emb (ix2 d e)) = _
  congr 1
  refine (funext fun a => Fin.ext ?_)
  fin_cases a
  · blk_simp [idx6]
  · blk_simp [idx6]

theorem idx8 : ∀ t : Fin cfg0.N, win0_8.index t = ![0, 0] := (by decide +kernel : ∀ t : Fin grid0.N, win0_8.index t = ![0, 0])
theorem iblk8 (t : Fin cfg0.N) (d : Fin 1024) (e : Fin 2048) : iblk m c 8 t (ix2 d e) = (m ((c : Thread nD τ).loc main_arg2) : S1x1024x4616.Idx → EReal) (ix3 0 d ⟨2568 + e.val, by omega⟩) := by
  refine Eq.trans (Eq.trans ?_ (congrFun (V_v17 m c) (ix2 d e))) (w17_at _ d e)
  show V m c main_v17 (((cfg0.win 8).blk t).view.emb (ix2 d e)) = _
  congr 1
  refine (funext fun a => Fin.ext ?_)
  fin_cases a
  · blk_simp [idx8]
  · blk_simp [idx8]

theorem idx7 : ∀ t : Fin cfg0.N, win0_7.index t = ![0, 0] := (by decide +kernel : ∀ t : Fin grid0.N, win0_7.index t = ![0, 0])
theorem iblk7 (t : Fin cfg0.N) (d : Fin 1024) (e : Fin 128) (h : e.val < 8) : iblk m c 7 t (ix2 d e) = (m ((c : Thread nD τ).loc main_arg2) : S1x1024x4616.Idx → EReal) (ix3 0 d ⟨2560 + e.val, by omega⟩) := by
  refine Eq.trans (Eq.trans ?_ (congrFun (V_v15 m c) (ix2 d e))) (w15_at _ d e h)
  show V m c main_v15 (((cfg0.win 7).blk t).view.emb (ix2 d e)) = _
  congr 1
  refine (funext fun a => Fin.ext ?_)
  fin_cases a
  · blk_simp [idx7]
  · blk_simp [idx7]

theorem idx10 : ∀ t : Fin cfg0.N, win0_10.index t = ![0, 0] := (by decide +kernel : ∀ t : Fin grid0.N, win0_10.index t = ![0, 0])
theorem iblk10 (t : Fin cfg0.N) (e : Fin 512) : iblk m c 10 t (ix2 0 e) = (m ((c : Thread nD τ).loc main_arg4) : S1x512.Idx → EReal) (ix2 0 e) := by
  refine Eq.trans (Eq.trans ?_ (congrFun (V_v21 m c) (ix2 0 e))) (s_at _ e)
  show V m c main_v21 (((cfg0.win 10).blk t).view.emb (ix2 0 e)) = _
  congr 1
  refine (funext fun a => Fin.ext ?_)
  fin_cases a
  · blk_simp [idx10]
  · blk_simp [idx10]

theorem idx11 : ∀ t : Fin cfg0.N, win0_11.index t = ![0, 0] := (by decide +kernel : ∀ t : Fin grid0.N, win0_11.index t = ![0, 0])
theorem iblk11 (t : Fin cfg0.N) (j : Fin 8) (h : j.val < 4) (e : Fin 1536) : iblk m c 11 t (ix2 j e) = (m ((c : Thread nD τ).loc main_arg5) : S1x4x1536.Idx → EReal) (ix3 0 ⟨j.val, h⟩ e) := by
  refine Eq.trans (Eq.trans ?_ (congrFun (V_v23 m c) (ix2 j e))) (taps_at _ j h e)
  show V m c main_v23 (((cfg0.win 11).blk t).view.emb (ix2 j e)) = _
  congr 1
  refine (funext fun a => Fin.ext ?_)
  fin_cases a
  · blk_simp [idx11]
  · blk_simp [idx11]

theorem idx12 : ∀ t : Fin cfg0.N, win0_12.index t = ![0, 0] := (by decide +kernel : ∀ t : Fin grid0.N, win0_12.index t = ![0, 0])
theorem iblk12 (t : Fin cfg0.N) (e : Fin 128) (h : 4 ≤ e.val) (h8 : e.val < 8) : iblk m c 12 t (ix2 0 e) = (m ((c : Thread nD τ).loc main_arg6) : S1x4.Idx → EReal) (ix2 0 ⟨e.val - 4, by omega⟩) := by
  refine Eq.trans (Eq.trans ?_ (congrFun (V_v26 m c) (ix2 0 e))) (lanes_at _ e h h8)
  show V m c main_v26 (((cfg0.win 12).blk t).view.emb (ix2 0 e)) = _
  congr 1
  refine (funext fun a => Fin.ext ?_)
  fin_cases a
  · blk_simp [idx12]
  · blk_simp [idx12]

theorem idx13 : ∀ t : Fin cfg0.N, win0_13.index t = ![0, 0] := (by decide +kernel : ∀ t : Fin grid0.N, win0_13.index t = ![0, 0])
theorem iblk13 (t : Fin cfg0.N) (e : Fin 128) (h : 4 ≤ e.val) (h8 : e.val < 8) : iblk m c 13 t (ix2 0 e) = (m ((c : Thread nD τ).loc main_arg7) : S1x4.Idx → EReal) (ix2 0 ⟨e.val - 4, by omega⟩) := by
  refine Eq.trans (Eq.trans ?_ (congrFun (V_v29 m c) (ix2 0 e))) (lanes_at _ e h h8)
  show V m c main_v29 (((cfg0.win 13).blk t).view.emb (ix2 0 e)) = _
  congr 1
  refine (funext fun a => Fin.ext ?_)
  fin_cases a
  · blk_simp [idx13]
  · blk_simp [idx13]

theorem idx9 : ∀ t : Fin cfg0.N, win0_9.index t = ![0, 0, 0] := (by decide +kernel : ∀ t : Fin grid0.N, win0_9.index t = ![0, 0, 0])
theorem iblk9 (t : Fin cfg0.N) (g : Fin 4) (k d : Fin 128) : iblk m c 9 t (ix3 g k d) = (m ((c : Thread nD τ).loc main_arg3) : S1x4x128x128.Idx → EReal) (ix4 0 g k d) := by
  refine Eq.trans (Eq.trans ?_ (congrFun (V_v19 m c) (ix3 g k d))) (grp_at _ g k d)
  show V m c main_v19 (((cfg0.win 9).blk t).view.emb (ix3 g k d)) = _
  congr 1
  refine (funext fun a => Fin.ext ?_)
  fin_cases a
  · blk_simp [idx9]
  · blk_simp [idx9]
  · blk_simp [idx9]

end Cert.Kernel3Ideal.Front

end
-- ==== Proof.FrontFrame.lean ====
module

public import proofs.«01_k».proof.Proof.FrontRead
public import Idealize.ShloMosaic.Lib.Claim

@[expose] public section

set_option maxRecDepth 16384

noncomputable section

namespace Cert.Kernel3Ideal.Front

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows carried into a tile -/

/-- What a tile carries on, from what it was handed: its last sixteen pool rows and its last eight convolution rows. -/
def carry (c : Dev nD) (t : Fin cfg0.N) (e : Vec F S1x16x512 .f32 × Vec F S1x8x1536 .f32) : Vec F S1x16x512 .f32 × Vec F S1x8x1536 .f32 :=
  (k0_pay20 (extU (iblk m c 0 t) (iblk m c 3 t) (iblk m c 4 t) e.1), k0_pay25 (extC (iblk m c 0 t) (iblk m c 3 t) (iblk m c 5 t) e.2))

/-- What the first tile of a sequence starts from: the rows before the sequence. -/
def start (c : Dev nD) (t : Fin cfg0.N) : Vec F S1x16x512 .f32 × Vec F S1x8x1536 .f32 := (k0_pay2 (iblk m c 1 t), k0_pay3 (iblk m c 2 t))

/-- The rows handed to the tile at position `n`. -/
def ent (c : Dev nD) : (n : ℕ) → n < cfg0.N → Vec F S1x16x512 .f32 × Vec F S1x8x1536 .f32
  | 0, hn => start m c ⟨0, hn⟩
  | n + 1, hn => if (n + 1) % 16 = 0 then start m c ⟨n + 1, hn⟩ else carry m c ⟨n, by omega⟩ (ent c n (by omega))

theorem ent_A (c : Dev nD) (t : Fin cfg0.N) (h0 : t.val % 16 = 0) : ent m c t.val t.isLt = start m c t := by
  obtain ⟨n, hn⟩ := t
  cases n with
  | zero => rfl
  | succ n => exact if_pos h0

theorem ent_B (c : Dev nD) (t : Fin cfg0.N) (h0 : ¬t.val % 16 = 0) (h : t.val - 1 < cfg0.N) :
    ent m c t.val t.isLt = carry m c ⟨t.val - 1, h⟩ (ent m c (t.val - 1) h) := by
  obtain ⟨n, hn⟩ := t
  cases n with
  | zero => exact absurd (Nat.zero_mod _) h0
  | succ n => exact if_neg h0

/-- The invariant before position `n`: nothing is known of the carried rows before the first tile, afterwards they are those the tile before left. -/
def PhiS (c : Dev nD) : (n : ℕ) → n ≤ cfg0.N → sProp 𝕄
  | 0, _ => Pipeline.ΦA spec0 c
  | n + 1, hn => iprop(iprop(owns (c : Thread nD τ) scM0_0 fullShare (carry m c ⟨n, hn⟩ (ent m c n hn)).1 ∗ owns (c : Thread nD τ) scM0_1 fullShare (carry m c ⟨n, hn⟩ (ent m c n hn)).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (carry m c t (ent m c t.val t.isLt)).1 ∗ owns (c : Thread nD τ) scM0_1 fullShare (carry m c t (ent m c t.val t.isLt)).2) ∗ (∃ r, prngReg c r)) := rfl

theorem PhiS_pos (c : Dev nD) (n : ℕ) (h : n ≤ cfg0.N) (hz : n ≠ 0) :
    PhiS m c n h = iprop(iprop(owns (c : Thread nD τ) scM0_0 fullShare (carry m c ⟨n - 1, by omega⟩ (ent m c (n - 1) (by omega))).1 ∗ owns (c : Thread nD τ) scM0_1 fullShare (carry m c ⟨n - 1, by omega⟩ (ent m c (n - 1) (by omega))).2) ∗ (∃ r, prngReg c r)) := by
  cases n with
  | zero => exact absurd rfl hz
  | succ n => rfl

/-! ## What a tile leaves -/

/-- Output window 14 after the tile at `t`. -/
def aft14 (c : Dev nD) (t : Fin cfg0.N) : Vec F S1x512x512 .f32 :=
  oYa (grid0.coords t) (iblk m c 0 t) (iblk m c 3 t) (iblk m c 4 t) (iblk m c 9 t) (iblk m c 10 t) (ent m c t.val t.isLt).1

/-- Output window 15 after the tile at `t`. -/
def aft15 (c : Dev nD) (t : Fin cfg0.N) : Vec F S1x512x512 .f32 :=
  oQ (pre (iblk m c 0 t) (iblk m c 3 t) (iblk m c 5 t) (iblk m c 11 t) (ent m c t.val t.isLt).2)

/-- Output window 16 after the tile at `t`. -/
def aft16 (c : Dev nD) (t : Fin cfg0.N) : Vec F S1x512x512 .f32 :=
  oK (pre (iblk m c 0 t) (iblk m c 3 t) (iblk m c 5 t) (iblk m c 11 t) (ent m c t.val t.isLt).2)

/-- Output window 17 after the tile at `t`. -/
def aft17 (c : Dev nD) (t : Fin cfg0.N) : Vec F S1x512x512 .f32 :=
  oV (pre (iblk m c 0 t) (iblk m c 3 t) (iblk m c 5 t) (iblk m c 11 t) (ent m c t.val t.isLt).2)

/-- Output window 18 after the tile at `t`. -/
def aft18 (c : Dev nD) (t : Fin cfg0.N) : Vec F S1x512x512 .f32 :=
  k0_pay7 (iblk m c 0 t) (iblk m c 3 t) (iblk m c 6 t)

/-- Output window 19 after the tile at `t`. -/
def aft19 (c : Dev nD) (t : Fin cfg0.N) : Vec F S1x512x2048 .f32 :=
  k0_pay8 (k0_pay4 (iblk m c 0 t) (iblk m c 3 t)) (iblk m c 8 t)

/-- Output window 20 after the tile at `t`. -/
def aft20 (c : Dev nD) (t : Fin cfg0.N) : Vec F S1x512x128 .f32 :=
  k0_pay9 (k0_pay4 (iblk m c 0 t) (iblk m c 3 t)) (iblk m c 7 t) (iblk m c 12 t) (iblk m c 13 t)

/-- Output window 21 after the tile at `t`. -/
def aft21 (c : Dev nD) (t : Fin cfg0.N) : Vec F S1x16x512 .f32 :=
  k0_pay19 (extU (iblk m c 0 t) (iblk m c 3 t) (iblk m c 4 t) (ent m c t.val t.isLt).1)

/-- Output window 22 after the tile at `t`. -/
def aft22 (c : Dev nD) (t : Fin cfg0.N) : Vec F S1x8x1536 .f32 :=
  k0_pay24 (extC (iblk m c 0 t) (iblk m c 3 t) (iblk m c 5 t) (ent m c t.val t.isLt).2)

/-- The proof data: the arrays as the region finds them, each input's buffer at its block, each output's at what the tile leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => aft14 m c t
    | ⟨15, _⟩ => aft15 m c t
    | ⟨16, _⟩ => aft16 m c t
    | ⟨17, _⟩ => aft17 m c t
    | ⟨18, _⟩ => aft18 m c t
    | ⟨19, _⟩ => aft19 m c t
    | ⟨20, _⟩ => aft20 m c t
    | ⟨21, _⟩ => aft21 m c t
    | ⟨22, _⟩ => aft22 m c t
    | ⟨_ + 23, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = aft14 m c t := by dsimp only [dats]
theorem after0_15 (c : Dev nD) (t : Fin cfg0.N) : (dats m 0 c).after 15 t = aft15 m c t := by dsimp only [dats]
theorem after0_16 (c : Dev nD) (t : Fin cfg0.N) : (dats m 0 c).after 16 t = aft16 m c t := by dsimp only [dats]
theorem after0_17 (c : Dev nD) (t : Fin cfg0.N) : (dats m 0 c).after 17 t = aft17 m c t := by dsimp only [dats]
theorem after0_18 (c : Dev nD) (t : Fin cfg0.N) : (dats m 0 c).after 18 t = aft18 m c t := by dsimp only [dats]
theorem after0_19 (c : Dev nD) (t : Fin cfg0.N) : (dats m 0 c).after 19 t = aft19 m c t := by dsimp only [dats]
theorem after0_20 (c : Dev nD) (t : Fin cfg0.N) : (dats m 0 c).after 20 t = aft20 m c t := by dsimp only [dats]
theorem after0_21 (c : Dev nD) (t : Fin cfg0.N) : (dats m 0 c).after 21 t = aft21 m c t := by dsimp only [dats]
theorem after0_22 (c : Dev nD) (t : Fin cfg0.N) : (dats m 0 c).after 22 t = aft22 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at a tile. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 20000000 in
/-- The body at any tile: the run of its case applies, and the lists it leaves read back as the values above. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  unfold aft14 aft15 aft16 aft17 aft18 aft19 aft20 aft21 aft22
  by_cases h0 : t.val % 16 = 0
  · rw [ent_A m c t h0]
    by_cases hz : t.val = 0
    · rw [PhiS_castSucc m c t, PhiS_zero m c _ _ hz, PhiA0_eq]
      unfold carry start; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runA c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      isplitl [HS1]; · iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩, ⟨%es1, HS1⟩⟩
      isplitl [HS0 HS1 Hg]
      · isplitl [HS0 HS1]
        · isplitl [HS0]
          · unfold owns; iexists _; isplitr
            swap; · iexact HS0
            ipureintro; exact readA_25 _
          unfold owns; iexists _; isplitr
          swap; · iexact HS1
          ipureintro; exact readA_26 _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact readA_16 _
      isplitl [H15]
      · unfold owns; iexists _; isplitr
        swap; · iexact H15
        ipureintro; exact readA_17 _
      isplitl [H16]
      · unfold owns; iexists _; isplitr
        swap; · iexact H16
        ipureintro; exact readA_18 _
      isplitl [H17]
      · unfold owns; iexists _; isplitr
        swap; · iexact H17
        ipureintro; exact readA_19 _
      isplitl [H18]
      · unfold owns; iexists _; isplitr
        swap; · iexact H18
        ipureintro; exact readA_20 _
      isplitl [H19]
      · unfold owns; iexists _; isplitr
        swap; · iexact H19
        ipureintro; exact readA_21 _
      isplitl [H20]
      · unfold owns; iexists _; isplitr
        swap; · iexact H20
        ipureintro; exact readA_22 _
      isplitl [H21]
      · unfold owns; iexists _; isplitr
        swap; · iexact H21
        ipureintro; exact readA_23 _
      unfold owns; iexists _; isplitr
      swap; · iexact H22
      ipureintro; exact readA_24 _
    · rw [PhiS_castSucc m c t, PhiS_pos m c _ _ hz]
      generalize carry m c ⟨t.val - 1, _⟩ (ent m c (t.val - 1) _) = old
      unfold carry start; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runA c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexists _; iexact HS0
      isplitl [HS1]; · iexists _; iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩, ⟨%es1, HS1⟩⟩
      isplitl [HS0 HS1 Hg]
      · isplitl [HS0 HS1]
        · isplitl [HS0]
          · unfold owns; iexists _; isplitr
            swap; · iexact HS0
            ipureintro; exact readA_25 _
          unfold owns; iexists _; isplitr
          swap; · iexact HS1
          ipureintro; exact readA_26 _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact readA_16 _
      isplitl [H15]
      · unfold owns; iexists _; isplitr
        swap; · iexact H15
        ipureintro; exact readA_17 _
      isplitl [H16]
      · unfold owns; iexists _; isplitr
        swap; · iexact H16
        ipureintro; exact readA_18 _
      isplitl [H17]
      · unfold owns; iexists _; isplitr
        swap; · iexact H17
        ipureintro; exact readA_19 _
      isplitl [H18]
      · unfold owns; iexists _; isplitr
        swap; · iexact H18
        ipureintro; exact readA_20 _
      isplitl [H19]
      · unfold owns; iexists _; isplitr
        swap; · iexact H19
        ipureintro; exact readA_21 _
      isplitl [H20]
      · unfold owns; iexists _; isplitr
        swap; · iexact H20
        ipureintro; exact readA_22 _
      isplitl [H21]
      · unfold owns; iexists _; isplitr
        swap; · iexact H21
        ipureintro; exact readA_23 _
      unfold owns; iexists _; isplitr
      swap; · iexact H22
      ipureintro; exact readA_24 _
  · have hz : t.val ≠ 0 := fun h => h0 (by rw [h])
    rw [PhiS_castSucc m c t, PhiS_pos m c _ _ hz, ← ent_B m c t h0 _]
    generalize ent m c t.val _ = old
    unfold carry; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runB c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩, ⟨%es1, HS1⟩⟩
    isplitl [HS0 HS1 Hg]
    · isplitl [HS0 HS1]
      · isplitl [HS0]
        · unfold owns; iexists _; isplitr
          swap; · iexact HS0
          ipureintro; exact readB_25 _
        unfold owns; iexists _; isplitr
        swap; · iexact HS1
        ipureintro; exact readB_26 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact readB_16 _
    isplitl [H15]
    · unfold owns; iexists _; isplitr
      swap; · iexact H15
      ipureintro; exact readB_17 _
    isplitl [H16]
    · unfold owns; iexists _; isplitr
      swap; · iexact H16
      ipureintro; exact readB_18 _
    isplitl [H17]
    · unfold owns; iexists _; isplitr
      swap; · iexact H17
      ipureintro; exact readB_19 _
    isplitl [H18]
    · unfold owns; iexists _; isplitr
      swap; · iexact H18
      ipureintro; exact readB_20 _
    isplitl [H19]
    · unfold owns; iexists _; isplitr
      swap; · iexact H19
      ipureintro; exact readB_21 _
    isplitl [H20]
    · unfold owns; iexists _; isplitr
      swap; · iexact H20
      ipureintro; exact readB_22 _
    isplitl [H21]
    · unfold owns; iexists _; isplitr
      swap; · iexact H21
      ipureintro; exact readB_23 _
    unfold owns; iexists _; isplitr
    swap; · iexact H22
    ipureintro; exact readB_24 _

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem phi_first (c : Dev nD) : Pipeline.ΦA spec0 c ⊢ (dats m 0 c).Φ 0 := by
  rw [show (dats m 0 c).Φ 0 = PhiS m c 0 (Nat.zero_le _) from rfl, PhiS_zero m c 0 _ rfl]

theorem phi_last (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- The whole program runs to the end; what is left is what the proof data say, and every counter is at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_first m) (hout := phi_last m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame of the front kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.Kernel3Ideal.Front

end
-- ==== Proof.FrontValue.lean ====
module

public import proofs.«01_k».proof.Proof.FrontTile
public import proofs.«01_k».proof.Proof.FrontIn
public import proofs.«01_k».proof.Proof.FrontFrame

@[expose] public section

set_option maxRecDepth 16384

noncomputable section

open Idealize.ShloMosaic Idealize.ShloMosaic.TcCoe Idealize.SL.Sem

namespace Cert.Kernel3Ideal.Front

open Cert.Kernel3Ideal Cert.Kernel3Ideal.Gen Cert.MergeMath Cert.FrontMath Cert.FrontSpec
open Idealize.ShloMosaic.Pipeline (Dat Cfg Window)

variable (m : (ℓ : Loc nD τ sig) → Buf (Elt Ideal) ℓ) (c : Dev nD)

/-- One sequence of the input. -/
def XS (b : Fin 2) (l : Fin 8192) (d : Fin 1024) : EReal := (m ((c : Thread nD τ).loc main_arg0) : S2x8192x1024.Idx → EReal) (ix3 b l d)
/-- The scaling weights. -/
def GS (d : Fin 1024) : EReal := (m ((c : Thread nD τ).loc main_arg1) : S1x1024.Idx → EReal) (ix2 0 d)
/-- The projection's weights. -/
def WS (d : Fin 1024) (e : Fin 4616) : EReal := (m ((c : Thread nD τ).loc main_arg2) : S1x1024x4616.Idx → EReal) (ix3 0 d e)
/-- The groups' weights. -/
def GW (g : Fin 4) (k d : Fin 128) : EReal := (m ((c : Thread nD τ).loc main_arg3) : S1x4x128x128.Idx → EReal) (ix4 0 g k d)
/-- The pooled branch's scale. -/
def PS (e : Fin 512) : EReal := (m ((c : Thread nD τ).loc main_arg4) : S1x512.Idx → EReal) (ix2 0 e)
/-- The convolution's taps. -/
def WC (j : Fin 4) (e : Fin 1536) : EReal := (m ((c : Thread nD τ).loc main_arg5) : S1x4x1536.Idx → EReal) (ix3 0 j e)
/-- The decay's logarithms. -/
def AL (j : Fin 4) : EReal := (m ((c : Thread nD τ).loc main_arg6) : S1x4.Idx → EReal) (ix2 0 j)
/-- The decay's offsets. -/
def DT (j : Fin 4) : EReal := (m ((c : Thread nD τ).loc main_arg7) : S1x4.Idx → EReal) (ix2 0 j)

theorem tile_lt (t : Fin cfg0.N) : t.val % 16 < 16 := Nat.mod_lt _ (by decide)

theorem h0 (t : Fin cfg0.N) (r : Fin 512) (d : Fin 1024) : (iblk m c 0 t : FVec Ideal S1x512x1024 .f32) (ix3 0 r d) = XS m c (seqOf t) (rw8 (t.val % 16) (tile_lt t) r) d := iblk0 m c t 0 r d
theorem h3 (t : Fin cfg0.N) (d : Fin 1024) : (iblk m c 3 t : FVec Ideal S1x1024 .f32) (ix2 0 d) = GS m c d := iblk3 m c t d
theorem h4 (t : Fin cfg0.N) (d : Fin 1024) (e : Fin 512) : (iblk m c 4 t : FVec Ideal S1024x512 .bf16) (ix2 d e) = WS m c d ⟨0 + e.val, by omega⟩ := iblk4 m c t d e
theorem h5 (t : Fin cfg0.N) (d : Fin 1024) (e : Fin 1536) : (iblk m c 5 t : FVec Ideal S1024x1536 .bf16) (ix2 d e) = WS m c d ⟨512 + e.val, by omega⟩ := iblk5 m c t d e
theorem h6 (t : Fin cfg0.N) (d : Fin 1024) (e : Fin 512) : (iblk m c 6 t : FVec Ideal S1024x512 .bf16) (ix2 d e) = WS m c d ⟨2048 + e.val, by omega⟩ := iblk6 m c t d e
theorem h7 (t : Fin cfg0.N) (d : Fin 1024) (e : Fin 128) (h : e.val < 8) : (iblk m c 7 t : FVec Ideal S1024x128 .bf16) (ix2 d e) = WS m c d ⟨2560 + e.val, by omega⟩ := iblk7 m c t d e h
theorem h8 (t : Fin cfg0.N) (d : Fin 1024) (e : Fin 2048) : (iblk m c 8 t : FVec Ideal S1024x2048 .bf16) (ix2 d e) = WS m c d ⟨2568 + e.val, by omega⟩ := iblk8 m c t d e
theorem h9 (t : Fin cfg0.N) (g : Fin 4) (k d : Fin 128) : (iblk m c 9 t : FVec Ideal S4x128x128 .bf16) (ix3 g k d) = GW m c g k d := iblk9 m c t g k d
theorem h10 (t : Fin cfg0.N) (e : Fin 512) : (iblk m c 10 t : FVec Ideal S1x512 .f32) (ix2 0 e) = PS m c e := iblk10 m c t e
theorem h11 (t : Fin cfg0.N) (j : Fin 8) (h : j.val < 4) (e : Fin 1536) : (iblk m c 11 t : FVec Ideal S8x1536 .f32) (ix2 j e) = WC m c ⟨j.val, h⟩ e := iblk11 m c t j h e
theorem h12 (t : Fin cfg0.N) (e : Fin 128) (h : 4 ≤ e.val) (h8 : e.val < 8) : (iblk m c 12 t : FVec Ideal S1x128 .f32) (ix2 0 e) = AL m c ⟨e.val - 4, by omega⟩ := iblk12 m c t e h h8
theorem h13 (t : Fin cfg0.N) (e : Fin 128) (h : 4 ≤ e.val) (h8 : e.val < 8) : (iblk m c 13 t : FVec Ideal S1x128 .f32) (ix2 0 e) = DT m c ⟨e.val - 4, by omega⟩ := iblk13 m c t e h h8

/-! ## The rows carried into a tile are the rows before it -/

theorem seq_pred (t : Fin cfg0.N) (hz : ¬t.val % 16 = 0) (h : t.val - 1 < cfg0.N) : seqOf ⟨t.val - 1, h⟩ = seqOf t :=
  Fin.ext (show (t.val - 1) / 16 = t.val / 16 by omega)

theorem hU (t : Fin cfg0.N) (k : Fin 16) (e : Fin 512) :
    ((ent m c t.val t.isLt).1 : FVec Ideal S1x16x512 .f32) (ix3 0 k e) = uZ (XS m c (seqOf t)) (GS m c) (WS m c) e (512 * (t.val % 16) + k.val) := by
  by_cases hz : t.val % 16 = 0
  · rw [ent_A m c t hz]
    unfold start
    refine (pay2_at _ _).trans ((iblk1 m c t _).trans ?_)
    unfold uZ extZ
    rw [if_pos (by omega)]
  · have h : t.val - 1 < cfg0.N := by have := t.isLt; omega
    rw [ent_B m c t hz h]
    unfold carry
    refine (carryU_at (U := (ent m c (t.val - 1) h).1) (h0 m c ⟨t.val - 1, h⟩) (h3 m c _) (h4 m c _) 0 k e).trans ?_
    rw [seq_pred t hz h]
    exact congrArg _ (show 512 * ((t.val - 1) % 16) + (512 + k.val) = 512 * (t.val % 16) + k.val by omega)

theorem hC (t : Fin cfg0.N) (k : Fin 8) (e : Fin 1536) :
    ((ent m c t.val t.isLt).2 : FVec Ideal S1x8x1536 .f32) (ix3 0 k e) = cZ (XS m c (seqOf t)) (GS m c) (WS m c) e (512 * (t.val % 16) + k.val) := by
  by_cases hz : t.val % 16 = 0
  · rw [ent_A m c t hz]
    unfold start
    refine (pay3_at _ _).trans ((iblk2 m c t _).trans ?_)
    unfold cZ extZ
    rw [if_pos (by omega)]
  · have h : t.val - 1 < cfg0.N := by have := t.isLt; omega
    rw [ent_B m c t hz h]
    unfold carry
    refine (carryC_at (C := (ent m c (t.val - 1) h).2) (h0 m c ⟨t.val - 1, h⟩) (h3 m c _) (h5 m c _) 0 k e).trans ?_
    rw [seq_pred t hz h]
    exact congrArg _ (show 512 * ((t.val - 1) % 16) + (512 + k.val) = 512 * (t.val % 16) + k.val by omega)

/-! ## What a tile leaves -/

theorem coord1 : ∀ t : Fin cfg0.N, (grid0.coords t 1).val = t.val % 16 := (by decide +kernel : ∀ t : Fin grid0.N, (grid0.coords t 1).val = t.val % 16)

theorem aft14_at (t : Fin cfg0.N) (z : Fin 1) (r : Fin 512) (e : Fin 512) :
    (aft14 m c t : FVec Ideal S1x512x512 .f32) (ix3 z r e) = yaE (XS m c (seqOf t)) (GS m c) (WS m c) (GW m c) (PS m c) (rw8 (t.val % 16) (tile_lt t) r) e :=
  oYa_at (grid0.coords t) (coord1 t) (h0 m c t) (h3 m c t) (h4 m c t) (hU m c t) (h9 m c t) (h10 m c t) z r e

theorem aft15_at (t : Fin cfg0.N) (z : Fin 1) (r : Fin 512) (e : Fin 512) :
    (aft15 m c t : FVec Ideal S1x512x512 .f32) (ix3 z r e) = hdE (XS m c (seqOf t)) (GS m c) (WS m c) (WC m c) 0 (by decide) (rw8 (t.val % 16) (tile_lt t) r) e :=
  q_at (h0 m c t) (h3 m c t) (h5 m c t) (hC m c t) (h11 m c t) z r e

theorem aft16_at (t : Fin cfg0.N) (z : Fin 1) (r : Fin 512) (e : Fin 512) :
    (aft16 m c t : FVec Ideal S1x512x512 .f32) (ix3 z r e) = hdE (XS m c (seqOf t)) (GS m c) (WS m c) (WC m c) 512 (by decide) (rw8 (t.val % 16) (tile_lt t) r) e :=
  k_at (h0 m c t) (h3 m c t) (h5 m c t) (hC m c t) (h11 m c t) z r e

theorem aft17_at (t : Fin cfg0.N) (z : Fin 1) (r : Fin 512) (e : Fin 512) :
    (aft17 m c t : FVec Ideal S1x512x512 .f32) (ix3 z r e) = yE (XS m c (seqOf t)) (GS m c) (WS m c) (WC m c) (rw8 (t.val % 16) (tile_lt t) r) ⟨1024 + e.val, by omega⟩ :=
  v_at (h0 m c t) (h3 m c t) (h5 m c t) (hC m c t) (h11 m c t) z r e

theorem aft18_at (t : Fin cfg0.N) (z : Fin 1) (r : Fin 512) (e : Fin 512) :
    (aft18 m c t : FVec Ideal S1x512x512 .f32) (ix3 z r e) = PX (XS m c (seqOf t)) (GS m c) (WS m c) (rw8 (t.val % 16) (tile_lt t) r) ⟨2048 + e.val, by omega⟩ :=
  z_at (h0 m c t) (h3 m c t) (h6 m c t) z r e

theorem aft19_at (t : Fin cfg0.N) (z : Fin 1) (r : Fin 512) (e : Fin 2048) :
    (aft19 m c t : FVec Ideal S1x512x2048 .f32) (ix3 z r e) = PX (XS m c (seqOf t)) (GS m c) (WS m c) (rw8 (t.val % 16) (tile_lt t) r) ⟨2568 + e.val, by omega⟩ :=
  graw_at (h0 m c t) (h3 m c t) (h8 m c t) z r e

theorem aft20_at (t : Fin cfg0.N) (z : Fin 1) (r : Fin 512) (e : Fin 8) :
    (aft20 m c t : FVec Ideal S1x512x128 .f32) (ix3 z r ⟨e.val, by omega⟩) = bgE (XS m c (seqOf t)) (GS m c) (WS m c) (AL m c) (DT m c) (rw8 (t.val % 16) (tile_lt t) r) e :=
  bg_at (h0 m c t) (h3 m c t) (h7 m c t) (h12 m c t) (h13 m c t) z r e

theorem aft21_at (t : Fin cfg0.N) (z : Fin 1) (k : Fin 16) (e : Fin 512) :
    (aft21 m c t : FVec Ideal S1x16x512 .f32) (ix3 z k e) = uZ (XS m c (seqOf t)) (GS m c) (WS m c) e (512 * (t.val % 16) + (512 + k.val)) :=
  tailU_at (h0 m c t) (h3 m c t) (h4 m c t) (hU m c t) z k e

theorem aft22_at (t : Fin cfg0.N) (z : Fin 1) (k : Fin 8) (e : Fin 1536) :
    (aft22 m c t : FVec Ideal S1x8x1536 .f32) (ix3 z k e) = cZ (XS m c (seqOf t)) (GS m c) (WS m c) e (512 * (t.val % 16) + (512 + k.val)) :=
  tailC_at (h0 m c t) (h3 m c t) (h5 m c t) (hC m c t) z k e

/-! ## The arrays the tiles leave -/

/-- The tile that row `l` of sequence `b` is in. -/
def tileOf (b : Fin 2) (l : Fin 8192) : Fin cfg0.N := ⟨16 * b.val + l.val / 512, by rw [show cfg0.N = 32 from N_0]; omega⟩

/-- The place of a row in its tile. -/
def inTile (l : Fin 8192) : Fin 512 := ⟨l.val % 512, Nat.mod_lt _ (by decide)⟩

/-- The last tile of a sequence. -/
def lastOf (b : Fin 2) : Fin cfg0.N := ⟨16 * b.val + 15, by rw [show cfg0.N = 32 from N_0]; omega⟩

theorem seqOf_tileOf (b : Fin 2) (l : Fin 8192) : seqOf (tileOf b l) = b := Fin.ext (show (16 * b.val + l.val / 512) / 16 = b.val by omega)

theorem row_tileOf (b : Fin 2) (l : Fin 8192) : rw8 ((tileOf b l).val % 16) (tile_lt _) (inTile l) = l :=
  Fin.ext (show 512 * ((16 * b.val + l.val / 512) % 16) + l.val % 512 = l.val by omega)

theorem seqOf_lastOf (b : Fin 2) : seqOf (lastOf b) = b := Fin.ext (show (16 * b.val + 15) / 16 = b.val by omega)

theorem idx14 : ∀ t : Fin cfg0.N, win0_14.index t = ![t.val / 16, t.val % 16, 0] := (by decide +kernel : ∀ t : Fin grid0.N, win0_14.index t = ![t.val / 16, t.val % 16, 0])
theorem idx_inj14 : ∀ t t' : Fin cfg0.N, win0_14.index t = win0_14.index t' → t = t' := (by decide +kernel : ∀ t t' : Fin grid0.N, win0_14.index t = win0_14.index t' → t = t')

theorem arr14_at (b : Fin 2) (l : Fin 8192) (e : Fin 512) :
    ((dats m 0 c).arrAt 14 cfg0.N : S2x8192x512.Idx → EReal) (ix3 b l e) = yaE (XS m c b) (GS m c) (WS m c) (GW m c) (PS m c) l e := by
  have hb := congrFun ((dats m 0 c).read_blk_arrAt_eq_flushed 14 (fun t t' _ _ hne => (cfg0.win 14).disjoint_blk fun h => hne (idx_inj14 t t' h)) cfg0.N (tileOf b l) (tileOf b l).isLt (flush0_14 _))
    (ix3 (0 : Fin 1) (inTile l) (e : Fin 512))
  have hf : (dats m 0 c).flushed 14 (tileOf b l) = (cfg0.win 14).cut (grid0.coords (tileOf b l)) (aft14 m c (tileOf b l)) := by
    show (cfg0.win 14).cut (grid0.coords (tileOf b l)) ((dats m 0 c).after 14 (tileOf b l)) = _
    rw [after0_14]
  rw [hf] at hb
  refine Eq.trans (Eq.trans ?_ hb) ?_
  · show _ = (dats m 0 c).arrAt 14 cfg0.N (((cfg0.win 14).blk (tileOf b l)).view.emb (ix3 (0 : Fin 1) (inTile l) (e : Fin 512)))
    congr 1
    refine (funext fun a => Fin.ext ?_)
    fin_cases a
    · blk_simp [idx14]
      show b.val = (16 * b.val + l.val / 512) / 16
      omega
    · blk_simp [idx14]
      show l.val = (16 * b.val + l.val / 512) % 16 * 512 + l.val % 512
      omega
    · blk_simp [idx14]; rfl
  · refine (aft14_at m c (tileOf b l) 0 (inTile l) e).trans ?_
    rw [seqOf_tileOf, row_tileOf]

theorem idx15 : ∀ t : Fin cfg0.N, win0_15.index t = ![t.val / 16, t.val % 16, 0] := (by decide +kernel : ∀ t : Fin grid0.N, win0_15.index t = ![t.val / 16, t.val % 16, 0])
theorem idx_inj15 : ∀ t t' : Fin cfg0.N, win0_15.index t = win0_15.index t' → t = t' := (by decide +kernel : ∀ t t' : Fin grid0.N, win0_15.index t = win0_15.index t' → t = t')

theorem arr15_at (b : Fin 2) (l : Fin 8192) (e : Fin 512) :
    ((dats m 0 c).arrAt 15 cfg0.N : S2x8192x512.Idx → EReal) (ix3 b l e) = hdE (XS m c b) (GS m c) (WS m c) (WC m c) 0 (by decide) l e := by
  have hb := congrFun ((dats m 0 c).read_blk_arrAt_eq_flushed 15 (fun t t' _ _ hne => (cfg0.win 15).disjoint_blk fun h => hne (idx_inj15 t t' h)) cfg0.N (tileOf b l) (tileOf b l).isLt (flush0_15 _))
    (ix3 (0 : Fin 1) (inTile l) (e : Fin 512))
  have hf : (dats m 0 c).flushed 15 (tileOf b l) = (cfg0.win 15).cut (grid0.coords (tileOf b l)) (aft15 m c (tileOf b l)) := by
    show (cfg0.win 15).cut (grid0.coords (tileOf b l)) ((dats m 0 c).after 15 (tileOf b l)) = _
    rw [after0_15]
  rw [hf] at hb
  refine Eq.trans (Eq.trans ?_ hb) ?_
  · show _ = (dats m 0 c).arrAt 15 cfg0.N (((cfg0.win 15).blk (tileOf b l)).view.emb (ix3 (0 : Fin 1) (inTile l) (e : Fin 512)))
    congr 1
    refine (funext fun a => Fin.ext ?_)
    fin_cases a
    · blk_simp [idx15]
      show b.val = (16 * b.val + l.val / 512) / 16
      omega
    · blk_simp [idx15]
      show l.val = (16 * b.val + l.val / 512) % 16 * 512 + l.val % 512
      omega
    · blk_simp [idx15]; rfl
  · refine (aft15_at m c (tileOf b l) 0 (inTile l) e).trans ?_
    rw [seqOf_tileOf, row_tileOf]

theorem idx16 : ∀ t : Fin cfg0.N, win0_16.index t = ![t.val / 16, t.val % 16, 0] := (by decide +kernel : ∀ t : Fin grid0.N, win0_16.index t = ![t.val / 16, t.val % 16, 0])
theorem idx_inj16 : ∀ t t' : Fin cfg0.N, win0_16.index t = win0_16.index t' → t = t' := (by decide +kernel : ∀ t t' : Fin grid0.N, win0_16.index t = win0_16.index t' → t = t')

theorem arr16_at (b : Fin 2) (l : Fin 8192) (e : Fin 512) :
    ((dats m 0 c).arrAt 16 cfg0.N : S2x8192x512.Idx → EReal) (ix3 b l e) = hdE (XS m c b) (GS m c) (WS m c) (WC m c) 512 (by decide) l e := by
  have hb := congrFun ((dats m 0 c).read_blk_arrAt_eq_flushed 16 (fun t t' _ _ hne => (cfg0.win 16).disjoint_blk fun h => hne (idx_inj16 t t' h)) cfg0.N (tileOf b l) (tileOf b l).isLt (flush0_16 _))
    (ix3 (0 : Fin 1) (inTile l) (e : Fin 512))
  have hf : (dats m 0 c).flushed 16 (tileOf b l) = (cfg0.win 16).cut (grid0.coords (tileOf b l)) (aft16 m c (tileOf b l)) := by
    show (cfg0.win 16).cut (grid0.coords (tileOf b l)) ((dats m 0 c).after 16 (tileOf b l)) = _
    rw [after0_16]
  rw [hf] at hb
  refine Eq.trans (Eq.trans ?_ hb) ?_
  · show _ = (dats m 0 c).arrAt 16 cfg0.N (((cfg0.win 16).blk (tileOf b l)).view.emb (ix3 (0 : Fin 1) (inTile l) (e : Fin 512)))
    congr 1
    refine (funext fun a => Fin.ext ?_)
    fin_cases a
    · blk_simp [idx16]
      show b.val = (16 * b.val + l.val / 512) / 16
      omega
    · blk_simp [idx16]
      show l.val = (16 * b.val + l.val / 512) % 16 * 512 + l.val % 512
      omega
    · blk_simp [idx16]; rfl
  · refine (aft16_at m c (tileOf b l) 0 (inTile l) e).trans ?_
    rw [seqOf_tileOf, row_tileOf]

theorem idx17 : ∀ t : Fin cfg0.N, win0_17.index t = ![t.val / 16, t.val % 16, 0] := (by decide +kernel : ∀ t : Fin grid0.N, win0_17.index t = ![t.val / 16, t.val % 16, 0])
theorem idx_inj17 : ∀ t t' : Fin cfg0.N, win0_17.index t = win0_17.index t' → t = t' := (by decide +kernel : ∀ t t' : Fin grid0.N, win0_17.index t = win0_17.index t' → t = t')

theorem arr17_at (b : Fin 2) (l : Fin 8192) (e : Fin 512) :
    ((dats m 0 c).arrAt 17 cfg0.N : S2x8192x512.Idx → EReal) (ix3 b l e) = yE (XS m c b) (GS m c) (WS m c) (WC m c) l ⟨1024 + e.val, by omega⟩ := by
  have hb := congrFun ((dats m 0 c).read_blk_arrAt_eq_flushed 17 (fun t t' _ _ hne => (cfg0.win 17).disjoint_blk fun h => hne (idx_inj17 t t' h)) cfg0.N (tileOf b l) (tileOf b l).isLt (flush0_17 _))
    (ix3 (0 : Fin 1) (inTile l) (e : Fin 512))
  have hf : (dats m 0 c).flushed 17 (tileOf b l) = (cfg0.win 17).cut (grid0.coords (tileOf b l)) (aft17 m c (tileOf b l)) := by
    show (cfg0.win 17).cut (grid0.coords (tileOf b l)) ((dats m 0 c).after 17 (tileOf b l)) = _
    rw [after0_17]
  rw [hf] at hb
  refine Eq.trans (Eq.trans ?_ hb) ?_
  · show _ = (dats m 0 c).arrAt 17 cfg0.N (((cfg0.win 17).blk (tileOf b l)).view.emb (ix3 (0 : Fin 1) (inTile l) (e : Fin 512)))
    congr 1
    refine (funext fun a => Fin.ext ?_)
    fin_cases a
    · blk_simp [idx17]
      show b.val = (16 * b.val + l.val / 512) / 16
      omega
    · blk_simp [idx17]
      show l.val = (16 * b.val + l.val / 512) % 16 * 512 + l.val % 512
      omega
    · blk_simp [idx17]; rfl
  · refine (aft17_at m c (tileOf b l) 0 (inTile l) e).trans ?_
    rw [seqOf_tileOf, row_tileOf]

theorem idx18 : ∀ t : Fin cfg0.N, win0_18.index t = ![t.val / 16, t.val % 16, 0] := (by decide +kernel : ∀ t : Fin grid0.N, win0_18.index t = ![t.val / 16, t.val % 16, 0])
theorem idx_inj18 : ∀ t t' : Fin cfg0.N, win0_18.index t = win0_18.index t' → t = t' := (by decide +kernel : ∀ t t' : Fin grid0.N, win0_18.index t = win0_18.index t' → t = t')

theorem arr18_at (b : Fin 2) (l : Fin 8192) (e : Fin 512) :
    ((dats m 0 c).arrAt 18 cfg0.N : S2x8192x512.Idx → EReal) (ix3 b l e) = PX (XS m c b) (GS m c) (WS m c) l ⟨2048 + e.val, by omega⟩ := by
  have hb := congrFun ((dats m 0 c).read_blk_arrAt_eq_flushed 18 (fun t t' _ _ hne => (cfg0.win 18).disjoint_blk fun h => hne (idx_inj18 t t' h)) cfg0.N (tileOf b l) (tileOf b l).isLt (flush0_18 _))
    (ix3 (0 : Fin 1) (inTile l) (e : Fin 512))
  have hf : (dats m 0 c).flushed 18 (tileOf b l) = (cfg0.win 18).cut (grid0.coords (tileOf b l)) (aft18 m c (tileOf b l)) := by
    show (cfg0.win 18).cut (grid0.coords (tileOf b l)) ((dats m 0 c).after 18 (tileOf b l)) = _
    rw [after0_18]
  rw [hf] at hb
  refine Eq.trans (Eq.trans ?_ hb) ?_
  · show _ = (dats m 0 c).arrAt 18 cfg0.N (((cfg0.win 18).blk (tileOf b l)).view.emb (ix3 (0 : Fin 1) (inTile l) (e : Fin 512)))
    congr 1
    refine (funext fun a => Fin.ext ?_)
    fin_cases a
    · blk_simp [idx18]
      show b.val = (16 * b.val + l.val / 512) / 16
      omega
    · blk_simp [idx18]
      show l.val = (16 * b.val + l.val / 512) % 16 * 512 + l.val % 512
      omega
    · blk_simp [idx18]; rfl
  · refine (aft18_at m c (tileOf b l) 0 (inTile l) e).trans ?_
    rw [seqOf_tileOf, row_tileOf]

theorem idx19 : ∀ t : Fin cfg0.N, win0_19.index t = ![t.val / 16, t.val % 16, 0] := (by decide +kernel : ∀ t : Fin grid0.N, win0_19.index t = ![t.val / 16, t.val % 16, 0])
theorem idx_inj19 : ∀ t t' : Fin cfg0.N, win0_19.index t = win0_19.index t' → t = t' := (by decide +kernel : ∀ t t' : Fin grid0.N, win0_19.index t = win0_19.index t' → t = t')

theorem arr19_at (b : Fin 2) (l : Fin 8192) (e : Fin 2048) :
    ((dats m 0 c).arrAt 19 cfg0.N : S2x8192x2048.Idx → EReal) (ix3 b l e) = PX (XS m c b) (GS m c) (WS m c) l ⟨2568 + e.val, by omega⟩ := by
  have hb := congrFun ((dats m 0 c).read_blk_arrAt_eq_flushed 19 (fun t t' _ _ hne => (cfg0.win 19).disjoint_blk fun h => hne (idx_inj19 t t' h)) cfg0.N (tileOf b l) (tileOf b l).isLt (flush0_19 _))
    (ix3 (0 : Fin 1) (inTile l) (e : Fin 2048))
  have hf : (dats m 0 c).flushed 19 (tileOf b l) = (cfg0.win 19).cut (grid0.coords (tileOf b l)) (aft19 m c (tileOf b l)) := by
    show (cfg0.win 19).cut (grid0.coords (tileOf b l)) ((dats m 0 c).after 19 (tileOf b l)) = _
    rw [after0_19]
  rw [hf] at hb
  refine Eq.trans (Eq.trans ?_ hb) ?_
  · show _ = (dats m 0 c).arrAt 19 cfg0.N (((cfg0.win 19).blk (tileOf b l)).view.emb (ix3 (0 : Fin 1) (inTile l) (e : Fin 2048)))
    congr 1
    refine (funext fun a => Fin.ext ?_)
    fin_cases a
    · blk_simp [idx19]
      show b.val = (16 * b.val + l.val / 512) / 16
      omega
    · blk_simp [idx19]
      show l.val = (16 * b.val + l.val / 512) % 16 * 512 + l.val % 512
      omega
    · blk_simp [idx19]; rfl
  · refine (aft19_at m c (tileOf b l) 0 (inTile l) e).trans ?_
    rw [seqOf_tileOf, row_tileOf]

theorem idx20 : ∀ t : Fin cfg0.N, win0_20.index t = ![t.val / 16, t.val % 16, 0] := (by decide +kernel : ∀ t : Fin grid0.N, win0_20.index t = ![t.val / 16, t.val % 16, 0])
theorem idx_inj20 : ∀ t t' : Fin cfg0.N, win0_20.index t = win0_20.index t' → t = t' := (by decide +kernel : ∀ t t' : Fin grid0.N, win0_20.index t = win0_20.index t' → t = t')

theorem arr20_at (b : Fin 2) (l : Fin 8192) (e : Fin 8) :
    ((dats m 0 c).arrAt 20 cfg0.N : S2x8192x128.Idx → EReal) (ix3 b l ⟨e.val, by omega⟩) = bgE (XS m c b) (GS m c) (WS m c) (AL m c) (DT m c) l e := by
  have hb := congrFun ((dats m 0 c).read_blk_arrAt_eq_flushed 20 (fun t t' _ _ hne => (cfg0.win 20).disjoint_blk fun h => hne (idx_inj20 t t' h)) cfg0.N (tileOf b l) (tileOf b l).isLt (flush0_20 _))
    (ix3 (0 : Fin 1) (inTile l) (⟨e.val, by omega⟩ : Fin 128))
  have hf : (dats m 0 c).flushed 20 (tileOf b l) = (cfg0.win 20).cut (grid0.coords (tileOf b l)) (aft20 m c (tileOf b l)) := by
    show (cfg0.win 20).cut (grid0.coords (tileOf b l)) ((dats m 0 c).after 20 (tileOf b l)) = _
    rw [after0_20]
  rw [hf] at hb
  refine Eq.trans (Eq.trans ?_ hb) ?_
  · show _ = (dats m 0 c).arrAt 20 cfg0.N (((cfg0.win 20).blk (tileOf b l)).view.emb (ix3 (0 : Fin 1) (inTile l) (⟨e.val, by omega⟩ : Fin 128)))
    congr 1
    refine (funext fun a => Fin.ext ?_)
    fin_cases a
    · blk_simp [idx20]
      show b.val = (16 * b.val + l.val / 512) / 16
      omega
    · blk_simp [idx20]
      show l.val = (16 * b.val + l.val / 512) % 16 * 512 + l.val % 512
      omega
    · blk_simp [idx20]; rfl
  · refine (aft20_at m c (tileOf b l) 0 (inTile l) e).trans ?_
    rw [seqOf_tileOf, row_tileOf]

theorem idx21 : ∀ t : Fin cfg0.N, win0_21.index t = ![t.val / 16, 0, 0] := (by decide +kernel : ∀ t : Fin grid0.N, win0_21.index t = ![t.val / 16, 0, 0])
theorem idx_inj21 : ∀ t t' : Fin cfg0.N, t.val % 16 = 15 → t'.val % 16 = 15 → win0_21.index t = win0_21.index t' → t = t' :=
  (by decide +kernel : ∀ t t' : Fin grid0.N, t.val % 16 = 15 → t'.val % 16 = 15 → win0_21.index t = win0_21.index t' → t = t')

theorem arr21_at (b : Fin 2) (k : Fin 16) (e : Fin 512) :
    ((dats m 0 c).arrAt 21 cfg0.N : S2x16x512.Idx → EReal) (ix3 b k e) = uZ (XS m c b) (GS m c) (WS m c) e (8192 + k.val) := by
  have hb := congrFun ((dats m 0 c).read_blk_arrAt_eq_flushed 21 (fun t t' h h' hne => (cfg0.win 21).disjoint_blk fun hi => hne (idx_inj21 t t' ((flush0_21 t).mp h) ((flush0_21 t').mp h') hi))
    cfg0.N (lastOf b) (lastOf b).isLt ((flush0_21 _).mpr (show (16 * b.val + 15) % 16 = 15 by omega))) (ix3 (0 : Fin 1) k e)
  have hf : (dats m 0 c).flushed 21 (lastOf b) = (cfg0.win 21).cut (grid0.coords (lastOf b)) (aft21 m c (lastOf b)) := by
    show (cfg0.win 21).cut (grid0.coords (lastOf b)) ((dats m 0 c).after 21 (lastOf b)) = _
    rw [after0_21]
  rw [hf] at hb
  refine Eq.trans (Eq.trans ?_ hb) ?_
  · show _ = (dats m 0 c).arrAt 21 cfg0.N (((cfg0.win 21).blk (lastOf b)).view.emb (ix3 (0 : Fin 1) k e))
    congr 1
    refine (funext fun a => Fin.ext ?_)
    fin_cases a
    · blk_simp [idx21]
      show b.val = (16 * b.val + 15) / 16
      omega
    · blk_simp [idx21]; rfl
    · blk_simp [idx21]; rfl
  · refine (aft21_at m c (lastOf b) 0 k e).trans ?_
    rw [seqOf_lastOf]
    exact congrArg _ (show 512 * ((16 * b.val + 15) % 16) + (512 + k.val) = 8192 + k.val by omega)

theorem idx22 : ∀ t : Fin cfg0.N, win0_22.index t = ![t.val / 16, 0, 0] := (by decide +kernel : ∀ t : Fin grid0.N, win0_22.index t = ![t.val / 16, 0, 0])
theorem idx_inj22 : ∀ t t' : Fin cfg0.N, t.val % 16 = 15 → t'.val % 16 = 15 → win0_22.index t = win0_22.index t' → t = t' :=
  (by decide +kernel : ∀ t t' : Fin grid0.N, t.val % 16 = 15 → t'.val % 16 = 15 → win0_22.index t = win0_22.index t' → t = t')

theorem arr22_at (b : Fin 2) (k : Fin 8) (e : Fin 1536) :
    ((dats m 0 c).arrAt 22 cfg0.N : S2x8x1536.Idx → EReal) (ix3 b k e) = cZ (XS m c b) (GS m c) (WS m c) e (8192 + k.val) := by
  have hb := congrFun ((dats m 0 c).read_blk_arrAt_eq_flushed 22 (fun t t' h h' hne => (cfg0.win 22).disjoint_blk fun hi => hne (idx_inj22 t t' ((flush0_22 t).mp h) ((flush0_22 t').mp h') hi))
    cfg0.N (lastOf b) (lastOf b).isLt ((flush0_22 _).mpr (show (16 * b.val + 15) % 16 = 15 by omega))) (ix3 (0 : Fin 1) k e)
  have hf : (dats m 0 c).flushed 22 (lastOf b) = (cfg0.win 22).cut (grid0.coords (lastOf b)) (aft22 m c (lastOf b)) := by
    show (cfg0.win 22).cut (grid0.coords (lastOf b)) ((dats m 0 c).after 22 (lastOf b)) = _
    rw [after0_22]
  rw [hf] at hb
  refine Eq.trans (Eq.trans ?_ hb) ?_
  · show _ = (dats m 0 c).arrAt 22 cfg0.N (((cfg0.win 22).blk (lastOf b)).view.emb (ix3 (0 : Fin 1) k e))
    congr 1
    refine (funext fun a => Fin.ext ?_)
    fin_cases a
    · blk_simp [idx22]
      show b.val = (16 * b.val + 15) / 16
      omega
    · blk_simp [idx22]; rfl
    · blk_simp [idx22]; rfl
  · refine (aft22_at m c (lastOf b) 0 k e).trans ?_
    rw [seqOf_lastOf]
    exact congrArg _ (show 512 * ((16 * b.val + 15) % 16) + (512 + k.val) = 8192 + k.val by omega)

end Cert.Kernel3Ideal.Front

end
-- ==== Proof.FrontTail.lean ====
module

public import proofs.«01_k».proof.Proof.FrontFrame
public import Idealize.ShloMosaic.Lib.Pointwise

@[expose] public section

set_option maxRecDepth 16384

noncomputable section

open Idealize.ShloMosaic Idealize.ShloMosaic.TcCoe

namespace Cert.Kernel3Ideal.Front

open Cert.Kernel3Ideal Cert.Kernel3Ideal.Gen

variable (m : (ℓ : Loc nD τ sig) → Buf (Elt Ideal) ℓ) (c : Dev nD)

/-! ## The lines after the region -/

theorem arr_inj : Function.Injective (Pipeline.arrRef spec0) := by decide

theorem after31 (V : Valuation τ sig (Elt Ideal)) (A : FVec Ideal S2x8192x128 .f32) (h : V (Proc.tc.devRef main_v30_6) = A) :
    StableHlo.after (hostOps1 (F := Ideal)) V (Proc.tc.devRef main_v31) = extractStridedSlice (α := Elt Ideal .f32) S2x8192x8 ![0, 0, 0] A slices_S2x8192x128_S2x8192x8_0_0_0 := by
  subst h
  rfl

theorem tail31 : Pipeline.afterTail₀ cfgs (dats m) 0 (V0 m) [hostOps1] c main_v31 =
    extractStridedSlice (α := Elt Ideal .f32) S2x8192x8 ![0, 0, 0] ((dats m 0 c).arrAt 20 cfg0.N) slices_S2x8192x128_S2x8192x8_0_0_0 :=
  after31 _ _ (Pipeline.withArrays_arr spec0 arr_inj c (V0 m c) (fun w => (dats m 0 c).arrAt w cfg0.N) 20)

theorem after32 (V : Valuation τ sig (Elt Ideal)) (A : FVec Ideal S2x16x512 .f32) (h : V (Proc.tc.devRef main_v30_7) = A) :
    StableHlo.after (hostOps1 (F := Ideal)) V (Proc.tc.devRef main_v32) = extractStridedSlice (α := Elt Ideal .f32) S2x15x512 ![0, 1, 0] A slices_S2x16x512_S2x15x512_0_1_0 := by
  subst h
  rfl

theorem tail32 : Pipeline.afterTail₀ cfgs (dats m) 0 (V0 m) [hostOps1] c main_v32 =
    extractStridedSlice (α := Elt Ideal .f32) S2x15x512 ![0, 1, 0] ((dats m 0 c).arrAt 21 cfg0.N) slices_S2x16x512_S2x15x512_0_1_0 :=
  after32 _ _ (Pipeline.withArrays_arr spec0 arr_inj c (V0 m c) (fun w => (dats m 0 c).arrAt w cfg0.N) 21)

theorem after33 (V : Valuation τ sig (Elt Ideal)) (A : FVec Ideal S2x8x1536 .f32) (h : V (Proc.tc.devRef main_v30_8) = A) :
    StableHlo.after (hostOps1 (F := Ideal)) V (Proc.tc.devRef main_v33) = extractStridedSlice (α := Elt Ideal .f32) S2x3x1536 ![0, 5, 0] A slices_S2x8x1536_S2x3x1536_0_5_0 := by
  subst h
  rfl

theorem tail33 : Pipeline.afterTail₀ cfgs (dats m) 0 (V0 m) [hostOps1] c main_v33 =
    extractStridedSlice (α := Elt Ideal .f32) S2x3x1536 ![0, 5, 0] ((dats m 0 c).arrAt 22 cfg0.N) slices_S2x8x1536_S2x3x1536_0_5_0 :=
  after33 _ _ (Pipeline.withArrays_arr spec0 arr_inj c (V0 m c) (fun w => (dats m 0 c).arrAt w cfg0.N) 22)

theorem bg_slice (A : FVec Ideal S2x8192x128 .f32) (b : Fin 2) (l : Fin 8192) (e : Fin 8) :
    extractStridedSlice (α := Elt Ideal .f32) S2x8192x8 ![0, 0, 0] A slices_S2x8192x128_S2x8192x8_0_0_0 (ix3 b l e) = A (ix3 b l ⟨e.val, by omega⟩) := by
  pointwise

theorem pool_slice (A : FVec Ideal S2x16x512 .f32) (b : Fin 2) (k : Fin 15) (e : Fin 512) :
    extractStridedSlice (α := Elt Ideal .f32) S2x15x512 ![0, 1, 0] A slices_S2x16x512_S2x15x512_0_1_0 (ix3 b k e) = A (ix3 b ⟨1 + k.val, by omega⟩ e) := by
  pointwise

theorem conv_slice (A : FVec Ideal S2x8x1536 .f32) (b : Fin 2) (k : Fin 3) (e : Fin 1536) :
    extractStridedSlice (α := Elt Ideal .f32) S2x3x1536 ![0, 5, 0] A slices_S2x8x1536_S2x3x1536_0_5_0 (ix3 b k e) = A (ix3 b ⟨5 + k.val, by omega⟩ e) := by
  pointwise

end Cert.Kernel3Ideal.Front

end
-- ==== Proof.FrontRef.lean ====
module

public import proofs.«01_k».proof.Proof.FrontSpec
public import proofs.«01_k».proof.Proof.Gen.Reference3Ideal.Run
public import Idealize.ShloMosaic.Lib.Pointwise

@[expose] public section

set_option maxRecDepth 16384

noncomputable section

open Idealize.ShloMosaic Idealize.ShloMosaic.TcCoe

namespace Cert.FrontRef

open Cert.MergeMath Cert.FrontMath Cert.FrontSpec
open Cert.Kernel3Ideal.Front (col colG colD col_eq)
open Cert.Reference3Ideal Cert.Reference3Ideal.Gen

/-! ## The reference's values, as it writes them -/

/-- The projection of the scaled rows. -/
def hP (A0 : FVec Ideal S2x8192x1024 .f32) (A1 : FVec Ideal S1x1024 .f32) (A2 : FVec Ideal S1x1024x4616 .f32) : FVec Ideal S2x8192x4616 .f32 :=
  Host.dotGeneral (φ₁ := .f32) (φ₂ := .f32) dot_S2x8192x1024_S1024x4616_S2x8192x4616_2_0_01_1_n_n none (mulf (mulf A0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf A0 A0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast (α := Elt Ideal .f32) _ A1 shapeCasts_S1x1024_S1024)))) (shapeCast (α := Elt Ideal .f32) _ A2 shapeCasts_S1x1024x4616_S1024x4616)

/-- Its pool columns. -/
def hU (P : FVec Ideal S2x8192x4616 .f32) : FVec Ideal S2x8192x512 .f32 :=
  extractStridedSlice (α := Elt Ideal .f32) S2x8192x512 ![0, 0, 0] P slices_S2x8192x4616_S2x8192x512_0_0_0

/-- The pool rows after fifteen zeros. -/
def hE (U : FVec Ideal S2x8192x512 .f32) : FVec Ideal S2x8207x512 .f32 :=
  concatenate S2x8207x512 1 [⟨S2x15x512, (broadcastInDim S2x15x512 ![] bcast_S_S2x15x512 (constant S_ .f32 0x00000000#32))⟩, ⟨S2x8192x512, U⟩] concatenates_S2x15x512_S2x8192x512_S2x8207x512_d1

/-- The convolution rows after three zeros. -/
def hC (P : FVec Ideal S2x8192x4616 .f32) : FVec Ideal S2x8195x1536 .f32 :=
  concatenate S2x8195x1536 1 [⟨S2x3x1536, (broadcastInDim S2x3x1536 ![] bcast_S_S2x3x1536 (constant S_ .f32 0x00000000#32))⟩, ⟨S2x8192x1536, (extractStridedSlice (α := Elt Ideal .f32) S2x8192x1536 ![0, 0, 512] P slices_S2x8192x4616_S2x8192x1536_0_0_512)⟩] concatenates_S2x3x1536_S2x8192x1536_S2x8195x1536_d1

/-- The argument of the softplus. -/
def hZ (P : FVec Ideal S2x8192x4616 .f32) (A7 : FVec Ideal S1x4 .f32) : FVec Ideal S2x8192x4 .f32 :=
  addf (extractStridedSlice (α := Elt Ideal .f32) S2x8192x4 ![0, 0, 2564] P slices_S2x8192x4616_S2x8192x4_0_0_2564) (broadcastInDim S2x8192x4 ![0, 1, 2] bcast_S1x1x4_S2x8192x4_0_1_2 (broadcastInDim S1x1x4 ![2] bcast_S4_S1x1x4_2 (shapeCast (α := Elt Ideal .f32) _ A7 shapeCasts_S1x4_S4)))

/-- That argument less zero. -/
def hZ3 (Z : FVec Ideal S2x8192x4 .f32) : FVec Ideal S2x8192x4 .f32 :=
  subf Z (broadcastInDim S2x8192x4 ![] bcast_S_S2x8192x4 (constant S_ .f32 0x00000000#32))

/-- The pooled rows of group 0. -/
def hM0 (E : FVec Ideal S2x8207x512 .f32) (U : FVec Ideal S2x8192x512 .f32) : FVec Ideal S2x8192x1x128 .f32 :=
  (broadcastInDim S2x8192x1x128 ![0, 1, 3] bcast_S2x8192x128_S2x8192x1x128_0_1_3 (subf (Host.divf (addf (extractStridedSlice (α := Elt Ideal .f32) S2x8192x128 ![0, 14, 0] E slices_S2x8207x512_S2x8192x128_0_14_0) (extractStridedSlice (α := Elt Ideal .f32) S2x8192x128 ![0, 15, 0] E slices_S2x8207x512_S2x8192x128_0_15_0)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 2#32))))))) (extractStridedSlice (α := Elt Ideal .f32) S2x8192x128 ![0, 0, 0] U slices_S2x8192x512_S2x8192x128_0_0_0)))

/-- The pooled rows of group 1. -/
def hM1 (E : FVec Ideal S2x8207x512 .f32) (U : FVec Ideal S2x8192x512 .f32) : FVec Ideal S2x8192x1x128 .f32 :=
  (broadcastInDim S2x8192x1x128 ![0, 1, 3] bcast_S2x8192x128_S2x8192x1x128_0_1_3 (subf (Host.divf (addf (addf (addf (extractStridedSlice (α := Elt Ideal .f32) S2x8192x128 ![0, 12, 128] E slices_S2x8207x512_S2x8192x128_0_12_128) (extractStridedSlice (α := Elt Ideal .f32) S2x8192x128 ![0, 13, 128] E slices_S2x8207x512_S2x8192x128_0_13_128)) (extractStridedSlice (α := Elt Ideal .f32) S2x8192x128 ![0, 14, 128] E slices_S2x8207x512_S2x8192x128_0_14_128)) (extractStridedSlice (α := Elt Ideal .f32) S2x8192x128 ![0, 15, 128] E slices_S2x8207x512_S2x8192x128_0_15_128)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 4#32))))))) (extractStridedSlice (α := Elt Ideal .f32) S2x8192x128 ![0, 0, 128] U slices_S2x8192x512_S2x8192x128_0_0_128)))

/-- The pooled rows of group 2. -/
def hM2 (E : FVec Ideal S2x8207x512 .f32) (U : FVec Ideal S2x8192x512 .f32) : FVec Ideal S2x8192x1x128 .f32 :=
  (broadcastInDim S2x8192x1x128 ![0, 1, 3] bcast_S2x8192x128_S2x8192x1x128_0_1_3 (subf (Host.divf (addf (addf (addf (addf (addf (addf (addf (extractStridedSlice (α := Elt Ideal .f32) S2x8192x128 ![0, 8, 256] E slices_S2x8207x512_S2x8192x128_0_8_256) (extractStridedSlice (α := Elt Ideal .f32) S2x8192x128 ![0, 9, 256] E slices_S2x8207x512_S2x8192x128_0_9_256)) (extractStridedSlice (α := Elt Ideal .f32) S2x8192x128 ![0, 10, 256] E slices_S2x8207x512_S2x8192x128_0_10_256)) (extractStridedSlice (α := Elt Ideal .f32) S2x8192x128 ![0, 11, 256] E slices_S2x8207x512_S2x8192x128_0_11_256)) (extractStridedSlice (α := Elt Ideal .f32) S2x8192x128 ![0, 12, 256] E slices_S2x8207x512_S2x8192x128_0_12_256)) (extractStridedSlice (α := Elt Ideal .f32) S2x8192x128 ![0, 13, 256] E slices_S2x8207x512_S2x8192x128_0_13_256)) (extractStridedSlice (α := Elt Ideal .f32) S2x8192x128 ![0, 14, 256] E slices_S2x8207x512_S2x8192x128_0_14_256)) (extractStridedSlice (α := Elt Ideal .f32) S2x8192x128 ![0, 15, 256] E slices_S2x8207x512_S2x8192x128_0_15_256)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 8#32))))))) (extractStridedSlice (α := Elt Ideal .f32) S2x8192x128 ![0, 0, 256] U slices_S2x8192x512_S2x8192x128_0_0_256)))

/-- The pooled rows of group 3. -/
def hM3 (E : FVec Ideal S2x8207x512 .f32) (U : FVec Ideal S2x8192x512 .f32) : FVec Ideal S2x8192x1x128 .f32 :=
  (broadcastInDim S2x8192x1x128 ![0, 1, 3] bcast_S2x8192x128_S2x8192x1x128_0_1_3 (subf (Host.divf (addf (addf (addf (addf (addf (addf (addf (addf (addf (addf (addf (addf (addf (addf (addf (extractStridedSlice (α := Elt Ideal .f32) S2x8192x128 ![0, 0, 384] E slices_S2x8207x512_S2x8192x128_0_0_384) (extractStridedSlice (α := Elt Ideal .f32) S2x8192x128 ![0, 1, 384] E slices_S2x8207x512_S2x8192x128_0_1_384)) (extractStridedSlice (α := Elt Ideal .f32) S2x8192x128 ![0, 2, 384] E slices_S2x8207x512_S2x8192x128_0_2_384)) (extractStridedSlice (α := Elt Ideal .f32) S2x8192x128 ![0, 3, 384] E slices_S2x8207x512_S2x8192x128_0_3_384)) (extractStridedSlice (α := Elt Ideal .f32) S2x8192x128 ![0, 4, 384] E slices_S2x8207x512_S2x8192x128_0_4_384)) (extractStridedSlice (α := Elt Ideal .f32) S2x8192x128 ![0, 5, 384] E slices_S2x8207x512_S2x8192x128_0_5_384)) (extractStridedSlice (α := Elt Ideal .f32) S2x8192x128 ![0, 6, 384] E slices_S2x8207x512_S2x8192x128_0_6_384)) (extractStridedSlice (α := Elt Ideal .f32) S2x8192x128 ![0, 7, 384] E slices_S2x8207x512_S2x8192x128_0_7_384)) (extractStridedSlice (α := Elt Ideal .f32) S2x8192x128 ![0, 8, 384] E slices_S2x8207x512_S2x8192x128_0_8_384)) (extractStridedSlice (α := Elt Ideal .f32) S2x8192x128 ![0, 9, 384] E slices_S2x8207x512_S2x8192x128_0_9_384)) (extractStridedSlice (α := Elt Ideal .f32) S2x8192x128 ![0, 10, 384] E slices_S2x8207x512_S2x8192x128_0_10_384)) (extractStridedSlice (α := Elt Ideal .f32) S2x8192x128 ![0, 11, 384] E slices_S2x8207x512_S2x8192x128_0_11_384)) (extractStridedSlice (α := Elt Ideal .f32) S2x8192x128 ![0, 12, 384] E slices_S2x8207x512_S2x8192x128_0_12_384)) (extractStridedSlice (α := Elt Ideal .f32) S2x8192x128 ![0, 13, 384] E slices_S2x8207x512_S2x8192x128_0_13_384)) (extractStridedSlice (α := Elt Ideal .f32) S2x8192x128 ![0, 14, 384] E slices_S2x8207x512_S2x8192x128_0_14_384)) (extractStridedSlice (α := Elt Ideal .f32) S2x8192x128 ![0, 15, 384] E slices_S2x8207x512_S2x8192x128_0_15_384)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 16#32))))))) (extractStridedSlice (α := Elt Ideal .f32) S2x8192x128 ![0, 0, 384] U slices_S2x8192x512_S2x8192x128_0_0_384)))

/-- The pooled rows, group by group. -/
def hM (E : FVec Ideal S2x8207x512 .f32) (U : FVec Ideal S2x8192x512 .f32) : FVec Ideal S2x8192x4x128 .f32 :=
  (concatenate S2x8192x4x128 2 [⟨S2x8192x1x128, (hM0 E U : (⟨S2x8192x1x128, .f32⟩ : BufTy).Contents (Elt Ideal))⟩, ⟨S2x8192x1x128, (hM1 E U : (⟨S2x8192x1x128, .f32⟩ : BufTy).Contents (Elt Ideal))⟩, ⟨S2x8192x1x128, (hM2 E U : (⟨S2x8192x1x128, .f32⟩ : BufTy).Contents (Elt Ideal))⟩, ⟨S2x8192x1x128, (hM3 E U : (⟨S2x8192x1x128, .f32⟩ : BufTy).Contents (Elt Ideal))⟩] concatenates_S2x8192x1x128_S2x8192x1x128_S2x8192x1x128_S2x8192x1x128_S2x8192x4x128_d2 : (⟨S2x8192x4x128, .f32⟩ : BufTy).Contents (Elt Ideal))

/-- The groups mixed and scaled. -/
def hYa (M : FVec Ideal S2x8192x4x128 .f32) (A3 : FVec Ideal S1x4x128x128 .f32) (A4 : FVec Ideal S1x512 .f32) : FVec Ideal S2x8192x512 .f32 :=
  mulf (shapeCast (α := Elt Ideal .f32) _ (transpose S2x8192x4x128 [2, 3, 0, 1] (Host.dotGeneral (φ₁ := .f32) (φ₂ := .f32) dot_S4x128x128_S2x8192x4x128_S4x128x2x8192_1_3_2_01_0_2 none (shapeCast (α := Elt Ideal .f32) _ A3 shapeCasts_S1x4x128x128_S4x128x128) M) transposes_S4x128x2x8192_S2x8192x4x128_2_3_0_1) shapeCasts_S2x8192x4x128_S2x8192x512) (broadcastInDim S2x8192x512 ![0, 1, 2] bcast_S1x1x512_S2x8192x512_0_1_2 (broadcastInDim S1x1x512 ![2] bcast_S512_S1x1x512_2 (shapeCast (α := Elt Ideal .f32) _ A4 shapeCasts_S1x512_S512)))

/-- The taps. -/
def hWc (A5 : FVec Ideal S1x4x1536 .f32) : FVec Ideal S4x1536 .f32 :=
  shapeCast (α := Elt Ideal .f32) _ A5 shapeCasts_S1x4x1536_S4x1536

/-- The convolution. -/
def hY0 (E : FVec Ideal S2x8195x1536 .f32) (Wc : FVec Ideal S4x1536 .f32) : FVec Ideal S2x8192x1536 .f32 :=
  addf (addf (addf (mulf (extractStridedSlice (α := Elt Ideal .f32) S2x8192x1536 ![0, 0, 0] E slices_S2x8195x1536_S2x8192x1536_0_0_0) (broadcastInDim S2x8192x1536 ![0, 1, 2] bcast_S1x1x1536_S2x8192x1536_0_1_2 (broadcastInDim S1x1x1536 ![2] bcast_S1536_S1x1x1536_2 (shapeCast (α := Elt Ideal .f32) _ (extractStridedSlice (α := Elt Ideal .f32) S1x1536 ![0, 0] Wc slices_S4x1536_S1x1536_0_0) shapeCasts_S1x1536_S1536)))) (mulf (extractStridedSlice (α := Elt Ideal .f32) S2x8192x1536 ![0, 1, 0] E slices_S2x8195x1536_S2x8192x1536_0_1_0) (broadcastInDim S2x8192x1536 ![0, 1, 2] bcast_S1x1x1536_S2x8192x1536_0_1_2 (broadcastInDim S1x1x1536 ![2] bcast_S1536_S1x1x1536_2 (shapeCast (α := Elt Ideal .f32) _ (extractStridedSlice (α := Elt Ideal .f32) S1x1536 ![1, 0] Wc slices_S4x1536_S1x1536_1_0) shapeCasts_S1x1536_S1536))))) (mulf (extractStridedSlice (α := Elt Ideal .f32) S2x8192x1536 ![0, 2, 0] E slices_S2x8195x1536_S2x8192x1536_0_2_0) (broadcastInDim S2x8192x1536 ![0, 1, 2] bcast_S1x1x1536_S2x8192x1536_0_1_2 (broadcastInDim S1x1x1536 ![2] bcast_S1536_S1x1x1536_2 (shapeCast (α := Elt Ideal .f32) _ (extractStridedSlice (α := Elt Ideal .f32) S1x1536 ![2, 0] Wc slices_S4x1536_S1x1536_2_0) shapeCasts_S1x1536_S1536))))) (mulf (extractStridedSlice (α := Elt Ideal .f32) S2x8192x1536 ![0, 3, 0] E slices_S2x8195x1536_S2x8192x1536_0_3_0) (broadcastInDim S2x8192x1536 ![0, 1, 2] bcast_S1x1x1536_S2x8192x1536_0_1_2 (broadcastInDim S1x1x1536 ![2] bcast_S1536_S1x1x1536_2 (shapeCast (α := Elt Ideal .f32) _ (extractStridedSlice (α := Elt Ideal .f32) S1x1536 ![3, 0] Wc slices_S4x1536_S1x1536_3_0) shapeCasts_S1x1536_S1536))))

/-- Its activation. -/
def hY (Y : FVec Ideal S2x8192x1536 .f32) : FVec Ideal S2x8192x1536 .f32 :=
  mulf Y (Host.divf (broadcastInDim S2x8192x1536 ![] bcast_S_S2x8192x1536 (constant S_ .f32 0x3F800000#32)) (addf (broadcastInDim S2x8192x1536 ![] bcast_S_S2x8192x1536 (constant S_ .f32 0x3F800000#32)) (Host.exp (Host.negf Y))))

/-- The query heads. -/
def hQ0 (Y : FVec Ideal S2x8192x1536 .f32) : FVec Ideal S2x8192x4x128 .f32 :=
  shapeCast (α := Elt Ideal .f32) _ (extractStridedSlice (α := Elt Ideal .f32) S2x8192x512 ![0, 0, 0] Y slices_S2x8192x1536_S2x8192x512_0_0_0) shapeCasts_S2x8192x512_S2x8192x4x128

/-- The key heads. -/
def hK0 (Y : FVec Ideal S2x8192x1536 .f32) : FVec Ideal S2x8192x4x128 .f32 :=
  shapeCast (α := Elt Ideal .f32) _ (extractStridedSlice (α := Elt Ideal .f32) S2x8192x512 ![0, 0, 512] Y slices_S2x8192x1536_S2x8192x512_0_0_512) shapeCasts_S2x8192x512_S2x8192x4x128

/-- Heads scaled to length one. -/
def hL (Y : FVec Ideal S2x8192x4x128 .f32) : FVec Ideal S2x8192x512 .f32 :=
  shapeCast (α := Elt Ideal .f32) _ (mulf Y (broadcastInDim S2x8192x4x128 ![0, 1, 2, 3] bcast_S2x8192x4x1_S2x8192x4x128_0_1_2_3 (Host.rsqrt (addf (broadcastInDim S2x8192x4x1 ![0, 1, 2] bcast_S2x8192x4_S2x8192x4x1_0_1_2 (Host.reduceAdd (mulf Y Y) (constant S_ .f32 0x00000000#32) reducesTo_S2x8192x4x128_S2x8192x4_d3 h_S_)) (broadcastInDim S2x8192x4x1 ![] bcast_S_S2x8192x4x1 (constant S_ .f32 0x358637BD#32)))))) shapeCasts_S2x8192x4x128_S2x8192x512

/-- The gates of the recurrence. -/
def hBg (P : FVec Ideal S2x8192x4616 .f32) (Z Z3 : FVec Ideal S2x8192x4 .f32) (A6 : FVec Ideal S1x4 .f32) : FVec Ideal S2x8192x8 .f32 :=
  concatenate S2x8192x8 2 [⟨S2x8192x4, (Host.divf (broadcastInDim S2x8192x4 ![] bcast_S_S2x8192x4 (constant S_ .f32 0x3F800000#32)) (addf (broadcastInDim S2x8192x4 ![] bcast_S_S2x8192x4 (constant S_ .f32 0x3F800000#32)) (Host.exp (Host.negf (extractStridedSlice (α := Elt Ideal .f32) S2x8192x4 ![0, 0, 2560] P slices_S2x8192x4616_S2x8192x4_0_0_2560)))))⟩, ⟨S2x8192x4, (mulf (broadcastInDim S2x8192x4 ![0, 1, 2] bcast_S1x1x4_S2x8192x4_0_1_2 (broadcastInDim S1x1x4 ![2] bcast_S4_S1x1x4_2 (Host.negf (Host.exp (shapeCast (α := Elt Ideal .f32) _ A6 shapeCasts_S1x4_S4))))) (select (cmpf .une Z3 Z3) (addf Z (broadcastInDim S2x8192x4 ![] bcast_S_S2x8192x4 (constant S_ .f32 0x00000000#32))) (addf (maximumf Z (broadcastInDim S2x8192x4 ![] bcast_S_S2x8192x4 (constant S_ .f32 0x00000000#32))) (Host.log1p (Host.exp (Host.negf (Host.absf Z3)))))))⟩] concatenates_S2x8192x4_S2x8192x4_S2x8192x8_d2

/-! ## Their elements -/

theorem hP_at (A0 : FVec Ideal S2x8192x1024 .f32) (A1 : FVec Ideal S1x1024 .f32) (A2 : FVec Ideal S1x1024x4616 .f32)
    (b : Fin 2) (l : Fin 8192) (e : Fin 4616) :
    hP A0 A1 A2 (ix3 b l e) = PX (fun l d => A0 (ix3 b l d)) (fun d => A1 (ix2 0 d)) (fun d e => A2 (ix3 0 d e)) l e := by
  unfold hP PX prj nE
  pointwise [dot_S2x8192x1024_S1024x4616_S2x8192x4616_2_0_01_1_n_n]

theorem hU_at (P : FVec Ideal S2x8192x4616 .f32) (b : Fin 2) (l : Fin 8192) (e : Fin 512) :
    hU P (ix3 b l e) = P (ix3 b l ⟨e.val, by omega⟩) := by
  unfold hU
  pointwise

theorem hE_at (U : FVec Ideal S2x8192x512 .f32) (b : Fin 2) (n : Fin 8207) (e : Fin 512) :
    hE U (ix3 b n e) = extZ 15 (fun l => U (ix3 b l e)) n.val := by
  unfold hE extZ
  pointwise
  rcases Nat.lt_or_ge n.val 15 with h | h
  · rw [if_pos h, dif_pos h]
  · have h1 : ¬n.val < 15 := by omega
    have h2 : n.val - 15 < 8192 := by omega
    refine (dif_neg h1).trans ?_
    rw [if_neg h1, dif_pos h2]

theorem hC_at (P : FVec Ideal S2x8192x4616 .f32) (b : Fin 2) (n : Fin 8195) (e : Fin 1536) :
    hC P (ix3 b n e) = extZ 3 (fun l => P (ix3 b l ⟨512 + e.val, by omega⟩)) n.val := by
  unfold hC extZ
  pointwise
  rcases Nat.lt_or_ge n.val 3 with h | h
  · rw [if_pos h, dif_pos h]
  · have h1 : ¬n.val < 3 := by omega
    have h2 : n.val - 3 < 8192 := by omega
    refine (dif_neg h1).trans ?_
    rw [if_neg h1, dif_pos h2]

theorem cnt_at (w : BitVec 32) (l : Fin 8192) :
    sitofp (F := Ideal) .f32 (minsi (addi (iotaInDim S8192 32 0) (broadcastInDim S8192 ![] bcast_S_S8192 (constantI S_ 32 1#32))) (broadcastInDim S8192 ![] bcast_S_S8192 (constantI S_ 32 w))) (ix1 l)
      = cntE w l.val := by
  unfold cntE
  pointwise
  congr 2
  exact (BitVec.ofNat_add l.val 1).symm

theorem hM0_at (E : FVec Ideal S2x8207x512 .f32) (U : FVec Ideal S2x8192x512 .f32) (b : Fin 2) (l : Fin 8192) (z : Fin 1) (d : Fin 128) :
    hM0 E U (ix4 b l z d) = Ideal.div (E (ix3 b ⟨14 + l.val, by omega⟩ ⟨d.val, by omega⟩) + E (ix3 b ⟨15 + l.val, by omega⟩ ⟨d.val, by omega⟩)) (cntE 2#32 l.val) - U (ix3 b l ⟨d.val, by omega⟩) := by
  rw [← cnt_at 2#32 l]
  unfold hM0
  pointwise

theorem hM1_at (E : FVec Ideal S2x8207x512 .f32) (U : FVec Ideal S2x8192x512 .f32) (b : Fin 2) (l : Fin 8192) (z : Fin 1) (d : Fin 128) :
    hM1 E U (ix4 b l z d) = Ideal.div (E (ix3 b ⟨12 + l.val, by omega⟩ ⟨128 + d.val, by omega⟩) + E (ix3 b ⟨13 + l.val, by omega⟩ ⟨128 + d.val, by omega⟩) + E (ix3 b ⟨14 + l.val, by omega⟩ ⟨128 + d.val, by omega⟩) + E (ix3 b ⟨15 + l.val, by omega⟩ ⟨128 + d.val, by omega⟩)) (cntE 4#32 l.val) - U (ix3 b l ⟨128 + d.val, by omega⟩) := by
  rw [← cnt_at 4#32 l]
  unfold hM1
  pointwise

theorem hM2_at (E : FVec Ideal S2x8207x512 .f32) (U : FVec Ideal S2x8192x512 .f32) (b : Fin 2) (l : Fin 8192) (z : Fin 1) (d : Fin 128) :
    hM2 E U (ix4 b l z d) = Ideal.div (E (ix3 b ⟨8 + l.val, by omega⟩ ⟨256 + d.val, by omega⟩) + E (ix3 b ⟨9 + l.val, by omega⟩ ⟨256 + d.val, by omega⟩) + E (ix3 b ⟨10 + l.val, by omega⟩ ⟨256 + d.val, by omega⟩) + E (ix3 b ⟨11 + l.val, by omega⟩ ⟨256 + d.val, by omega⟩) + E (ix3 b ⟨12 + l.val, by omega⟩ ⟨256 + d.val, by omega⟩) + E (ix3 b ⟨13 + l.val, by omega⟩ ⟨256 + d.val, by omega⟩) + E (ix3 b ⟨14 + l.val, by omega⟩ ⟨256 + d.val, by omega⟩) + E (ix3 b ⟨15 + l.val, by omega⟩ ⟨256 + d.val, by omega⟩)) (cntE 8#32 l.val) - U (ix3 b l ⟨256 + d.val, by omega⟩) := by
  rw [← cnt_at 8#32 l]
  unfold hM2
  pointwise

theorem hM3_at (E : FVec Ideal S2x8207x512 .f32) (U : FVec Ideal S2x8192x512 .f32) (b : Fin 2) (l : Fin 8192) (z : Fin 1) (d : Fin 128) :
    hM3 E U (ix4 b l z d) = Ideal.div (E (ix3 b ⟨0 + l.val, by omega⟩ ⟨384 + d.val, by omega⟩) + E (ix3 b ⟨1 + l.val, by omega⟩ ⟨384 + d.val, by omega⟩) + E (ix3 b ⟨2 + l.val, by omega⟩ ⟨384 + d.val, by omega⟩) + E (ix3 b ⟨3 + l.val, by omega⟩ ⟨384 + d.val, by omega⟩) + E (ix3 b ⟨4 + l.val, by omega⟩ ⟨384 + d.val, by omega⟩) + E (ix3 b ⟨5 + l.val, by omega⟩ ⟨384 + d.val, by omega⟩) + E (ix3 b ⟨6 + l.val, by omega⟩ ⟨384 + d.val, by omega⟩) + E (ix3 b ⟨7 + l.val, by omega⟩ ⟨384 + d.val, by omega⟩) + E (ix3 b ⟨8 + l.val, by omega⟩ ⟨384 + d.val, by omega⟩) + E (ix3 b ⟨9 + l.val, by omega⟩ ⟨384 + d.val, by omega⟩) + E (ix3 b ⟨10 + l.val, by omega⟩ ⟨384 + d.val, by omega⟩) + E (ix3 b ⟨11 + l.val, by omega⟩ ⟨384 + d.val, by omega⟩) + E (ix3 b ⟨12 + l.val, by omega⟩ ⟨384 + d.val, by omega⟩) + E (ix3 b ⟨13 + l.val, by omega⟩ ⟨384 + d.val, by omega⟩) + E (ix3 b ⟨14 + l.val, by omega⟩ ⟨384 + d.val, by omega⟩) + E (ix3 b ⟨15 + l.val, by omega⟩ ⟨384 + d.val, by omega⟩)) (cntE 16#32 l.val) - U (ix3 b l ⟨384 + d.val, by omega⟩) := by
  rw [← cnt_at 16#32 l]
  unfold hM3
  pointwise

theorem hM_at (E : FVec Ideal S2x8207x512 .f32) (U : FVec Ideal S2x8192x512 .f32) (b : Fin 2) (l : Fin 8192) (g : Fin 4) (d : Fin 128) :
    hM E U (ix4 b l g d) = (![hM0 E U, hM1 E U, hM2 E U, hM3 E U] : Fin 4 → FVec Ideal S2x8192x1x128 .f32) g (ix4 b l 0 d) := by
  unfold hM
  generalize hM0 E U = M0
  generalize hM1 E U = M1
  generalize hM2 E U = M2
  generalize hM3 E U = M3
  fin_cases g
  · pointwise
  · pointwise
  · pointwise
  · pointwise

theorem hYa_at (M : FVec Ideal S2x8192x4x128 .f32) (A3 : FVec Ideal S1x4x128x128 .f32) (A4 : FVec Ideal S1x512 .f32)
    (b : Fin 2) (l : Fin 8192) (g : Fin 4) (d : Fin 128) :
    hYa M A3 A4 (ix3 b l (col g d)) = (∑ k, M (ix4 b l g k) * A3 (ix4 0 g k d)) * A4 (ix2 0 (col g d)) := by
  have hs : ∀ (T : FVec Ideal S2x8192x4x128 .f32), shapeCast (α := Elt Ideal .f32) S2x8192x512 T shapeCasts_S2x8192x4x128_S2x8192x512 (ix3 b l (col g d)) = T (ix4 b l g d) := by
    intro T
    unfold col
    pointwise
  unfold hYa
  show shapeCast (α := Elt Ideal .f32) S2x8192x512 _ _ (ix3 b l (col g d)) * _ = _
  rw [hs]
  pointwise [dot_S4x128x128_S2x8192x4x128_S4x128x2x8192_1_3_2_01_0_2]
  simp only [mul_comm]

theorem hWc_at (A5 : FVec Ideal S1x4x1536 .f32) (j : Fin 4) (e : Fin 1536) : hWc A5 (ix2 j e) = A5 (ix3 0 j e) := by
  unfold hWc
  pointwise

theorem hY0_at (E : FVec Ideal S2x8195x1536 .f32) (Wc : FVec Ideal S4x1536 .f32) (b : Fin 2) (l : Fin 8192) (e : Fin 1536) :
    hY0 E Wc (ix3 b l e) = E (ix3 b ⟨l.val, by omega⟩ e) * Wc (ix2 0 e) + E (ix3 b ⟨1 + l.val, by omega⟩ e) * Wc (ix2 1 e)
      + E (ix3 b ⟨2 + l.val, by omega⟩ e) * Wc (ix2 2 e) + E (ix3 b ⟨3 + l.val, by omega⟩ e) * Wc (ix2 3 e) := by
  unfold hY0
  pointwise

theorem hY_at (Y : FVec Ideal S2x8192x1536 .f32) (b : Fin 2) (l : Fin 8192) (e : Fin 1536) :
    hY Y (ix3 b l e) = silE (Y (ix3 b l e)) := by
  unfold hY silE sg
  pointwise

theorem hQ0_at (Y : FVec Ideal S2x8192x1536 .f32) (b : Fin 2) (l : Fin 8192) (g : Fin 4) (d : Fin 128) :
    hQ0 Y (ix4 b l g d) = Y (ix3 b l ⟨0 + (col g d).val, by omega⟩) := by
  unfold hQ0 col
  pointwise
  exact congrArg (fun i => Y (ix3 b l i)) (Fin.ext (by simp only []; omega))

theorem hK0_at (Y : FVec Ideal S2x8192x1536 .f32) (b : Fin 2) (l : Fin 8192) (g : Fin 4) (d : Fin 128) :
    hK0 Y (ix4 b l g d) = Y (ix3 b l ⟨512 + (col g d).val, by omega⟩) := by
  unfold hK0 col
  pointwise
  exact congrArg (fun i => Y (ix3 b l i)) (Fin.ext (by simp only []; omega))

theorem hL_at (Y : FVec Ideal S2x8192x4x128 .f32) (b : Fin 2) (l : Fin 8192) (g : Fin 4) (d : Fin 128) :
    hL Y (ix3 b l (col g d)) = l2E (fun d => Y (ix4 b l g d)) d := by
  have hs : ∀ (T : FVec Ideal S2x8192x4x128 .f32), shapeCast (α := Elt Ideal .f32) S2x8192x512 T shapeCasts_S2x8192x4x128_S2x8192x512 (ix3 b l (col g d)) = T (ix4 b l g d) := by
    intro T
    unfold col
    pointwise
  unfold hL l2E
  rw [hs]
  pointwise

theorem hZ_at (P : FVec Ideal S2x8192x4616 .f32) (A7 : FVec Ideal S1x4 .f32) (b : Fin 2) (l : Fin 8192) (e : Fin 4) :
    hZ P A7 (ix3 b l e) = P (ix3 b l ⟨2564 + e.val, by omega⟩) + A7 (ix2 0 e) := by
  unfold hZ
  pointwise

theorem hZ3_at (Z : FVec Ideal S2x8192x4 .f32) (b : Fin 2) (l : Fin 8192) (e : Fin 4) : hZ3 Z (ix3 b l e) = Z (ix3 b l e) := by
  unfold hZ3
  pointwise

theorem hBg_at (P : FVec Ideal S2x8192x4616 .f32) (Z Z3 : FVec Ideal S2x8192x4 .f32) (A6 : FVec Ideal S1x4 .f32)
    (h3 : ∀ b l e, Z3 (ix3 b l e) = Z (ix3 b l e)) (b : Fin 2) (l : Fin 8192) (e : Fin 8) :
    hBg P Z Z3 A6 (ix3 b l e) = if h : e.val < 4 then sg (P (ix3 b l ⟨2560 + e.val, by omega⟩))
      else -Ideal.exp (A6 (ix2 0 ⟨e.val - 4, by omega⟩)) * spE (Z (ix3 b l ⟨e.val - 4, by omega⟩)) := by
  unfold hBg sg spE
  pointwise
  by_cases h : e.val < 4
  · rw [dif_pos h]
    refine Eq.trans ?_ (dif_pos h).symm
    rfl
  · rw [dif_neg h, ← h3]
    refine Eq.trans ?_ (dif_neg h).symm
    rw [← h3]
    refine congrArg (_ * ·) ((if_neg (fun h => h rfl)).trans rfl)

end Cert.FrontRef

end
-- ==== Proof.FrontRefEq.lean ====
module

public import proofs.«01_k».proof.Proof.FrontRef

@[expose] public section

set_option maxRecDepth 16384

noncomputable section

open Idealize.ShloMosaic Idealize.ShloMosaic.TcCoe

namespace Cert.FrontRef

open Cert.MergeMath Cert.FrontMath Cert.FrontSpec
open Cert.Kernel3Ideal.Front (col colG colD col_eq)
open Cert.Reference3Ideal Cert.Reference3Ideal.Gen

variable (A0 : FVec Ideal S2x8192x1024 .f32) (A1 : FVec Ideal S1x1024 .f32) (A2 : FVec Ideal S1x1024x4616 .f32)

/-- One sequence of the input. -/
abbrev xs (b : Fin 2) (l : Fin 8192) (d : Fin 1024) : EReal := A0 (ix3 b l d)
/-- The scaling weights. -/
abbrev gs (d : Fin 1024) : EReal := A1 (ix2 0 d)
/-- The projection's weights. -/
abbrev ws (d : Fin 1024) (e : Fin 4616) : EReal := A2 (ix3 0 d e)

theorem E_at (b : Fin 2) (n : Fin 8207) (e : Fin 512) :
    hE (hU (hP A0 A1 A2)) (ix3 b n e) = uZ (xs A0 b) (gs A1) (ws A2) e (1 + n.val) := by
  rw [hE_at, extZ_fewer 15 1]
  unfold uZ
  simp only [hU_at, hP_at]

theorem C_at (b : Fin 2) (n : Fin 8195) (e : Fin 1536) :
    hC (hP A0 A1 A2) (ix3 b n e) = cZ (xs A0 b) (gs A1) (ws A2) e (5 + n.val) := by
  rw [hC_at, extZ_fewer 3 5]
  unfold cZ
  simp only [hP_at]

theorem M_at (b : Fin 2) (l : Fin 8192) (g : Fin 4) (d : Fin 128) :
    hM (hE (hU (hP A0 A1 A2))) (hU (hP A0 A1 A2)) (ix4 b l g d) = poE (xs A0 b) (gs A1) (ws A2) l g d := by
  rw [hM_at]
  unfold poE
  match g with
  | ⟨0, _⟩ =>
    refine (hM0_at _ _ _ _ _ _).trans ?_
    simp only [E_at, hU_at, hP_at]
    refine congrArg₂ (· - ·) (congrArg₂ Ideal.div (Eq.trans ?_ (win2_sum _ _).symm) rfl) ?_
    · rw [← Nat.add_assoc, ← Nat.add_assoc]
      congr 2 <;> exact Fin.ext (by simp [col])
    · congr 1
      exact Fin.ext (by simp [col])
  | ⟨1, _⟩ =>
    refine (hM1_at _ _ _ _ _ _).trans ?_
    simp only [E_at, hU_at, hP_at]
    refine congrArg₂ (· - ·) (congrArg₂ Ideal.div (Eq.trans ?_ (win4_sum _ _).symm) rfl) rfl
    simp only [← Nat.add_assoc]
    rfl
  | ⟨2, _⟩ =>
    refine (hM2_at _ _ _ _ _ _).trans ?_
    simp only [E_at, hU_at, hP_at]
    refine congrArg₂ (· - ·) (congrArg₂ Ideal.div (Eq.trans ?_ (win8_sum _ _).symm) rfl) rfl
    simp only [← Nat.add_assoc]
    rfl
  | ⟨3, _⟩ =>
    refine (hM3_at _ _ _ _ _ _).trans ?_
    simp only [E_at, hU_at, hP_at]
    refine congrArg₂ (· - ·) (congrArg₂ Ideal.div (Eq.trans ?_ (win16_sum _ _).symm) rfl) rfl
    simp only [← Nat.add_assoc]
    rfl

theorem colG_col (g : Fin 4) (d : Fin 128) : colG (col g d) = g := Fin.ext (show (128 * g.val + d.val) / 128 = g.val by omega)
theorem colD_col (g : Fin 4) (d : Fin 128) : colD (col g d) = d := Fin.ext (show (128 * g.val + d.val) % 128 = d.val by omega)

theorem ya_eq (A3 : FVec Ideal S1x4x128x128 .f32) (A4 : FVec Ideal S1x512 .f32) (b : Fin 2) (l : Fin 8192) (e : Fin 512) :
    hYa (hM (hE (hU (hP A0 A1 A2))) (hU (hP A0 A1 A2))) A3 A4 (ix3 b l e) =
      yaE (xs A0 b) (gs A1) (ws A2) (fun g k d => A3 (ix4 0 g k d)) (fun e => A4 (ix2 0 e)) l e := by
  obtain ⟨g, d, rfl⟩ : ∃ g d, e = col g d := ⟨_, _, (col_eq e).symm⟩
  rw [hYa_at]
  unfold yaE
  simp only [colG_col, colD_col, M_at]

theorem y_eq (A5 : FVec Ideal S1x4x1536 .f32) (b : Fin 2) (l : Fin 8192) (e : Fin 1536) :
    hY (hY0 (hC (hP A0 A1 A2)) (hWc A5)) (ix3 b l e) = yE (xs A0 b) (gs A1) (ws A2) (fun j e => A5 (ix3 0 j e)) l e := by
  rw [hY_at, hY0_at]
  unfold yE convE
  simp only [C_at, hWc_at]
  congr 1
  rw [show 8 + l.val - 1 = 5 + (2 + l.val) by omega, show 8 + l.val - 2 = 5 + (1 + l.val) by omega, show 8 + l.val - 3 = 5 + l.val by omega,
    show 8 + l.val = 5 + (3 + l.val) by omega]
  ac_rfl

theorem q_eq (A5 : FVec Ideal S1x4x1536 .f32) (b : Fin 2) (l : Fin 8192) (e : Fin 512) :
    hL (hQ0 (hY (hY0 (hC (hP A0 A1 A2)) (hWc A5)))) (ix3 b l e) = hdE (xs A0 b) (gs A1) (ws A2) (fun j e => A5 (ix3 0 j e)) 0 (by decide) l e := by
  obtain ⟨g, d, rfl⟩ : ∃ g d, e = col g d := ⟨_, _, (col_eq e).symm⟩
  rw [hL_at]
  unfold hdE
  simp only [colG_col, colD_col, hQ0_at, y_eq]

theorem k_eq (A5 : FVec Ideal S1x4x1536 .f32) (b : Fin 2) (l : Fin 8192) (e : Fin 512) :
    hL (hK0 (hY (hY0 (hC (hP A0 A1 A2)) (hWc A5)))) (ix3 b l e) = hdE (xs A0 b) (gs A1) (ws A2) (fun j e => A5 (ix3 0 j e)) 512 (by decide) l e := by
  obtain ⟨g, d, rfl⟩ : ∃ g d, e = col g d := ⟨_, _, (col_eq e).symm⟩
  rw [hL_at]
  unfold hdE
  simp only [colG_col, colD_col, hK0_at, y_eq]

theorem bg_eq (A6 A7 : FVec Ideal S1x4 .f32) (b : Fin 2) (l : Fin 8192) (e : Fin 8) :
    hBg (hP A0 A1 A2) (hZ (hP A0 A1 A2) A7) (hZ3 (hZ (hP A0 A1 A2) A7)) A6 (ix3 b l e) =
      bgE (xs A0 b) (gs A1) (ws A2) (fun j => A6 (ix2 0 j)) (fun j => A7 (ix2 0 j)) l e := by
  rw [hBg_at _ _ _ _ (fun b l e => hZ3_at _ b l e)]
  unfold bgE
  by_cases h : e.val < 4
  · rw [dif_pos h, dif_pos h, hP_at]
  · rw [dif_neg h, dif_neg h, hZ_at, hP_at]
    congr 4
    exact Fin.ext (show 2564 + (e.val - 4) = 2560 + e.val by omega)

end Cert.FrontRef

end
-- ==== Proof.FrontClaim.lean ====
module

public import proofs.«01_k».proof.Defs
public import proofs.«01_k».proof.Proof.FrontValue
public import proofs.«01_k».proof.Proof.FrontTail
public import proofs.«01_k».proof.Proof.FrontRefEq
public import proofs.«01_k».proof.Proof.Gen.Reference3Ideal
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem

namespace Cert.FrontClaim

open Cert.MergeMath Cert.FrontMath Cert.FrontSpec Cert.FrontRef
open Cert.Reference3Ideal Cert.Reference3Ideal.Gen

/-- The reference's run ends with the arguments as they were and every counter at zero. -/
theorem reference_frame : Cert.quiescent_Reference3Ideal := fun (m : (ℓ : Loc Cert.Reference3Ideal.nD Cert.Reference3Ideal.τ Cert.Reference3Ideal.sig) → Buf (Elt Ideal) ℓ)
    (g : Dev Cert.Reference3Ideal.nD → PrngReg) _ =>
  (θ_run Cert.Reference3Ideal.defs _ _).mono (fun r h => ⟨fun c => (h c).2.2.2.2.2.2.2.2.2, sem_eq_zero_of_no_sems (by decide) r.2⟩)
    (Cert.Reference3Ideal.Value.run (F := Ideal) m g)

section Kernel

open Cert.Kernel3Ideal Cert.Kernel3Ideal.Gen Cert.Kernel3Ideal.Front

/-- The kernel's run: what its nine results hold, and the arguments as they were. -/
theorem kernel_run (m : (ℓ : Loc Cert.Kernel3Ideal.nD Cert.Kernel3Ideal.τ Cert.Kernel3Ideal.sig) → Buf (Elt Ideal) ℓ) (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩ (fun r => ∀ c : Dev Cert.Kernel3Ideal.nD,

      r.2.mem ((c.tc : Thread Cert.Kernel3Ideal.nD Cert.Kernel3Ideal.τ).loc Cert.Kernel3Ideal.main_v30_0) = (dats m 0 c).arrAt 14 cfg0.N
      ∧ r.2.mem ((c.tc : Thread Cert.Kernel3Ideal.nD Cert.Kernel3Ideal.τ).loc Cert.Kernel3Ideal.main_v30_1) = (dats m 0 c).arrAt 15 cfg0.N
      ∧ r.2.mem ((c.tc : Thread Cert.Kernel3Ideal.nD Cert.Kernel3Ideal.τ).loc Cert.Kernel3Ideal.main_v30_2) = (dats m 0 c).arrAt 16 cfg0.N
      ∧ r.2.mem ((c.tc : Thread Cert.Kernel3Ideal.nD Cert.Kernel3Ideal.τ).loc Cert.Kernel3Ideal.main_v30_3) = (dats m 0 c).arrAt 17 cfg0.N
      ∧ r.2.mem ((c.tc : Thread Cert.Kernel3Ideal.nD Cert.Kernel3Ideal.τ).loc Cert.Kernel3Ideal.main_v30_4) = (dats m 0 c).arrAt 18 cfg0.N
      ∧ r.2.mem ((c.tc : Thread Cert.Kernel3Ideal.nD Cert.Kernel3Ideal.τ).loc Cert.Kernel3Ideal.main_v30_5) = (dats m 0 c).arrAt 19 cfg0.N
      ∧ r.2.mem ((c.tc : Thread Cert.Kernel3Ideal.nD Cert.Kernel3Ideal.τ).loc Cert.Kernel3Ideal.main_v31) = extractStridedSlice (α := Elt Ideal .f32) Cert.Kernel3Ideal.S2x8192x8 ![0, 0, 0] ((Cert.Kernel3Ideal.Front.dats m 0 c).arrAt 20 Cert.Kernel3Ideal.cfg0.N) Cert.Kernel3Ideal.Gen.slices_S2x8192x128_S2x8192x8_0_0_0
      ∧ r.2.mem ((c.tc : Thread Cert.Kernel3Ideal.nD Cert.Kernel3Ideal.τ).loc Cert.Kernel3Ideal.main_v32) = extractStridedSlice (α := Elt Ideal .f32) Cert.Kernel3Ideal.S2x15x512 ![0, 1, 0] ((Cert.Kernel3Ideal.Front.dats m 0 c).arrAt 21 Cert.Kernel3Ideal.cfg0.N) Cert.Kernel3Ideal.Gen.slices_S2x16x512_S2x15x512_0_1_0
      ∧ r.2.mem ((c.tc : Thread Cert.Kernel3Ideal.nD Cert.Kernel3Ideal.τ).loc Cert.Kernel3Ideal.main_v33) = extractStridedSlice (α := Elt Ideal .f32) Cert.Kernel3Ideal.S2x3x1536 ![0, 5, 0] ((Cert.Kernel3Ideal.Front.dats m 0 c).arrAt 22 Cert.Kernel3Ideal.cfg0.N) Cert.Kernel3Ideal.Gen.slices_S2x8x1536_S2x3x1536_0_5_0
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)) :=
  (θ_run Cert.Kernel3Ideal.defs _ _).mono (fun r h c => ⟨(h c).1 14,
      (h c).1 15,
      (h c).1 16,
      (h c).1 17,
      (h c).1 18,
      (h c).1 19,
      ((h c).2 Cert.Kernel3Ideal.main_v31 (Pipeline.mem_restRefs_of Cert.Kernel3Ideal.main_v31 (by decide) (by decide))).trans (tail31 m c),
      ((h c).2 Cert.Kernel3Ideal.main_v32 (Pipeline.mem_restRefs_of Cert.Kernel3Ideal.main_v32 (by decide) (by decide))).trans (tail32 m c),
      ((h c).2 Cert.Kernel3Ideal.main_v33 (Pipeline.mem_restRefs_of Cert.Kernel3Ideal.main_v33 (by decide) (by decide))).trans (tail33 m c),
      ((h c).1 0).trans (((dats m 0 c).arrAt_in 0 rfl _).trans ((A_eq m c 0).trans (V_main_arg0 m c))),
      ((h c).2 Cert.Kernel3Ideal.main_arg1 (Pipeline.mem_restRefs_of Cert.Kernel3Ideal.main_arg1 (by decide) (by decide))).trans (W_main_arg1 m (dats m) c),
      ((h c).2 Cert.Kernel3Ideal.main_arg2 (Pipeline.mem_restRefs_of Cert.Kernel3Ideal.main_arg2 (by decide) (by decide))).trans (W_main_arg2 m (dats m) c),
      ((h c).2 Cert.Kernel3Ideal.main_arg3 (Pipeline.mem_restRefs_of Cert.Kernel3Ideal.main_arg3 (by decide) (by decide))).trans (W_main_arg3 m (dats m) c),
      ((h c).2 Cert.Kernel3Ideal.main_arg4 (Pipeline.mem_restRefs_of Cert.Kernel3Ideal.main_arg4 (by decide) (by decide))).trans (W_main_arg4 m (dats m) c),
      ((h c).2 Cert.Kernel3Ideal.main_arg5 (Pipeline.mem_restRefs_of Cert.Kernel3Ideal.main_arg5 (by decide) (by decide))).trans (W_main_arg5 m (dats m) c),
      ((h c).2 Cert.Kernel3Ideal.main_arg6 (Pipeline.mem_restRefs_of Cert.Kernel3Ideal.main_arg6 (by decide) (by decide))).trans (W_main_arg6 m (dats m) c),
      ((h c).2 Cert.Kernel3Ideal.main_arg7 (Pipeline.mem_restRefs_of Cert.Kernel3Ideal.main_arg7 (by decide) (by decide))).trans (W_main_arg7 m (dats m) c)⟩) (run_main m ρ)

end Kernel

section Slices

variable (A0 : FVec Ideal S2x8192x1024 .f32) (A1 : FVec Ideal S1x1024 .f32) (A2 : FVec Ideal S1x1024x4616 .f32) (A5 : FVec Ideal S1x4x1536 .f32)

theorem vS (b : Fin 2) (l : Fin 8192) (e : Fin 512) :
    extractStridedSlice (α := Elt Ideal .f32) S2x8192x512 ![0, 0, 1024] (hY (hY0 (hC (hP A0 A1 A2)) (hWc A5))) slices_S2x8192x1536_S2x8192x512_0_0_1024 (ix3 b l e) =
      yE (xs A0 b) (gs A1) (ws A2) (fun j e => A5 (ix3 0 j e)) l ⟨1024 + e.val, by omega⟩ := by
  rw [← y_eq]
  generalize hY (hY0 (hC (hP A0 A1 A2)) (hWc A5)) = Y
  pointwise

theorem zS (b : Fin 2) (l : Fin 8192) (e : Fin 512) :
    extractStridedSlice (α := Elt Ideal .f32) S2x8192x512 ![0, 0, 2048] (hP A0 A1 A2) slices_S2x8192x4616_S2x8192x512_0_0_2048 (ix3 b l e) =
      PX (xs A0 b) (gs A1) (ws A2) l ⟨2048 + e.val, by omega⟩ := by
  refine Eq.trans ?_ (hP_at A0 A1 A2 b l ⟨2048 + e.val, by omega⟩)
  generalize hP A0 A1 A2 = P
  pointwise

theorem gS (b : Fin 2) (l : Fin 8192) (e : Fin 2048) :
    extractStridedSlice (α := Elt Ideal .f32) S2x8192x2048 ![0, 0, 2568] (hP A0 A1 A2) slices_S2x8192x4616_S2x8192x2048_0_0_2568 (ix3 b l e) =
      PX (xs A0 b) (gs A1) (ws A2) l ⟨2568 + e.val, by omega⟩ := by
  refine Eq.trans ?_ (hP_at A0 A1 A2 b l ⟨2568 + e.val, by omega⟩)
  generalize hP A0 A1 A2 = P
  pointwise

theorem pS (b : Fin 2) (k : Fin 15) (e : Fin 512) :
    extractStridedSlice (α := Elt Ideal .f32) S2x15x512 ![0, 8192, 0] (hE (hU (hP A0 A1 A2))) slices_S2x8207x512_S2x15x512_0_8192_0 (ix3 b k e) =
      uZ (xs A0 b) (gs A1) (ws A2) e (8192 + (1 + k.val)) := by
  refine Eq.trans ?_ ((E_at A0 A1 A2 b ⟨8192 + k.val, by omega⟩ e).trans (congrArg _ (show 1 + (8192 + k.val) = 8192 + (1 + k.val) by omega)))
  generalize hE (hU (hP A0 A1 A2)) = P
  pointwise

theorem cS (b : Fin 2) (k : Fin 3) (e : Fin 1536) :
    extractStridedSlice (α := Elt Ideal .f32) S2x3x1536 ![0, 8192, 0] (hC (hP A0 A1 A2)) slices_S2x8195x1536_S2x3x1536_0_8192_0 (ix3 b k e) =
      cZ (xs A0 b) (gs A1) (ws A2) e (8192 + (5 + k.val)) := by
  refine Eq.trans ?_ ((C_at A0 A1 A2 b ⟨8192 + k.val, by omega⟩ e).trans (congrArg _ (show 5 + (8192 + k.val) = 8192 + (5 + k.val) by omega)))
  generalize hC (hP A0 A1 A2) = P
  pointwise

end Slices

section Results

variable (m : (ℓ : Loc Cert.Kernel3Ideal.nD Cert.Kernel3Ideal.τ Cert.Kernel3Ideal.sig) → Buf (Elt Ideal) ℓ)
  (m' : (ℓ : Loc nD τ sig) → Buf (Elt Ideal) ℓ) (c : Dev nD)

theorem res0 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e3 : m' ((c.tc : Thread nD τ).loc main_arg3) = m ((c.tc : Thread Cert.Kernel3Ideal.nD Cert.Kernel3Ideal.τ).loc Cert.Kernel3Ideal.main_arg3)) (e4 : m' ((c.tc : Thread nD τ).loc main_arg4) = m ((c.tc : Thread Cert.Kernel3Ideal.nD Cert.Kernel3Ideal.τ).loc Cert.Kernel3Ideal.main_arg4)) :
    hYa (hM (hE (hU (hP (m' ((c.tc : Thread nD τ).loc main_arg0)) (m' ((c.tc : Thread nD τ).loc main_arg1)) (m' ((c.tc : Thread nD τ).loc main_arg2))))) (hU (hP (m' ((c.tc : Thread nD τ).loc main_arg0)) (m' ((c.tc : Thread nD τ).loc main_arg1)) (m' ((c.tc : Thread nD τ).loc main_arg2))))) (m' ((c.tc : Thread nD τ).loc main_arg3)) (m' ((c.tc : Thread nD τ).loc main_arg4)) = (Cert.Kernel3Ideal.Front.dats m 0 c).arrAt 14 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (ya_eq _ _ _ _ _ b l e).trans (Eq.trans ?_ (Cert.Kernel3Ideal.Front.arr14_at m c b l e).symm)
  rw [e0, e1, e2, e3, e4]
  rfl

theorem res1 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e5 : m' ((c.tc : Thread nD τ).loc main_arg5) = m ((c.tc : Thread Cert.Kernel3Ideal.nD Cert.Kernel3Ideal.τ).loc Cert.Kernel3Ideal.main_arg5)) :
    hL (hQ0 (hY (hY0 (hC (hP (m' ((c.tc : Thread nD τ).loc main_arg0)) (m' ((c.tc : Thread nD τ).loc main_arg1)) (m' ((c.tc : Thread nD τ).loc main_arg2)))) (hWc (m' ((c.tc : Thread nD τ).loc main_arg5)))))) = (Cert.Kernel3Ideal.Front.dats m 0 c).arrAt 15 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (q_eq _ _ _ _ b l e).trans (Eq.trans ?_ (Cert.Kernel3Ideal.Front.arr15_at m c b l e).symm)
  rw [e0, e1, e2, e5]
  rfl

theorem res2 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e5 : m' ((c.tc : Thread nD τ).loc main_arg5) = m ((c.tc : Thread Cert.Kernel3Ideal.nD Cert.Kernel3Ideal.τ).loc Cert.Kernel3Ideal.main_arg5)) :
    hL (hK0 (hY (hY0 (hC (hP (m' ((c.tc : Thread nD τ).loc main_arg0)) (m' ((c.tc : Thread nD τ).loc main_arg1)) (m' ((c.tc : Thread nD τ).loc main_arg2)))) (hWc (m' ((c.tc : Thread nD τ).loc main_arg5)))))) = (Cert.Kernel3Ideal.Front.dats m 0 c).arrAt 16 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (k_eq _ _ _ _ b l e).trans (Eq.trans ?_ (Cert.Kernel3Ideal.Front.arr16_at m c b l e).symm)
  rw [e0, e1, e2, e5]
  rfl

theorem res3 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e5 : m' ((c.tc : Thread nD τ).loc main_arg5) = m ((c.tc : Thread Cert.Kernel3Ideal.nD Cert.Kernel3Ideal.τ).loc Cert.Kernel3Ideal.main_arg5)) :
    extractStridedSlice (α := Elt Ideal .f32) S2x8192x512 ![0, 0, 1024] (hY (hY0 (hC (hP (m' ((c.tc : Thread nD τ).loc main_arg0)) (m' ((c.tc : Thread nD τ).loc main_arg1)) (m' ((c.tc : Thread nD τ).loc main_arg2)))) (hWc (m' ((c.tc : Thread nD τ).loc main_arg5))))) slices_S2x8192x1536_S2x8192x512_0_0_1024 = (Cert.Kernel3Ideal.Front.dats m 0 c).arrAt 17 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (vS _ _ _ _ b l e).trans (Eq.trans ?_ (Cert.Kernel3Ideal.Front.arr17_at m c b l e).symm)
  rw [e0, e1, e2, e5]
  rfl

theorem res4 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x8192x512 ![0, 0, 2048] (hP (m' ((c.tc : Thread nD τ).loc main_arg0)) (m' ((c.tc : Thread nD τ).loc main_arg1)) (m' ((c.tc : Thread nD τ).loc main_arg2))) slices_S2x8192x4616_S2x8192x512_0_0_2048 = (Cert.Kernel3Ideal.Front.dats m 0 c).arrAt 18 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (zS _ _ _ b l e).trans (Eq.trans ?_ (Cert.Kernel3Ideal.Front.arr18_at m c b l e).symm)
  rw [e0, e1, e2]
  rfl

theorem res5 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x8192x2048 ![0, 0, 2568] (hP (m' ((c.tc : Thread nD τ).loc main_arg0)) (m' ((c.tc : Thread nD τ).loc main_arg1)) (m' ((c.tc : Thread nD τ).loc main_arg2))) slices_S2x8192x4616_S2x8192x2048_0_0_2568 = (Cert.Kernel3Ideal.Front.dats m 0 c).arrAt 19 Cert.Kernel3Ideal.cfg0.N := by
  funext q
  obtain ⟨b, l, e, rfl⟩ : ∃ (b : Fin 2) (l : Fin 8192) (e : Fin 2048), q = ix3 b l e := ⟨q 0, q 1, q 2, (ix3_eta q).symm⟩
  refine (gS _ _ _ b l e).trans (Eq.trans ?_ (Cert.Kernel3Ideal.Front.arr19_at m c b l e).symm)
  rw [e0, e1, e2]
  rfl

theorem res6 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e6 : m' ((c.tc : Thread nD τ).loc main_arg6) = m ((c.tc : Thread Cert.Kernel3Ideal.nD Cert.Kernel3Ideal.τ).loc Cert.Kernel3Ideal.main_arg6)) (e7 : m' ((c.tc : Thread nD τ).loc main_arg7) = m ((c.tc : Thread Cert.Kernel3Ideal.nD Cert.Kernel3Ideal.τ).loc Cert.Kernel3Ideal.main_arg7)) :
    hBg (hP (m' ((c.tc : Thread nD τ).loc main_arg0)) (m' ((c.tc : Thread nD τ).loc main_arg1)) (m' ((c.tc : Thread nD τ).loc main_arg2))) (hZ (hP (m' ((c.tc : Thread nD τ).loc main_arg0)) (m' ((c.tc : Thread nD τ).loc main_arg1)) (m' ((c.tc : Thread nD τ).loc main_arg2))) (m' ((c.tc : Thread nD τ).loc main_arg7))) (hZ3 (hZ (hP (m' ((c.tc : Thread nD τ).loc main_arg0)) (m' ((c.tc : Thread nD τ).loc main_arg1)) (m' ((c.tc : Thread nD τ).loc main_arg2))) (m' ((c.tc : Thread nD τ).loc main_arg7)))) (m' ((c.tc : Thread nD τ).loc main_arg6)) = extractStridedSlice (α := Elt Ideal .f32) Cert.Kernel3Ideal.S2x8192x8 ![0, 0, 0] ((Cert.Kernel3Ideal.Front.dats m 0 c).arrAt 20 Cert.Kernel3Ideal.cfg0.N) Cert.Kernel3Ideal.Gen.slices_S2x8192x128_S2x8192x8_0_0_0 := by
  funext q
  obtain ⟨b, l, e, rfl⟩ : ∃ (b : Fin 2) (l : Fin 8192) (e : Fin 8), q = ix3 b l e := ⟨q 0, q 1, q 2, (ix3_eta q).symm⟩
  refine (bg_eq _ _ _ _ _ b l e).trans (Eq.trans ?_ ((Cert.Kernel3Ideal.Front.bg_slice _ b l e).trans (Cert.Kernel3Ideal.Front.arr20_at m c b l e)).symm)
  rw [e0, e1, e2, e6, e7]
  rfl

theorem res7 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x15x512 ![0, 8192, 0] (hE (hU (hP (m' ((c.tc : Thread nD τ).loc main_arg0)) (m' ((c.tc : Thread nD τ).loc main_arg1)) (m' ((c.tc : Thread nD τ).loc main_arg2))))) slices_S2x8207x512_S2x15x512_0_8192_0 = extractStridedSlice (α := Elt Ideal .f32) Cert.Kernel3Ideal.S2x15x512 ![0, 1, 0] ((Cert.Kernel3Ideal.Front.dats m 0 c).arrAt 21 Cert.Kernel3Ideal.cfg0.N) Cert.Kernel3Ideal.Gen.slices_S2x16x512_S2x15x512_0_1_0 := by
  funext q
  obtain ⟨b, l, e, rfl⟩ : ∃ (b : Fin 2) (l : Fin 15) (e : Fin 512), q = ix3 b l e := ⟨q 0, q 1, q 2, (ix3_eta q).symm⟩
  refine (pS _ _ _ b l e).trans (Eq.trans ?_ ((Cert.Kernel3Ideal.Front.pool_slice _ b l e).trans (Cert.Kernel3Ideal.Front.arr21_at m c b ⟨1 + l.val, by omega⟩ e)).symm)
  rw [e0, e1, e2]
  rfl

theorem res8 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x3x1536 ![0, 8192, 0] (hC (hP (m' ((c.tc : Thread nD τ).loc main_arg0)) (m' ((c.tc : Thread nD τ).loc main_arg1)) (m' ((c.tc : Thread nD τ).loc main_arg2)))) slices_S2x8195x1536_S2x3x1536_0_8192_0 = extractStridedSlice (α := Elt Ideal .f32) Cert.Kernel3Ideal.S2x3x1536 ![0, 5, 0] ((Cert.Kernel3Ideal.Front.dats m 0 c).arrAt 22 Cert.Kernel3Ideal.cfg0.N) Cert.Kernel3Ideal.Gen.slices_S2x8x1536_S2x3x1536_0_5_0 := by
  funext q
  obtain ⟨b, l, e, rfl⟩ : ∃ (b : Fin 2) (l : Fin 3) (e : Fin 1536), q = ix3 b l e := ⟨q 0, q 1, q 2, (ix3_eta q).symm⟩
  refine (cS _ _ _ b l e).trans (Eq.trans ?_ ((Cert.Kernel3Ideal.Front.conv_slice _ b l e).trans (Cert.Kernel3Ideal.Front.arr22_at m c b ⟨5 + l.val, by omega⟩ e)).symm)
  rw [e0, e1, e2]
  rfl

end Results

set_option maxHeartbeats 4000000 in
/-- All nine results are reached by the kernel and by the reference. -/
theorem algebraic : Cert.algebraic_Kernel3Ideal_Reference3Ideal := by
  intro m g m' g' _ hag
  refine ⟨fun c => (Cert.Kernel3Ideal.Front.dats m 0 c).arrAt 14 Cert.Kernel3Ideal.cfg0.N,
    fun c => (Cert.Kernel3Ideal.Front.dats m 0 c).arrAt 15 Cert.Kernel3Ideal.cfg0.N,
    fun c => (Cert.Kernel3Ideal.Front.dats m 0 c).arrAt 16 Cert.Kernel3Ideal.cfg0.N,
    fun c => (Cert.Kernel3Ideal.Front.dats m 0 c).arrAt 17 Cert.Kernel3Ideal.cfg0.N,
    fun c => (Cert.Kernel3Ideal.Front.dats m 0 c).arrAt 18 Cert.Kernel3Ideal.cfg0.N,
    fun c => (Cert.Kernel3Ideal.Front.dats m 0 c).arrAt 19 Cert.Kernel3Ideal.cfg0.N,
    fun c => extractStridedSlice (α := Elt Ideal .f32) Cert.Kernel3Ideal.S2x8192x8 ![0, 0, 0] ((Cert.Kernel3Ideal.Front.dats m 0 c).arrAt 20 Cert.Kernel3Ideal.cfg0.N) Cert.Kernel3Ideal.Gen.slices_S2x8192x128_S2x8192x8_0_0_0,
    fun c => extractStridedSlice (α := Elt Ideal .f32) Cert.Kernel3Ideal.S2x15x512 ![0, 1, 0] ((Cert.Kernel3Ideal.Front.dats m 0 c).arrAt 21 Cert.Kernel3Ideal.cfg0.N) Cert.Kernel3Ideal.Gen.slices_S2x16x512_S2x15x512_0_1_0,
    fun c => extractStridedSlice (α := Elt Ideal .f32) Cert.Kernel3Ideal.S2x3x1536 ![0, 5, 0] ((Cert.Kernel3Ideal.Front.dats m 0 c).arrAt 22 Cert.Kernel3Ideal.cfg0.N) Cert.Kernel3Ideal.Gen.slices_S2x8x1536_S2x3x1536_0_5_0,
    kernel_run m g, ?_⟩
  refine (θ_run Cert.Reference3Ideal.defs _ _).mono (fun r h c => ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_,
    (h c).2.2.2.2.2.2.2.2.1.trans ?_,
    (h c).2.2.2.2.2.2.2.2.2⟩) (Cert.Reference3Ideal.Value.run (F := Ideal) m' g')
  · obtain ⟨e0, e1, e2, e3, e4, e5, e6, e7⟩ := hag c
    exact res0 m m' c e0 e1 e2 e3 e4
  · obtain ⟨e0, e1, e2, e3, e4, e5, e6, e7⟩ := hag c
    exact res1 m m' c e0 e1 e2 e5
  · obtain ⟨e0, e1, e2, e3, e4, e5, e6, e7⟩ := hag c
    exact res2 m m' c e0 e1 e2 e5
  · obtain ⟨e0, e1, e2, e3, e4, e5, e6, e7⟩ := hag c
    exact res3 m m' c e0 e1 e2 e5
  · obtain ⟨e0, e1, e2, e3, e4, e5, e6, e7⟩ := hag c
    exact res4 m m' c e0 e1 e2
  · obtain ⟨e0, e1, e2, e3, e4, e5, e6, e7⟩ := hag c
    exact res5 m m' c e0 e1 e2
  · obtain ⟨e0, e1, e2, e3, e4, e5, e6, e7⟩ := hag c
    exact res6 m m' c e0 e1 e2 e6 e7
  · obtain ⟨e0, e1, e2, e3, e4, e5, e6, e7⟩ := hag c
    exact res7 m m' c e0 e1 e2
  · obtain ⟨e0, e1, e2, e3, e4, e5, e6, e7⟩ := hag c
    exact res8 m m' c e0 e1 e2

end Cert.FrontClaim

end
-- ==== Proof.FrontReal.lean ====
module

public import proofs.«01_k».proof.Proof.FrontRefEq

@[expose] public section

set_option maxRecDepth 16384

noncomputable section

open Idealize.ShloMosaic Idealize.ShloMosaic.TcCoe

namespace Cert.FrontReal

open Cert.MergeMath Cert.FrontMath Cert.FrontSpec

/-- A value that is a real number. -/
def IsR (x : EReal) : Prop := ∃ r : ℝ, x = (r : EReal)

/-- The first 512 columns of the projection. -/
theorem lt_cols (e : Fin 512) : e.val < 4616 := Nat.lt_of_lt_of_le e.isLt (by decide)

theorem isR_zero : IsR 0 := ⟨0, rfl⟩

theorem isR_add {x y : EReal} (hx : IsR x) (hy : IsR y) : IsR (x + y) := by
  obtain ⟨a, rfl⟩ := hx
  obtain ⟨b, rfl⟩ := hy
  exact ⟨a + b, (EReal.coe_add a b).symm⟩

theorem isR_mul {x y : EReal} (hx : IsR x) (hy : IsR y) : IsR (x * y) := by
  obtain ⟨a, rfl⟩ := hx
  obtain ⟨b, rfl⟩ := hy
  exact ⟨a * b, (EReal.coe_mul a b).symm⟩

theorem isR_sum {ι : Type} (s : Finset ι) (f : ι → EReal) (h : ∀ i, IsR (f i)) : IsR (∑ i ∈ s, f i) := by
  classical
  induction s using Finset.induction_on with
  | empty => exact isR_zero
  | insert a s ha ih => rw [Finset.sum_insert ha]; exact isR_add (h a) ih

/-- The sum of the squares of real numbers is a real number that is not negative. -/
theorem sq_sum {ι : Type} (s : Finset ι) (f : ι → EReal) (h : ∀ i, IsR (f i)) : ∃ r : ℝ, 0 ≤ r ∧ ∑ i ∈ s, f i * f i = (r : EReal) := by
  classical
  induction s using Finset.induction_on with
  | empty => exact ⟨0, le_refl _, rfl⟩
  | insert a s ha ih =>
    obtain ⟨r, h0, h1⟩ := ih
    obtain ⟨x, hx⟩ := h a
    refine ⟨x * x + r, add_nonneg (mul_self_nonneg x) h0, ?_⟩
    rw [Finset.sum_insert ha, h1, hx, EReal.coe_add, EReal.coe_mul]

theorem lit_width : Ideal.ofBits FTy.f32 1149239296#32 = ((1024 : ℝ) : EReal) := by
  simp [Ideal.ofBits, Ideal.ieee, -EReal.coe_mul]; norm_num

theorem lit_eps : ∃ r : ℝ, 0 < r ∧ Ideal.ofBits FTy.f32 897988541#32 = (r : EReal) := by
  simp only [Ideal.ofBits, Ideal.ieee]
  rw [if_neg (by decide), if_neg (by decide)]
  refine ⟨_, ?_, rfl⟩
  have h : (BitVec.extractLsb' (8 + 23) 1 (897988541#32) == 1#1) = false := by decide
  rw [h]
  simp only [Bool.false_eq_true, if_false, one_mul]
  positivity

theorem lit_inf : Ideal.ofBits FTy.f32 0x7F800000#32 = (⊤ : EReal) := by
  simp [Ideal.ofBits, Ideal.ieee]

/-- The square of an infinity is the positive one. -/
theorem sq_of_not_isR {x : EReal} (h : ¬IsR x) : x * x = ⊤ := by
  induction x using EReal.rec with
  | bot => exact EReal.bot_mul_bot
  | coe r => exact absurd ⟨r, rfl⟩ h
  | top => exact EReal.top_mul_top

theorem sq_ne_bot (x : EReal) : x * x ≠ ⊥ := by
  by_cases h : IsR x
  · obtain ⟨r, rfl⟩ := h
    rw [← EReal.coe_mul]
    exact EReal.coe_ne_bot _
  · rw [sq_of_not_isR h]
    exact (bot_lt_top (α := EReal)).ne'

theorem sum_sq_ne_bot {ι : Type} (s : Finset ι) (f : ι → EReal) : ∑ i ∈ s, f i * f i ≠ ⊥ := by
  classical
  induction s using Finset.induction_on with
  | empty => exact EReal.zero_ne_bot
  | insert a s ha ih =>
    rw [Finset.sum_insert ha]
    intro h
    rcases EReal.add_eq_bot_iff.1 h with h | h
    · exact sq_ne_bot _ h
    · exact ih h

/-- The sum of squares one of which is infinite is infinite. -/
theorem sum_sq_top (x : Fin 1024 → EReal) (d : Fin 1024) (h : ¬IsR (x d)) : ∑ i, x i * x i = ⊤ := by
  classical
  rw [← Finset.add_sum_erase Finset.univ (fun i => x i * x i) (Finset.mem_univ d)]
  show x d * x d + _ = ⊤
  rw [sq_of_not_isR h]
  exact EReal.top_add_of_ne_bot (sum_sq_ne_bot _ _)

/-- The norm of a row is real: of a row with an infinity it is zero. -/
theorem isR_nE (x w : Fin 1024 → EReal) (hw : ∀ e, IsR (w e)) (e : Fin 1024) : IsR (nE x w e) := by
  obtain ⟨p, hp, ep⟩ := lit_eps
  unfold nE
  by_cases hx : ∀ e, IsR (x e)
  · obtain ⟨s, hs, es⟩ := sq_sum Finset.univ x hx
    refine isR_mul (isR_mul (hx e) ?_) (hw e)
    rw [es, ep, lit_width]
    have hd : Ideal.div (s : EReal) ((1024 : ℝ) : EReal) = ((s * (1024 : ℝ)⁻¹ : ℝ) : EReal) := by
      unfold Ideal.div
      rw [if_neg (by norm_num), ← EReal.coe_inv, ← EReal.coe_mul]
    rw [hd, ← EReal.coe_add]
    have hpos : 0 < s * (1024 : ℝ)⁻¹ + p := by positivity
    refine ⟨(Real.sqrt (s * (1024 : ℝ)⁻¹ + p))⁻¹, ?_⟩
    show (if s * (1024 : ℝ)⁻¹ + p < 0 then (⊥ : EReal) else if s * (1024 : ℝ)⁻¹ + p = 0 then ⊤ else (((Real.sqrt (s * (1024 : ℝ)⁻¹ + p))⁻¹ : ℝ) : EReal)) = _
    rw [if_neg (not_lt.2 hpos.le), if_neg hpos.ne']
  · obtain ⟨d, hd⟩ := not_forall.1 hx
    have ht : Ideal.div (⊤ : EReal) ((1024 : ℝ) : EReal) = ⊤ := by
      unfold Ideal.div
      rw [if_neg (by norm_num), ← EReal.coe_inv]
      exact EReal.top_mul_coe_of_pos (by norm_num)
    rw [sum_sq_top x d hd, ep, lit_width, ht, EReal.top_add_coe]
    show IsR (x e * 0 * w e)
    rw [mul_zero, zero_mul]
    exact isR_zero

/-- The projection of a row by a real column is real. -/
theorem isR_PX (X : Fin 8192 → Fin 1024 → EReal) (g : Fin 1024 → EReal) (W : Fin 1024 → Fin 4616 → EReal)
    (hg : ∀ e, IsR (g e)) (l : Fin 8192) (e : Fin 4616) (hW : ∀ d, IsR (W d e)) : IsR (PX X g W l e) := by
  unfold PX prj
  exact isR_sum _ _ fun d => isR_mul (isR_nE _ _ hg d) (hW d)

theorem isR_uZ (X : Fin 8192 → Fin 1024 → EReal) (g : Fin 1024 → EReal) (W : Fin 1024 → Fin 4616 → EReal)
    (hg : ∀ e, IsR (g e)) (hW : ∀ d (e : Fin 512), IsR (W d ⟨e.val, lt_cols e⟩)) (e : Fin 512) (n : ℕ) : IsR (uZ X g W e n) := by
  unfold uZ extZ
  split
  · exact isR_zero
  · split
    · exact isR_PX X g W hg _ _ fun d => hW d e
    · exact isR_zero

/-- The difference of two running sums of real numbers is the sum of what lies between. -/
theorem run_diff (z : ℕ → EReal) (hz : ∀ n, IsR (z n)) (n w : ℕ) :
    (∑ i ∈ Finset.range (n + w), z i) - (∑ i ∈ Finset.range n, z i) = ∑ j ∈ Finset.range w, z (n + j) := by
  obtain ⟨c, hc⟩ := isR_sum (Finset.range n) z hz
  rw [Finset.sum_range_add, hc, add_comm]
  exact EReal.add_sub_cancel_right

/-- A window sum of a fold is a sum. -/
theorem foldl_sum {N : ℕ} (f : EReal → Fin N → EReal) (g : Fin N → EReal) (h : ∀ r n, f r n = r + g n) (v : EReal) :
    (List.finRange N).foldl f v = v + ∑ n, g n := by
  have hl : ∀ (L : List (Fin N)) (v : EReal), L.foldl f v = v + (L.map g).sum := by
    intro L
    induction L with
    | nil => intro v; simp
    | cons a L ih => intro v; rw [List.foldl_cons, ih, h, List.map_cons, List.sum_cons, add_assoc]
  rw [hl, ← Fin.sum_univ_def]

/-- The running sum along the middle axis, as a window as long as the axis. -/
theorem cumsum_at {A L1 C : ℕ} (x : FVec Ideal ⟨3, ![A, L1 + 1, C]⟩ .f32) (z : ℕ → EReal) (b : Fin A) (e : Fin C)
    (hz : ∀ i : Fin (L1 + 1), x (ix3 b i e) = z i.val) (v : EReal) (hv : v = 0)
    (h : (⟨3, ![A, L1 + 1, C]⟩ : Shape).ReduceWindows (![1, L1 + 1, 1] : Fin 3 → Nat) ![1, 1, 1] ![0, L1, 0] ![0, 0, 0] ⟨3, ![A, L1 + 1, C]⟩)
    (n : Fin (L1 + 1)) :
    Ideal.hostReduceWindowAdd (s := ⟨3, ![A, L1 + 1, C]⟩) ![1, L1 + 1, 1] ![1, 1, 1] ![0, L1, 0] ![0, 0, 0] h x v (ix3 b n e)
      = ∑ i ∈ Finset.range (n.val + 1), z i := by
  subst hv
  have hn := n.isLt
  have hb := b.isLt
  have he := e.isLt
  unfold Ideal.hostReduceWindowAdd Host.reduceWindow
  refine (foldl_sum _ (fun k => (fun q : (⟨3, ![1, L1 + 1, 1]⟩ : Shape).Idx => if L1 ≤ n.val + (q 1).val then z (n.val + (q 1).val - L1) else 0) ((⟨3, ![1, L1 + 1, 1]⟩ : Shape).rowMajor.symm k)) (fun r k => ?_) _).trans ?_
  · refine congrArg (r + ·) ?_
    dsimp only
    have q0 : (((⟨3, ![1, L1 + 1, 1]⟩ : Shape).rowMajor.symm k) 0).val < 1 := (((⟨3, ![1, L1 + 1, 1]⟩ : Shape).rowMajor.symm k) 0).isLt
    have q1 : (((⟨3, ![1, L1 + 1, 1]⟩ : Shape).rowMajor.symm k) 1).val < L1 + 1 := (((⟨3, ![1, L1 + 1, 1]⟩ : Shape).rowMajor.symm k) 1).isLt
    have q2 : (((⟨3, ![1, L1 + 1, 1]⟩ : Shape).rowMajor.symm k) 2).val < 1 := (((⟨3, ![1, L1 + 1, 1]⟩ : Shape).rowMajor.symm k) 2).isLt
    split
    · next hin =>
      have h1 := hin 1
      change L1 ≤ n.val * 1 + (((⟨3, ![1, L1 + 1, 1]⟩ : Shape).rowMajor.symm k) 1).val
        ∧ n.val * 1 + (((⟨3, ![1, L1 + 1, 1]⟩ : Shape).rowMajor.symm k) 1).val - L1 < L1 + 1 at h1
      rw [if_pos (by omega)]
      refine (congrArg x (funext fun a => Fin.ext ?_)).trans (hz ⟨n.val + (((⟨3, ![1, L1 + 1, 1]⟩ : Shape).rowMajor.symm k) 1).val - L1, by omega⟩)
      match a with
      | ⟨0, _⟩ =>
        show b.val * 1 + (((⟨3, ![1, L1 + 1, 1]⟩ : Shape).rowMajor.symm k) 0).val - 0 = b.val
        omega
      | ⟨1, _⟩ =>
        show n.val * 1 + (((⟨3, ![1, L1 + 1, 1]⟩ : Shape).rowMajor.symm k) 1).val - L1 = n.val + (((⟨3, ![1, L1 + 1, 1]⟩ : Shape).rowMajor.symm k) 1).val - L1
        omega
      | ⟨2, _⟩ =>
        show e.val * 1 + (((⟨3, ![1, L1 + 1, 1]⟩ : Shape).rowMajor.symm k) 2).val - 0 = e.val
        omega
    · next hin =>
      rw [if_neg fun hle => hin fun a => by
        match a with
        | ⟨0, _⟩ =>
          show 0 ≤ b.val * 1 + (((⟨3, ![1, L1 + 1, 1]⟩ : Shape).rowMajor.symm k) 0).val ∧ b.val * 1 + (((⟨3, ![1, L1 + 1, 1]⟩ : Shape).rowMajor.symm k) 0).val - 0 < A
          omega
        | ⟨1, _⟩ =>
          show L1 ≤ n.val * 1 + (((⟨3, ![1, L1 + 1, 1]⟩ : Shape).rowMajor.symm k) 1).val
            ∧ n.val * 1 + (((⟨3, ![1, L1 + 1, 1]⟩ : Shape).rowMajor.symm k) 1).val - L1 < L1 + 1
          omega
        | ⟨2, _⟩ =>
          show 0 ≤ e.val * 1 + (((⟨3, ![1, L1 + 1, 1]⟩ : Shape).rowMajor.symm k) 2).val ∧ e.val * 1 + (((⟨3, ![1, L1 + 1, 1]⟩ : Shape).rowMajor.symm k) 2).val - 0 < C
          omega]
  · rw [Equiv.sum_comp (⟨3, ![1, L1 + 1, 1]⟩ : Shape).rowMajor.symm (fun q => if L1 ≤ n.val + (q 1).val then z (n.val + (q 1).val - L1) else 0), sum_idx3]
    simp only [Fin.sum_univ_one, zero_add]
    show ∑ k : Fin (L1 + 1), (if L1 ≤ n.val + k.val then z (n.val + k.val - L1) else 0) = _
    rw [Fin.sum_univ_eq_sum_range (fun k => if L1 ≤ n.val + k then z (n.val + k - L1) else 0) (L1 + 1), ← Finset.sum_filter]
    refine Finset.sum_bij' (fun k _ => n.val + k - L1) (fun i _ => i + L1 - n.val) ?_ ?_ ?_ ?_ ?_
    · intro k hk; simp only [Finset.mem_filter, Finset.mem_range] at hk ⊢; omega
    · intro i hi; simp only [Finset.mem_filter, Finset.mem_range] at hi ⊢; omega
    · intro k hk; simp only [Finset.mem_filter, Finset.mem_range] at hk; omega
    · intro i hi; simp only [Finset.mem_range] at hi; omega
    · intro k hk; rfl

end Cert.FrontReal

end
-- ==== Proof.FrontRef4.lean ====
module

public import proofs.«01_k».proof.Proof.FrontReal
public import proofs.«01_k».proof.Proof.Gen.Reference4Ideal

@[expose] public section

set_option maxRecDepth 16384

noncomputable section

open Idealize.ShloMosaic Idealize.ShloMosaic.TcCoe

namespace Cert.FrontRef4

open Cert.MergeMath Cert.FrontMath Cert.FrontSpec Cert.FrontReal
open Cert.FrontRef (hE hU hP hYa cnt_at hU_at hP_at E_at hYa_at xs gs ws colG_col colD_col)
open Cert.Kernel3Ideal.Front (col colG colD col_eq)
open Cert.Reference4Ideal Cert.Reference4Ideal.Gen

/-- The running sums of the extended rows, after one zero. -/
def hCS (E : FVec Ideal S2x8207x512 .f32) : FVec Ideal S2x8208x512 .f32 :=
  pad S2x8208x512 ![0, 1, 0] ![0, 0, 0] ![0, 0, 0] (Host.reduceWindowAdd ![1, 8207, 1] ![1, 1, 1] ![0, 8206, 0] ![0, 0, 0] E (broadcastInDim S_ ![] bcast_S_S_ (constant S_ .f32 0x00000000#32)) reduceWindows_S2x8207x512_S2x8207x512_w1s1p0_0_w8207s1p8206_0_w1s1p0_0 h_S_) (sitofp .f32 (constantI S_ 32 0#32)) pads_S2x8207x512_S2x8208x512_000_100_000 h_S_

/-- The pooled rows of group 0, from the running sums. -/
def hN0 (S : FVec Ideal S2x8208x512 .f32) (U : FVec Ideal S2x8192x512 .f32) : FVec Ideal S2x8192x1x128 .f32 :=
  (broadcastInDim S2x8192x1x128 ![0, 1, 3] bcast_S2x8192x128_S2x8192x1x128_0_1_3 (subf (Host.divf (subf (extractStridedSlice (α := Elt Ideal .f32) S2x8192x128 ![0, 16, 0] S slices_S2x8208x512_S2x8192x128_0_16_0) (extractStridedSlice (α := Elt Ideal .f32) S2x8192x128 ![0, 14, 0] S slices_S2x8208x512_S2x8192x128_0_14_0)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 2#32))))))) (extractStridedSlice (α := Elt Ideal .f32) S2x8192x128 ![0, 0, 0] U slices_S2x8192x512_S2x8192x128_0_0_0)))

/-- The pooled rows of group 1, from the running sums. -/
def hN1 (S : FVec Ideal S2x8208x512 .f32) (U : FVec Ideal S2x8192x512 .f32) : FVec Ideal S2x8192x1x128 .f32 :=
  (broadcastInDim S2x8192x1x128 ![0, 1, 3] bcast_S2x8192x128_S2x8192x1x128_0_1_3 (subf (Host.divf (subf (extractStridedSlice (α := Elt Ideal .f32) S2x8192x128 ![0, 16, 128] S slices_S2x8208x512_S2x8192x128_0_16_128) (extractStridedSlice (α := Elt Ideal .f32) S2x8192x128 ![0, 12, 128] S slices_S2x8208x512_S2x8192x128_0_12_128)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 4#32))))))) (extractStridedSlice (α := Elt Ideal .f32) S2x8192x128 ![0, 0, 128] U slices_S2x8192x512_S2x8192x128_0_0_128)))

/-- The pooled rows of group 2, from the running sums. -/
def hN2 (S : FVec Ideal S2x8208x512 .f32) (U : FVec Ideal S2x8192x512 .f32) : FVec Ideal S2x8192x1x128 .f32 :=
  (broadcastInDim S2x8192x1x128 ![0, 1, 3] bcast_S2x8192x128_S2x8192x1x128_0_1_3 (subf (Host.divf (subf (extractStridedSlice (α := Elt Ideal .f32) S2x8192x128 ![0, 16, 256] S slices_S2x8208x512_S2x8192x128_0_16_256) (extractStridedSlice (α := Elt Ideal .f32) S2x8192x128 ![0, 8, 256] S slices_S2x8208x512_S2x8192x128_0_8_256)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 8#32))))))) (extractStridedSlice (α := Elt Ideal .f32) S2x8192x128 ![0, 0, 256] U slices_S2x8192x512_S2x8192x128_0_0_256)))

/-- The pooled rows of group 3, from the running sums. -/
def hN3 (S : FVec Ideal S2x8208x512 .f32) (U : FVec Ideal S2x8192x512 .f32) : FVec Ideal S2x8192x1x128 .f32 :=
  (broadcastInDim S2x8192x1x128 ![0, 1, 3] bcast_S2x8192x128_S2x8192x1x128_0_1_3 (subf (Host.divf (subf (extractStridedSlice (α := Elt Ideal .f32) S2x8192x128 ![0, 16, 384] S slices_S2x8208x512_S2x8192x128_0_16_384) (extractStridedSlice (α := Elt Ideal .f32) S2x8192x128 ![0, 0, 384] S slices_S2x8208x512_S2x8192x128_0_0_384)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 16#32))))))) (extractStridedSlice (α := Elt Ideal .f32) S2x8192x128 ![0, 0, 384] U slices_S2x8192x512_S2x8192x128_0_0_384)))

/-- The pooled rows, group by group. -/
def hN (S : FVec Ideal S2x8208x512 .f32) (U : FVec Ideal S2x8192x512 .f32) : FVec Ideal S2x8192x4x128 .f32 :=
  (concatenate S2x8192x4x128 2 [⟨S2x8192x1x128, (hN0 S U : (⟨S2x8192x1x128, .f32⟩ : BufTy).Contents (Elt Ideal))⟩, ⟨S2x8192x1x128, (hN1 S U : (⟨S2x8192x1x128, .f32⟩ : BufTy).Contents (Elt Ideal))⟩, ⟨S2x8192x1x128, (hN2 S U : (⟨S2x8192x1x128, .f32⟩ : BufTy).Contents (Elt Ideal))⟩, ⟨S2x8192x1x128, (hN3 S U : (⟨S2x8192x1x128, .f32⟩ : BufTy).Contents (Elt Ideal))⟩] concatenates_S2x8192x1x128_S2x8192x1x128_S2x8192x1x128_S2x8192x1x128_S2x8192x4x128_d2 : (⟨S2x8192x4x128, .f32⟩ : BufTy).Contents (Elt Ideal))

/-- A running sum at place `n` is the sum of the `n` rows before it. -/
theorem hCS_at (E : FVec Ideal S2x8207x512 .f32) (z : ℕ → EReal) (b : Fin 2) (e : Fin 512)
    (hz : ∀ i : Fin 8207, E (ix3 b i e) = z i.val) (n : Fin 8208) :
    hCS E (ix3 b n e) = ∑ i ∈ Finset.range n.val, z i := by
  have hc := fun n : Fin 8207 => cumsum_at (A := 2) (L1 := 8206) (C := 512) E z b e hz 0 rfl reduceWindows_S2x8207x512_S2x8207x512_w1s1p0_0_w8207s1p8206_0_w1s1p0_0 n
  have hw : Host.reduceWindowAdd ![1, 8207, 1] ![1, 1, 1] ![0, 8206, 0] ![0, 0, 0] E (broadcastInDim S_ ![] bcast_S_S_ (constant S_ .f32 0x00000000#32)) reduceWindows_S2x8207x512_S2x8207x512_w1s1p0_0_w8207s1p8206_0_w1s1p0_0 h_S_
      = Ideal.hostReduceWindowAdd (s := S2x8207x512) ![1, 8207, 1] ![1, 1, 1] ![0, 8206, 0] ![0, 0, 0] reduceWindows_S2x8207x512_S2x8207x512_w1s1p0_0_w8207s1p8206_0_w1s1p0_0 E 0 := by
    refine Eq.trans ?_ (congrArg (Ideal.hostReduceWindowAdd (s := S2x8207x512) ![1, 8207, 1] ![1, 1, 1] ![0, 8206, 0] ![0, 0, 0] reduceWindows_S2x8207x512_S2x8207x512_w1s1p0_0_w8207s1p8206_0_w1s1p0_0 E) Ideal.ofBits_zero_f32)
    unfold Host.reduceWindowAdd
    exact Ideal.hostReduceWindowAdd_def _ _ _ _ _ _ _ _
  unfold hCS
  rw [hw]
  generalize Ideal.hostReduceWindowAdd (s := S2x8207x512) ![1, 8207, 1] ![1, 1, 1] ![0, 8206, 0] ![0, 0, 0] reduceWindows_S2x8207x512_S2x8207x512_w1s1p0_0_w8207s1p8206_0_w1s1p0_0 E 0 = R at hc
  rcases n with ⟨n, hn⟩
  cases n with
  | zero =>
    pointwise
    show ((((0#32 : BitVec 32).toInt : ℝ)) : EReal) = 0
    simp
  | succ n =>
    refine Eq.trans ?_ (hc ⟨n, by omega⟩)
    pointwise
    exact dif_pos (show n + 1 - 1 < 8207 by omega)

theorem hN0_at (S : FVec Ideal S2x8208x512 .f32) (U : FVec Ideal S2x8192x512 .f32) (b : Fin 2) (l : Fin 8192) (z : Fin 1) (d : Fin 128) :
    hN0 S U (ix4 b l z d) = Ideal.div (S (ix3 b ⟨16 + l.val, by omega⟩ ⟨d.val, by omega⟩) - S (ix3 b ⟨14 + l.val, by omega⟩ ⟨d.val, by omega⟩)) (cntE 2#32 l.val) - U (ix3 b l ⟨d.val, by omega⟩) := by
  rw [← cnt_at 2#32 l]
  unfold hN0
  pointwise

theorem hN1_at (S : FVec Ideal S2x8208x512 .f32) (U : FVec Ideal S2x8192x512 .f32) (b : Fin 2) (l : Fin 8192) (z : Fin 1) (d : Fin 128) :
    hN1 S U (ix4 b l z d) = Ideal.div (S (ix3 b ⟨16 + l.val, by omega⟩ ⟨128 + d.val, by omega⟩) - S (ix3 b ⟨12 + l.val, by omega⟩ ⟨128 + d.val, by omega⟩)) (cntE 4#32 l.val) - U (ix3 b l ⟨128 + d.val, by omega⟩) := by
  rw [← cnt_at 4#32 l]
  unfold hN1
  pointwise

theorem hN2_at (S : FVec Ideal S2x8208x512 .f32) (U : FVec Ideal S2x8192x512 .f32) (b : Fin 2) (l : Fin 8192) (z : Fin 1) (d : Fin 128) :
    hN2 S U (ix4 b l z d) = Ideal.div (S (ix3 b ⟨16 + l.val, by omega⟩ ⟨256 + d.val, by omega⟩) - S (ix3 b ⟨8 + l.val, by omega⟩ ⟨256 + d.val, by omega⟩)) (cntE 8#32 l.val) - U (ix3 b l ⟨256 + d.val, by omega⟩) := by
  rw [← cnt_at 8#32 l]
  unfold hN2
  pointwise

theorem hN3_at (S : FVec Ideal S2x8208x512 .f32) (U : FVec Ideal S2x8192x512 .f32) (b : Fin 2) (l : Fin 8192) (z : Fin 1) (d : Fin 128) :
    hN3 S U (ix4 b l z d) = Ideal.div (S (ix3 b ⟨16 + l.val, by omega⟩ ⟨384 + d.val, by omega⟩) - S (ix3 b ⟨0 + l.val, by omega⟩ ⟨384 + d.val, by omega⟩)) (cntE 16#32 l.val) - U (ix3 b l ⟨384 + d.val, by omega⟩) := by
  rw [← cnt_at 16#32 l]
  unfold hN3
  pointwise

theorem hN_at (S : FVec Ideal S2x8208x512 .f32) (U : FVec Ideal S2x8192x512 .f32) (b : Fin 2) (l : Fin 8192) (g : Fin 4) (d : Fin 128) :
    hN S U (ix4 b l g d) = (![hN0 S U, hN1 S U, hN2 S U, hN3 S U] : Fin 4 → FVec Ideal S2x8192x1x128 .f32) g (ix4 b l 0 d) := by
  unfold hN
  generalize hN0 S U = M0
  generalize hN1 S U = M1
  generalize hN2 S U = M2
  generalize hN3 S U = M3
  fin_cases g
  · pointwise
  · pointwise
  · pointwise
  · pointwise

section Real

variable (A0 : FVec Ideal S2x8192x1024 .f32) (A1 : FVec Ideal S1x1024 .f32) (A2 : FVec Ideal S1x1024x4616 .f32)
  (h1 : ∀ i, IsR (A1 i)) (h2 : ∀ (d : Fin 1024) (e : Fin 512), IsR (A2 (ix3 0 d ⟨e.val, lt_cols e⟩)))

include h1 h2

/-- The difference of two running sums of the pool rows, a window of width `w` apart. -/
theorem CS_diff (b : Fin 2) (e : Fin 512) (n w : ℕ) (hn : n + w < 8208) :
    hCS (hE (hU (hP A0 A1 A2))) (ix3 b ⟨n + w, hn⟩ e) - hCS (hE (hU (hP A0 A1 A2))) (ix3 b ⟨n, by omega⟩ e) =
      ∑ j ∈ Finset.range w, uZ (xs A0 b) (gs A1) (ws A2) e (1 + (n + j)) := by
  rw [hCS_at _ (fun n => uZ (xs A0 b) (gs A1) (ws A2) e (1 + n)) b e (fun i => E_at A0 A1 A2 b i e),
    hCS_at _ (fun n => uZ (xs A0 b) (gs A1) (ws A2) e (1 + n)) b e (fun i => E_at A0 A1 A2 b i e)]
  exact run_diff (fun n => uZ (xs A0 b) (gs A1) (ws A2) e (1 + n)) (fun n => isR_uZ _ _ _ (fun _ => h1 _) h2 _ _) n w

theorem N_at (b : Fin 2) (l : Fin 8192) (g : Fin 4) (d : Fin 128) :
    hN (hCS (hE (hU (hP A0 A1 A2)))) (hU (hP A0 A1 A2)) (ix4 b l g d) = poE (xs A0 b) (gs A1) (ws A2) l g d := by
  have hd := CS_diff A0 A1 A2 h1 h2 b
  rw [hN_at]
  unfold poE
  match g with
  | ⟨0, _⟩ =>
    have hc : col ⟨0, by decide⟩ d = ⟨d.val, by omega⟩ := Fin.ext (by simp [col])
    refine (hN0_at _ _ _ _ _ _).trans ?_
    rw [hU_at, hP_at]
    simp only [hc]
    refine congrArg₂ (· - ·) (congrArg₂ Ideal.div (Eq.trans ?_ (win2_sum _ _).symm) rfl) rfl
    refine (congrArg (· - _) (congrArg _ (congrArg₂ (ix3 b) (Fin.ext (show 16 + l.val = 14 + l.val + 2 by omega)) rfl))).trans ((hd ⟨d.val, by omega⟩ (14 + l.val) 2 (by omega)).trans ?_)
    simp only [Finset.sum_range_succ, Finset.sum_range_zero, zero_add, add_zero]
    repeat' (first | exact congrArg (uZ _ _ _ _) (by omega) | refine congrArg₂ (· + ·) ?_ ?_)
  | ⟨1, _⟩ =>
    have hc : col ⟨1, by decide⟩ d = ⟨128 + d.val, by omega⟩ := Fin.ext (by simp [col])
    refine (hN1_at _ _ _ _ _ _).trans ?_
    rw [hU_at, hP_at]
    simp only [hc]
    refine congrArg₂ (· - ·) (congrArg₂ Ideal.div (Eq.trans ?_ (win4_sum _ _).symm) rfl) rfl
    refine (congrArg (· - _) (congrArg _ (congrArg₂ (ix3 b) (Fin.ext (show 16 + l.val = 12 + l.val + 4 by omega)) rfl))).trans ((hd ⟨128 + d.val, by omega⟩ (12 + l.val) 4 (by omega)).trans ?_)
    simp only [Finset.sum_range_succ, Finset.sum_range_zero, zero_add, add_zero]
    repeat' (first | exact congrArg (uZ _ _ _ _) (by omega) | refine congrArg₂ (· + ·) ?_ ?_)
  | ⟨2, _⟩ =>
    have hc : col ⟨2, by decide⟩ d = ⟨256 + d.val, by omega⟩ := Fin.ext (by simp [col])
    refine (hN2_at _ _ _ _ _ _).trans ?_
    rw [hU_at, hP_at]
    simp only [hc]
    refine congrArg₂ (· - ·) (congrArg₂ Ideal.div (Eq.trans ?_ (win8_sum _ _).symm) rfl) rfl
    refine (congrArg (· - _) (congrArg _ (congrArg₂ (ix3 b) (Fin.ext (show 16 + l.val = 8 + l.val + 8 by omega)) rfl))).trans ((hd ⟨256 + d.val, by omega⟩ (8 + l.val) 8 (by omega)).trans ?_)
    simp only [Finset.sum_range_succ, Finset.sum_range_zero, zero_add, add_zero]
    repeat' (first | exact congrArg (uZ _ _ _ _) (by omega) | refine congrArg₂ (· + ·) ?_ ?_)
  | ⟨3, _⟩ =>
    have hc : col ⟨3, by decide⟩ d = ⟨384 + d.val, by omega⟩ := Fin.ext (by simp [col])
    refine (hN3_at _ _ _ _ _ _).trans ?_
    rw [hU_at, hP_at]
    simp only [hc]
    refine congrArg₂ (· - ·) (congrArg₂ Ideal.div (Eq.trans ?_ (win16_sum _ _).symm) rfl) rfl
    refine (congrArg (· - _) (congrArg _ (congrArg₂ (ix3 b) (Fin.ext (show 16 + l.val = 0 + l.val + 16 by omega)) rfl))).trans ((hd ⟨384 + d.val, by omega⟩ (0 + l.val) 16 (by omega)).trans ?_)
    simp only [Finset.sum_range_succ, Finset.sum_range_zero, zero_add, add_zero]
    repeat' (first | exact congrArg (uZ _ _ _ _) (by omega) | refine congrArg₂ (· + ·) ?_ ?_)

theorem ya_eq (A3 : FVec Ideal S1x4x128x128 .f32) (A4 : FVec Ideal S1x512 .f32) (b : Fin 2) (l : Fin 8192) (e : Fin 512) :
    hYa (hN (hCS (hE (hU (hP A0 A1 A2)))) (hU (hP A0 A1 A2))) A3 A4 (ix3 b l e) =
      yaE (xs A0 b) (gs A1) (ws A2) (fun g k d => A3 (ix4 0 g k d)) (fun e => A4 (ix2 0 e)) l e := by
  obtain ⟨g, d, rfl⟩ : ∃ g d, e = col g d := ⟨_, _, (col_eq e).symm⟩
  rw [hYa_at]
  unfold yaE
  simp only [colG_col, colD_col, N_at A0 A1 A2 h1 h2]

end Real

end Cert.FrontRef4

end
-- ==== Proof.Front4Claim.lean ====
module

public import proofs.«01_k».proof.Defs
public import proofs.«01_k».proof.Proof.FrontClaim
public import proofs.«01_k».proof.Proof.FrontRef4
public import proofs.«01_k».proof.Proof.Gen.Reference4Ideal
public import proofs.«01_k».proof.Proof.Gen.Reference4Ideal.Run
public import proofs.«01_k».proof.Proof.Gen.Pre_finite3
public import Idealize.ShloMosaic.Lib.Quiescent
public import Idealize.ShloMosaic.Lib.ReduceAll

@[expose] public section

set_option maxRecDepth 16384

noncomputable section

open Idealize.ShloMosaic Idealize.ShloMosaic.TcCoe Idealize.SL.Sem

namespace Cert.Front4Claim

open Cert.MergeMath Cert.FrontMath Cert.FrontSpec Cert.FrontReal
open Cert.FrontRef hiding hM hM_at M_at ya_eq
open Cert.FrontRef4 (hCS hN)
open Cert.FrontClaim (kernel_run vS zS gS pS cS)

section Pre

open Cert.Pre_finite3 Cert.Pre_finite3.Gen

/-- A value whose absolute value is below infinity is a real number. -/
theorem isR_of_lt (x : EReal) (h : Ideal.cmp .olt (max x (-x)) (Ideal.ofBits FTy.f32 0x7F800000#32) = 1#1) : IsR x := by
  rw [lit_inf] at h
  have h' : max x (-x) < ⊤ := by
    by_contra hn
    simp [Ideal.cmp, hn] at h
  induction x using EReal.rec with
  | bot => simp at h'
  | coe r => exact ⟨r, rfl⟩
  | top => simp at h'

/-- The two bits of a conjunction that is one are one. -/
theorem and_one : ∀ a b : BitVec 1, a &&& b = 1#1 → a = 1#1 ∧ b = 1#1 := by decide

/-- What the precondition says of the second and the third argument. -/
theorem finite_of_pre (A0 : FVec Ideal S2x8192x1024 .f32) (A1 : FVec Ideal S1x1024 .f32) (A2 : FVec Ideal S1x1024x4616 .f32)
    (A3 : FVec Ideal S1x4x128x128 .f32) (A4 : FVec Ideal S1x512 .f32) (A5 : FVec Ideal S1x4x1536 .f32) (A6 A7 : FVec Ideal S1x4 .f32)
    (h : fn (F := Ideal) A0 A1 A2 A3 A4 A5 A6 A7 = fun _ => 1#1) : (∀ i, IsR (A1 i)) ∧ ∀ (d : Fin 1024) (e : Fin 512), IsR (A2 (ix3 0 d ⟨e.val, lt_cols e⟩)) := by
  haveI : Subsingleton S_.Idx := ⟨fun a b => funext fun i => i.elim0⟩
  have h0 := congrFun h ix0
  unfold fn at h0
  obtain ⟨h1, h2⟩ := and_one _ _ h0
  refine ⟨fun i => isR_of_lt _ (Host.reduce_andi_all _ _ _ _ _ h1 i), fun d e => ?_⟩
  have hs := isR_of_lt _ (Host.reduce_andi_all _ _ _ _ _ h2 (ix3 (0 : Fin 1) d e))
  have e2 : extractStridedSlice (α := Elt Ideal .f32) S1x1024x512 ![0, 0, 0] A2 slices_S1x1024x4616_S1x1024x512_0_0_0 (ix3 0 d e) = A2 (ix3 0 d ⟨e.val, lt_cols e⟩) := by
    pointwise
  rw [← e2]
  exact hs

end Pre

open Cert.Reference4Ideal Cert.Reference4Ideal.Gen

/-- The reference's run ends with the arguments as they were and every counter at zero. -/
theorem reference_frame : Cert.quiescent_Reference4Ideal := fun (m : (ℓ : Loc Cert.Reference4Ideal.nD Cert.Reference4Ideal.τ Cert.Reference4Ideal.sig) → Buf (Elt Ideal) ℓ)
    (g : Dev Cert.Reference4Ideal.nD → PrngReg) _ =>
  (θ_run Cert.Reference4Ideal.defs _ _).mono (fun r h => ⟨fun c => (h c).2.2.2.2.2.2.2.2.2, sem_eq_zero_of_no_sems (by decide) r.2⟩)
    (Cert.Reference4Ideal.Value.run (F := Ideal) m g)

section Results

variable (m : (ℓ : Loc Cert.Kernel3Ideal.nD Cert.Kernel3Ideal.τ Cert.Kernel3Ideal.sig) → Buf (Elt Ideal) ℓ)
  (m' : (ℓ : Loc nD τ sig) → Buf (Elt Ideal) ℓ) (c : Dev nD)

theorem res0 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e3 : m' ((c.tc : Thread nD τ).loc main_arg3) = m ((c.tc : Thread Cert.Kernel3Ideal.nD Cert.Kernel3Ideal.τ).loc Cert.Kernel3Ideal.main_arg3)) (e4 : m' ((c.tc : Thread nD τ).loc main_arg4) = m ((c.tc : Thread Cert.Kernel3Ideal.nD Cert.Kernel3Ideal.τ).loc Cert.Kernel3Ideal.main_arg4))
    (h1 : ∀ i, IsR (m' ((c.tc : Thread nD τ).loc main_arg1) i)) (h2 : ∀ (d : Fin 1024) (e : Fin 512), IsR (m' ((c.tc : Thread nD τ).loc main_arg2) (ix3 0 d ⟨e.val, lt_cols e⟩))) :
    hYa (hN (hCS (hE (hU (hP (m' ((c.tc : Thread nD τ).loc main_arg0)) (m' ((c.tc : Thread nD τ).loc main_arg1)) (m' ((c.tc : Thread nD τ).loc main_arg2)))))) (hU (hP (m' ((c.tc : Thread nD τ).loc main_arg0)) (m' ((c.tc : Thread nD τ).loc main_arg1)) (m' ((c.tc : Thread nD τ).loc main_arg2))))) (m' ((c.tc : Thread nD τ).loc main_arg3)) (m' ((c.tc : Thread nD τ).loc main_arg4)) = (Cert.Kernel3Ideal.Front.dats m 0 c).arrAt 14 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (Cert.FrontRef4.ya_eq _ _ _ h1 h2 _ _ b l e).trans (Eq.trans ?_ (Cert.Kernel3Ideal.Front.arr14_at m c b l e).symm)
  rw [e0, e1, e2, e3, e4]
  rfl

theorem res1 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e5 : m' ((c.tc : Thread nD τ).loc main_arg5) = m ((c.tc : Thread Cert.Kernel3Ideal.nD Cert.Kernel3Ideal.τ).loc Cert.Kernel3Ideal.main_arg5)) :
    hL (hQ0 (hY (hY0 (hC (hP (m' ((c.tc : Thread nD τ).loc main_arg0)) (m' ((c.tc : Thread nD τ).loc main_arg1)) (m' ((c.tc : Thread nD τ).loc main_arg2)))) (hWc (m' ((c.tc : Thread nD τ).loc main_arg5)))))) = (Cert.Kernel3Ideal.Front.dats m 0 c).arrAt 15 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (q_eq _ _ _ _ b l e).trans (Eq.trans ?_ (Cert.Kernel3Ideal.Front.arr15_at m c b l e).symm)
  rw [e0, e1, e2, e5]
  rfl

theorem res2 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e5 : m' ((c.tc : Thread nD τ).loc main_arg5) = m ((c.tc : Thread Cert.Kernel3Ideal.nD Cert.Kernel3Ideal.τ).loc Cert.Kernel3Ideal.main_arg5)) :
    hL (hK0 (hY (hY0 (hC (hP (m' ((c.tc : Thread nD τ).loc main_arg0)) (m' ((c.tc : Thread nD τ).loc main_arg1)) (m' ((c.tc : Thread nD τ).loc main_arg2)))) (hWc (m' ((c.tc : Thread nD τ).loc main_arg5)))))) = (Cert.Kernel3Ideal.Front.dats m 0 c).arrAt 16 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (k_eq _ _ _ _ b l e).trans (Eq.trans ?_ (Cert.Kernel3Ideal.Front.arr16_at m c b l e).symm)
  rw [e0, e1, e2, e5]
  rfl

theorem res3 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e5 : m' ((c.tc : Thread nD τ).loc main_arg5) = m ((c.tc : Thread Cert.Kernel3Ideal.nD Cert.Kernel3Ideal.τ).loc Cert.Kernel3Ideal.main_arg5)) :
    extractStridedSlice (α := Elt Ideal .f32) S2x8192x512 ![0, 0, 1024] (hY (hY0 (hC (hP (m' ((c.tc : Thread nD τ).loc main_arg0)) (m' ((c.tc : Thread nD τ).loc main_arg1)) (m' ((c.tc : Thread nD τ).loc main_arg2)))) (hWc (m' ((c.tc : Thread nD τ).loc main_arg5))))) slices_S2x8192x1536_S2x8192x512_0_0_1024 = (Cert.Kernel3Ideal.Front.dats m 0 c).arrAt 17 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (vS _ _ _ _ b l e).trans (Eq.trans ?_ (Cert.Kernel3Ideal.Front.arr17_at m c b l e).symm)
  rw [e0, e1, e2, e5]
  rfl

theorem res4 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x8192x512 ![0, 0, 2048] (hP (m' ((c.tc : Thread nD τ).loc main_arg0)) (m' ((c.tc : Thread nD τ).loc main_arg1)) (m' ((c.tc : Thread nD τ).loc main_arg2))) slices_S2x8192x4616_S2x8192x512_0_0_2048 = (Cert.Kernel3Ideal.Front.dats m 0 c).arrAt 18 Cert.Kernel3Ideal.cfg0.N := by
  funext q
  obtain ⟨b, l, e, rfl⟩ : ∃ (b : Fin 2) (l : Fin 8192) (e : Fin 512), q = ix3 b l e := ⟨q 0, q 1, q 2, (ix3_eta q).symm⟩
  refine (zS _ _ _ b l e).trans (Eq.trans ?_ (Cert.Kernel3Ideal.Front.arr18_at m c b l e).symm)
  rw [e0, e1, e2]
  rfl

theorem res5 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x8192x2048 ![0, 0, 2568] (hP (m' ((c.tc : Thread nD τ).loc main_arg0)) (m' ((c.tc : Thread nD τ).loc main_arg1)) (m' ((c.tc : Thread nD τ).loc main_arg2))) slices_S2x8192x4616_S2x8192x2048_0_0_2568 = (Cert.Kernel3Ideal.Front.dats m 0 c).arrAt 19 Cert.Kernel3Ideal.cfg0.N := by
  funext q
  obtain ⟨b, l, e, rfl⟩ : ∃ (b : Fin 2) (l : Fin 8192) (e : Fin 2048), q = ix3 b l e := ⟨q 0, q 1, q 2, (ix3_eta q).symm⟩
  refine (gS _ _ _ b l e).trans (Eq.trans ?_ (Cert.Kernel3Ideal.Front.arr19_at m c b l e).symm)
  rw [e0, e1, e2]
  rfl

theorem res6 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) (e6 : m' ((c.tc : Thread nD τ).loc main_arg6) = m ((c.tc : Thread Cert.Kernel3Ideal.nD Cert.Kernel3Ideal.τ).loc Cert.Kernel3Ideal.main_arg6)) (e7 : m' ((c.tc : Thread nD τ).loc main_arg7) = m ((c.tc : Thread Cert.Kernel3Ideal.nD Cert.Kernel3Ideal.τ).loc Cert.Kernel3Ideal.main_arg7)) :
    hBg (hP (m' ((c.tc : Thread nD τ).loc main_arg0)) (m' ((c.tc : Thread nD τ).loc main_arg1)) (m' ((c.tc : Thread nD τ).loc main_arg2))) (hZ (hP (m' ((c.tc : Thread nD τ).loc main_arg0)) (m' ((c.tc : Thread nD τ).loc main_arg1)) (m' ((c.tc : Thread nD τ).loc main_arg2))) (m' ((c.tc : Thread nD τ).loc main_arg7))) (hZ3 (hZ (hP (m' ((c.tc : Thread nD τ).loc main_arg0)) (m' ((c.tc : Thread nD τ).loc main_arg1)) (m' ((c.tc : Thread nD τ).loc main_arg2))) (m' ((c.tc : Thread nD τ).loc main_arg7)))) (m' ((c.tc : Thread nD τ).loc main_arg6)) = extractStridedSlice (α := Elt Ideal .f32) Cert.Kernel3Ideal.S2x8192x8 ![0, 0, 0] ((Cert.Kernel3Ideal.Front.dats m 0 c).arrAt 20 Cert.Kernel3Ideal.cfg0.N) Cert.Kernel3Ideal.Gen.slices_S2x8192x128_S2x8192x8_0_0_0 := by
  funext q
  obtain ⟨b, l, e, rfl⟩ : ∃ (b : Fin 2) (l : Fin 8192) (e : Fin 8), q = ix3 b l e := ⟨q 0, q 1, q 2, (ix3_eta q).symm⟩
  refine (bg_eq _ _ _ _ _ b l e).trans (Eq.trans ?_ ((Cert.Kernel3Ideal.Front.bg_slice _ b l e).trans (Cert.Kernel3Ideal.Front.arr20_at m c b l e)).symm)
  rw [e0, e1, e2, e6, e7]
  rfl

theorem res7 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x15x512 ![0, 8192, 0] (hE (hU (hP (m' ((c.tc : Thread nD τ).loc main_arg0)) (m' ((c.tc : Thread nD τ).loc main_arg1)) (m' ((c.tc : Thread nD τ).loc main_arg2))))) slices_S2x8207x512_S2x15x512_0_8192_0 = extractStridedSlice (α := Elt Ideal .f32) Cert.Kernel3Ideal.S2x15x512 ![0, 1, 0] ((Cert.Kernel3Ideal.Front.dats m 0 c).arrAt 21 Cert.Kernel3Ideal.cfg0.N) Cert.Kernel3Ideal.Gen.slices_S2x16x512_S2x15x512_0_1_0 := by
  funext q
  obtain ⟨b, l, e, rfl⟩ : ∃ (b : Fin 2) (l : Fin 15) (e : Fin 512), q = ix3 b l e := ⟨q 0, q 1, q 2, (ix3_eta q).symm⟩
  refine (pS _ _ _ b l e).trans (Eq.trans ?_ ((Cert.Kernel3Ideal.Front.pool_slice _ b l e).trans (Cert.Kernel3Ideal.Front.arr21_at m c b ⟨1 + l.val, by omega⟩ e)).symm)
  rw [e0, e1, e2]
  rfl

theorem res8 (e0 : m' ((c.tc : Thread nD τ).loc main_arg0) = m ((c.tc : Thread Cert.Kernel3Ideal.nD Cert.Kernel3Ideal.τ).loc Cert.Kernel3Ideal.main_arg0)) (e1 : m' ((c.tc : Thread nD τ).loc main_arg1) = m ((c.tc : Thread Cert.Kernel3Ideal.nD Cert.Kernel3Ideal.τ).loc Cert.Kernel3Ideal.main_arg1)) (e2 : m' ((c.tc : Thread nD τ).loc main_arg2) = m ((c.tc : Thread Cert.Kernel3Ideal.nD Cert.Kernel3Ideal.τ).loc Cert.Kernel3Ideal.main_arg2)) :
    extractStridedSlice (α := Elt Ideal .f32) S2x3x1536 ![0, 8192, 0] (hC (hP (m' ((c.tc : Thread nD τ).loc main_arg0)) (m' ((c.tc : Thread nD τ).loc main_arg1)) (m' ((c.tc : Thread nD τ).loc main_arg2)))) slices_S2x8195x1536_S2x3x1536_0_8192_0 = extractStridedSlice (α := Elt Ideal .f32) Cert.Kernel3Ideal.S2x3x1536 ![0, 5, 0] ((Cert.Kernel3Ideal.Front.dats m 0 c).arrAt 22 Cert.Kernel3Ideal.cfg0.N) Cert.Kernel3Ideal.Gen.slices_S2x8x1536_S2x3x1536_0_5_0 := by
  funext q
  obtain ⟨b, l, e, rfl⟩ : ∃ (b : Fin 2) (l : Fin 3) (e : Fin 1536), q = ix3 b l e := ⟨q 0, q 1, q 2, (ix3_eta q).symm⟩
  refine (cS _ _ _ b l e).trans (Eq.trans ?_ ((Cert.Kernel3Ideal.Front.conv_slice _ b l e).trans (Cert.Kernel3Ideal.Front.arr22_at m c b ⟨5 + l.val, by omega⟩ e)).symm)
  rw [e0, e1, e2]
  rfl

end Results

set_option maxHeartbeats 4000000 in
/-- All nine results are reached by the kernel and by the reference with the running sums, from finite weights. -/
theorem algebraic : Cert.algebraic_Kernel3Ideal_Reference4Ideal_pre_finite3 := by
  intro m g m' g' hpre hag
  refine ⟨fun c => (Cert.Kernel3Ideal.Front.dats m 0 c).arrAt 14 Cert.Kernel3Ideal.cfg0.N,
    fun c => (Cert.Kernel3Ideal.Front.dats m 0 c).arrAt 15 Cert.Kernel3Ideal.cfg0.N,
    fun c => (Cert.Kernel3Ideal.Front.dats m 0 c).arrAt 16 Cert.Kernel3Ideal.cfg0.N,
    fun c => (Cert.Kernel3Ideal.Front.dats m 0 c).arrAt 17 Cert.Kernel3Ideal.cfg0.N,
    fun c => (Cert.Kernel3Ideal.Front.dats m 0 c).arrAt 18 Cert.Kernel3Ideal.cfg0.N,
    fun c => (Cert.Kernel3Ideal.Front.dats m 0 c).arrAt 19 Cert.Kernel3Ideal.cfg0.N,
    fun c => extractStridedSlice (α := Elt Ideal .f32) Cert.Kernel3Ideal.S2x8192x8 ![0, 0, 0] ((Cert.Kernel3Ideal.Front.dats m 0 c).arrAt 20 Cert.Kernel3Ideal.cfg0.N) Cert.Kernel3Ideal.Gen.slices_S2x8192x128_S2x8192x8_0_0_0,
    fun c => extractStridedSlice (α := Elt Ideal .f32) Cert.Kernel3Ideal.S2x15x512 ![0, 1, 0] ((Cert.Kernel3Ideal.Front.dats m 0 c).arrAt 21 Cert.Kernel3Ideal.cfg0.N) Cert.Kernel3Ideal.Gen.slices_S2x16x512_S2x15x512_0_1_0,
    fun c => extractStridedSlice (α := Elt Ideal .f32) Cert.Kernel3Ideal.S2x3x1536 ![0, 5, 0] ((Cert.Kernel3Ideal.Front.dats m 0 c).arrAt 22 Cert.Kernel3Ideal.cfg0.N) Cert.Kernel3Ideal.Gen.slices_S2x8x1536_S2x3x1536_0_5_0,
    kernel_run m g, ?_⟩
  refine (θ_run Cert.Reference4Ideal.defs _ _).mono (fun r h c => ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_,
    (h c).2.2.2.2.2.2.2.2.1.trans ?_,
    (h c).2.2.2.2.2.2.2.2.2⟩) (Cert.Reference4Ideal.Value.run (F := Ideal) m' g')
  · obtain ⟨e0, e1, e2, e3, e4, e5, e6, e7⟩ := hag c
    obtain ⟨h1, h2⟩ := finite_of_pre _ _ _ _ _ _ _ _ (hpre c)
    exact res0 m m' c e0 e1 e2 e3 e4 (fun i => by rw [e1]; exact h1 i) (fun d e => by rw [e2]; exact h2 d e)
  · obtain ⟨e0, e1, e2, e3, e4, e5, e6, e7⟩ := hag c
    exact res1 m m' c e0 e1 e2 e5
  · obtain ⟨e0, e1, e2, e3, e4, e5, e6, e7⟩ := hag c
    exact res2 m m' c e0 e1 e2 e5
  · obtain ⟨e0, e1, e2, e3, e4, e5, e6, e7⟩ := hag c
    exact res3 m m' c e0 e1 e2 e5
  · obtain ⟨e0, e1, e2, e3, e4, e5, e6, e7⟩ := hag c
    exact res4 m m' c e0 e1 e2
  · obtain ⟨e0, e1, e2, e3, e4, e5, e6, e7⟩ := hag c
    exact res5 m m' c e0 e1 e2
  · obtain ⟨e0, e1, e2, e3, e4, e5, e6, e7⟩ := hag c
    exact res6 m m' c e0 e1 e2 e6 e7
  · obtain ⟨e0, e1, e2, e3, e4, e5, e6, e7⟩ := hag c
    exact res7 m m' c e0 e1 e2
  · obtain ⟨e0, e1, e2, e3, e4, e5, e6, e7⟩ := hag c
    exact res8 m m' c e0 e1 e2

end Cert.Front4Claim

end
-- ==== Proof.lean ====
module

public import proofs.«01_k».proof.Defs
public import proofs.«01_k».proof.Proof.ScanClaim
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.MergeClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.FrontClaim
public import proofs.«01_k».proof.Proof.Front4Claim
public import proofs.«01_k».proof.Proof.FrontFrameK
public import proofs.«01_k».proof.Proof.Gen.Kernel3
public import proofs.«01_k».proof.Proof.Gen.Kernel3.Frame.Runs
public import proofs.«01_k».proof.Proof.Gen.Kernel3Ideal
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Pre_finite3
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Reference4Ideal.Gen.facts, Cert.Pre_finite3.Gen.facts,
  fun m ρ _ => Cert.Kernel.Gen.frame m ρ, fun m ρ _ => Cert.KernelIdeal.Gen.frame m ρ, fun m ρ h => Cert.ScanClaim.reference_frame m ρ h,
  fun m ρ _ => Cert.Kernel2.Gen.frame m ρ, fun m ρ _ => Cert.Kernel2Ideal.Gen.frame m ρ, fun m ρ h => Cert.MergeClaim.reference_frame m ρ h,
  fun m ρ _ => Cert.Kernel3.Front.frame m ρ, fun m ρ _ => Cert.Kernel3Ideal.Front.frame m ρ, fun m ρ _ => Cert.Kernel3Ideal.Front.frame m ρ, fun m ρ h => Cert.FrontClaim.reference_frame m ρ h,
  fun m ρ h => Cert.Front4Claim.reference_frame m ρ h, fun m ρ _ => Cert.Front4Claim.reference_frame m ρ trivial,
  trivial, Cert.ScanClaim.algebraic, trivial, Cert.MergeClaim.algebraic, trivial, Cert.FrontClaim.algebraic, Cert.Front4Claim.algebraic⟩

end Cert.Proof

end
